-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontReferenceIdeal (m : (ℓ : Loc Cert.FrontReferenceIdeal.nD Cert.FrontReferenceIdeal.τ Cert.FrontReferenceIdeal.sig) → Buf (Elt Ideal) ℓ) : Prop :=
  True

def Pre_ProjMl (m : (ℓ : Loc Cert.ProjMl.nD Cert.ProjMl.τ Cert.ProjMl.sig) → Buf (Elt Bits) ℓ) : Prop :=
  True

def Pre_ProjMlIdeal (m : (ℓ : Loc Cert.ProjMlIdeal.nD Cert.ProjMlIdeal.τ Cert.ProjMlIdeal.sig) → Buf (Elt Ideal) ℓ) : Prop :=
  True

def Pre_ProjMlReferenceIdeal (m : (ℓ : Loc Cert.ProjMlReferenceIdeal.nD Cert.ProjMlReferenceIdeal.τ Cert.ProjMlReferenceIdeal.sig) → Buf (Elt Ideal) ℓ) : Prop :=
  True

def Pre_ProjGdLat (m : (ℓ : Loc Cert.ProjGdLat.nD Cert.ProjGdLat.τ Cert.ProjGdLat.sig) → Buf (Elt Bits) ℓ) : Prop :=
  True

def Pre_ProjGdLatIdeal (m : (ℓ : Loc Cert.ProjGdLatIdeal.nD Cert.ProjGdLatIdeal.τ Cert.ProjGdLatIdeal.sig) → Buf (Elt Ideal) ℓ) : Prop :=
  True

def Pre_ProjGdLatReferenceIdeal (m : (ℓ : Loc Cert.ProjGdLatReferenceIdeal.nD Cert.ProjGdLatReferenceIdeal.τ Cert.ProjGdLatReferenceIdeal.sig) → Buf (Elt Ideal) ℓ) : Prop :=
  True

def Pre_ProjGdCtx (m : (ℓ : Loc Cert.ProjGdCtx.nD Cert.ProjGdCtx.τ Cert.ProjGdCtx.sig) → Buf (Elt Bits) ℓ) : Prop :=
  True

def Pre_ProjGdCtxIdeal (m : (ℓ : Loc Cert.ProjGdCtxIdeal.nD Cert.ProjGdCtxIdeal.τ Cert.ProjGdCtxIdeal.sig) → Buf (Elt Ideal) ℓ) : Prop :=
  True

def Pre_ProjGdCtxReferenceIdeal (m : (ℓ : Loc Cert.ProjGdCtxReferenceIdeal.nD Cert.ProjGdCtxReferenceIdeal.τ Cert.ProjGdCtxReferenceIdeal.sig) → Buf (Elt Ideal) ℓ) : Prop :=
  True

def Pre_MixGd (m : (ℓ : Loc Cert.MixGd.nD Cert.MixGd.τ Cert.MixGd.sig) → Buf (Elt Bits) ℓ) : Prop :=
  True

def Pre_MixGdIdeal (m : (ℓ : Loc Cert.MixGdIdeal.nD Cert.MixGdIdeal.τ Cert.MixGdIdeal.sig) → Buf (Elt Ideal) ℓ) : Prop :=
  True

def Pre_MixGdReferenceIdeal (m : (ℓ : Loc Cert.MixGdReferenceIdeal.nD Cert.MixGdReferenceIdeal.τ Cert.MixGdReferenceIdeal.sig) → Buf (Elt Ideal) ℓ) : Prop :=
  True

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackReferenceIdeal (m : (ℓ : Loc Cert.BackReferenceIdeal.nD Cert.BackReferenceIdeal.τ Cert.BackReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_routed [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6)
      ∧ r.2.mem ((c.tc : Thread Cert.Front.nD Cert.Front.τ).loc Cert.Front.main_arg7) = m ((c.tc : Thread Cert.Front.nD Cert.Front.τ).loc Cert.Front.main_arg7))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7))
      ∧ r.2.sem = fun _ => 0)

def quiescent_FrontReferenceIdeal [hFrontReferenceIdeal : Cert.FrontReferenceIdeal.Facts] : Prop :=
  ∀ (m : (ℓ : Loc Cert.FrontReferenceIdeal.nD Cert.FrontReferenceIdeal.τ Cert.FrontReferenceIdeal.sig) → Buf (Elt Ideal) ℓ) (g : Dev Cert.FrontReferenceIdeal.nD → PrngReg), Pre_FrontReferenceIdeal m →
    θ_run (Cert.FrontReferenceIdeal.defs (F := Ideal)) (onTc (τ := Cert.FrontReferenceIdeal.τ) (Cert.FrontReferenceIdeal.main (F := Ideal))) ⟨m, fun _ => 0, g⟩ (fun r => (∀ c : Dev Cert.FrontReferenceIdeal.nD,
      r.2.mem ((c.tc : Thread Cert.FrontReferenceIdeal.nD Cert.FrontReferenceIdeal.τ).loc Cert.FrontReferenceIdeal.main_arg0) = m ((c.tc : Thread Cert.FrontReferenceIdeal.nD Cert.FrontReferenceIdeal.τ).loc Cert.FrontReferenceIdeal.main_arg0)
      ∧ r.2.mem ((c.tc : Thread Cert.FrontReferenceIdeal.nD Cert.FrontReferenceIdeal.τ).loc Cert.FrontReferenceIdeal.main_arg1) = m ((c.tc : Thread Cert.FrontReferenceIdeal.nD Cert.FrontReferenceIdeal.τ).loc Cert.FrontReferenceIdeal.main_arg1)
      ∧ r.2.mem ((c.tc : Thread Cert.FrontReferenceIdeal.nD Cert.FrontReferenceIdeal.τ).loc Cert.FrontReferenceIdeal.main_arg2) = m ((c.tc : Thread Cert.FrontReferenceIdeal.nD Cert.FrontReferenceIdeal.τ).loc Cert.FrontReferenceIdeal.main_arg2)
      ∧ r.2.mem ((c.tc : Thread Cert.FrontReferenceIdeal.nD Cert.FrontReferenceIdeal.τ).loc Cert.FrontReferenceIdeal.main_arg3) = m ((c.tc : Thread Cert.FrontReferenceIdeal.nD Cert.FrontReferenceIdeal.τ).loc Cert.FrontReferenceIdeal.main_arg3)
      ∧ r.2.mem ((c.tc : Thread Cert.FrontReferenceIdeal.nD Cert.FrontReferenceIdeal.τ).loc Cert.FrontReferenceIdeal.main_arg4) = m ((c.tc : Thread Cert.FrontReferenceIdeal.nD Cert.FrontReferenceIdeal.τ).loc Cert.FrontReferenceIdeal.main_arg4)
      ∧ r.2.mem ((c.tc : Thread Cert.FrontReferenceIdeal.nD Cert.FrontReferenceIdeal.τ).loc Cert.FrontReferenceIdeal.main_arg5) = m ((c.tc : Thread Cert.FrontReferenceIdeal.nD Cert.FrontReferenceIdeal.τ).loc Cert.FrontReferenceIdeal.main_arg5)
      ∧ r.2.mem ((c.tc : Thread Cert.FrontReferenceIdeal.nD Cert.FrontReferenceIdeal.τ).loc Cert.FrontReferenceIdeal.main_arg6) = m ((c.tc : Thread Cert.FrontReferenceIdeal.nD Cert.FrontReferenceIdeal.τ).loc Cert.FrontReferenceIdeal.main_arg6)
      ∧ r.2.mem ((c.tc : Thread Cert.FrontReferenceIdeal.nD Cert.FrontReferenceIdeal.τ).loc Cert.FrontReferenceIdeal.main_arg7) = m ((c.tc : Thread Cert.FrontReferenceIdeal.nD Cert.FrontReferenceIdeal.τ).loc Cert.FrontReferenceIdeal.main_arg7))
      ∧ r.2.sem = fun _ => 0)

def quiescent_ProjMl [hProjMl : Cert.ProjMl.Facts] : Prop :=
  ∀ (m : (ℓ : Loc Cert.ProjMl.nD Cert.ProjMl.τ Cert.ProjMl.sig) → Buf (Elt Bits) ℓ) (g : Dev Cert.ProjMl.nD → PrngReg), Pre_ProjMl m →
    θ_run (Cert.ProjMl.defs (F := Bits)) (onTc (τ := Cert.ProjMl.τ) (Cert.ProjMl.main (F := Bits))) ⟨m, fun _ => 0, g⟩ (fun r => (∀ c : Dev Cert.ProjMl.nD,
      r.2.mem ((c.tc : Thread Cert.ProjMl.nD Cert.ProjMl.τ).loc Cert.ProjMl.main_arg0) = m ((c.tc : Thread Cert.ProjMl.nD Cert.ProjMl.τ).loc Cert.ProjMl.main_arg0)
      ∧ r.2.mem ((c.tc : Thread Cert.ProjMl.nD Cert.ProjMl.τ).loc Cert.ProjMl.main_arg1) = m ((c.tc : Thread Cert.ProjMl.nD Cert.ProjMl.τ).loc Cert.ProjMl.main_arg1))
      ∧ r.2.sem = fun _ => 0)

def quiescent_ProjMlIdeal [hProjMlIdeal : Cert.ProjMlIdeal.Facts] : Prop :=
  ∀ (m : (ℓ : Loc Cert.ProjMlIdeal.nD Cert.ProjMlIdeal.τ Cert.ProjMlIdeal.sig) → Buf (Elt Ideal) ℓ) (g : Dev Cert.ProjMlIdeal.nD → PrngReg), Pre_ProjMlIdeal m →
    θ_run (Cert.ProjMlIdeal.defs (F := Ideal)) (onTc (τ := Cert.ProjMlIdeal.τ) (Cert.ProjMlIdeal.main (F := Ideal))) ⟨m, fun _ => 0, g⟩ (fun r => (∀ c : Dev Cert.ProjMlIdeal.nD,
      r.2.mem ((c.tc : Thread Cert.ProjMlIdeal.nD Cert.ProjMlIdeal.τ).loc Cert.ProjMlIdeal.main_arg0) = m ((c.tc : Thread Cert.ProjMlIdeal.nD Cert.ProjMlIdeal.τ).loc Cert.ProjMlIdeal.main_arg0)
      ∧ r.2.mem ((c.tc : Thread Cert.ProjMlIdeal.nD Cert.ProjMlIdeal.τ).loc Cert.ProjMlIdeal.main_arg1) = m ((c.tc : Thread Cert.ProjMlIdeal.nD Cert.ProjMlIdeal.τ).loc Cert.ProjMlIdeal.main_arg1))
      ∧ r.2.sem = fun _ => 0)

def quiescent_ProjMlReferenceIdeal [hProjMlReferenceIdeal : Cert.ProjMlReferenceIdeal.Facts] : Prop :=
  ∀ (m : (ℓ : Loc Cert.ProjMlReferenceIdeal.nD Cert.ProjMlReferenceIdeal.τ Cert.ProjMlReferenceIdeal.sig) → Buf (Elt Ideal) ℓ) (g : Dev Cert.ProjMlReferenceIdeal.nD → PrngReg), Pre_ProjMlReferenceIdeal m →
    θ_run (Cert.ProjMlReferenceIdeal.defs (F := Ideal)) (onTc (τ := Cert.ProjMlReferenceIdeal.τ) (Cert.ProjMlReferenceIdeal.main (F := Ideal))) ⟨m, fun _ => 0, g⟩ (fun r => (∀ c : Dev Cert.ProjMlReferenceIdeal.nD,
      r.2.mem ((c.tc : Thread Cert.ProjMlReferenceIdeal.nD Cert.ProjMlReferenceIdeal.τ).loc Cert.ProjMlReferenceIdeal.main_arg0) = m ((c.tc : Thread Cert.ProjMlReferenceIdeal.nD Cert.ProjMlReferenceIdeal.τ).loc Cert.ProjMlReferenceIdeal.main_arg0)
      ∧ r.2.mem ((c.tc : Thread Cert.ProjMlReferenceIdeal.nD Cert.ProjMlReferenceIdeal.τ).loc Cert.ProjMlReferenceIdeal.main_arg1) = m ((c.tc : Thread Cert.ProjMlReferenceIdeal.nD Cert.ProjMlReferenceIdeal.τ).loc Cert.ProjMlReferenceIdeal.main_arg1))
      ∧ r.2.sem = fun _ => 0)

def quiescent_ProjGdLat [hProjGdLat : Cert.ProjGdLat.Facts] : Prop :=
  ∀ (m : (ℓ : Loc Cert.ProjGdLat.nD Cert.ProjGdLat.τ Cert.ProjGdLat.sig) → Buf (Elt Bits) ℓ) (g : Dev Cert.ProjGdLat.nD → PrngReg), Pre_ProjGdLat m →
    θ_run (Cert.ProjGdLat.defs (F := Bits)) (onTc (τ := Cert.ProjGdLat.τ) (Cert.ProjGdLat.main (F := Bits))) ⟨m, fun _ => 0, g⟩ (fun r => (∀ c : Dev Cert.ProjGdLat.nD,
      r.2.mem ((c.tc : Thread Cert.ProjGdLat.nD Cert.ProjGdLat.τ).loc Cert.ProjGdLat.main_arg0) = m ((c.tc : Thread Cert.ProjGdLat.nD Cert.ProjGdLat.τ).loc Cert.ProjGdLat.main_arg0)
      ∧ r.2.mem ((c.tc : Thread Cert.ProjGdLat.nD Cert.ProjGdLat.τ).loc Cert.ProjGdLat.main_arg1) = m ((c.tc : Thread Cert.ProjGdLat.nD Cert.ProjGdLat.τ).loc Cert.ProjGdLat.main_arg1))
      ∧ r.2.sem = fun _ => 0)

def quiescent_ProjGdLatIdeal [hProjGdLatIdeal : Cert.ProjGdLatIdeal.Facts] : Prop :=
  ∀ (m : (ℓ : Loc Cert.ProjGdLatIdeal.nD Cert.ProjGdLatIdeal.τ Cert.ProjGdLatIdeal.sig) → Buf (Elt Ideal) ℓ) (g : Dev Cert.ProjGdLatIdeal.nD → PrngReg), Pre_ProjGdLatIdeal m →
    θ_run (Cert.ProjGdLatIdeal.defs (F := Ideal)) (onTc (τ := Cert.ProjGdLatIdeal.τ) (Cert.ProjGdLatIdeal.main (F := Ideal))) ⟨m, fun _ => 0, g⟩ (fun r => (∀ c : Dev Cert.ProjGdLatIdeal.nD,
      r.2.mem ((c.tc : Thread Cert.ProjGdLatIdeal.nD Cert.ProjGdLatIdeal.τ).loc Cert.ProjGdLatIdeal.main_arg0) = m ((c.tc : Thread Cert.ProjGdLatIdeal.nD Cert.ProjGdLatIdeal.τ).loc Cert.ProjGdLatIdeal.main_arg0)
      ∧ r.2.mem ((c.tc : Thread Cert.ProjGdLatIdeal.nD Cert.ProjGdLatIdeal.τ).loc Cert.ProjGdLatIdeal.main_arg1) = m ((c.tc : Thread Cert.ProjGdLatIdeal.nD Cert.ProjGdLatIdeal.τ).loc Cert.ProjGdLatIdeal.main_arg1))
      ∧ r.2.sem = fun _ => 0)

def quiescent_ProjGdLatReferenceIdeal [hProjGdLatReferenceIdeal : Cert.ProjGdLatReferenceIdeal.Facts] : Prop :=
  ∀ (m : (ℓ : Loc Cert.ProjGdLatReferenceIdeal.nD Cert.ProjGdLatReferenceIdeal.τ Cert.ProjGdLatReferenceIdeal.sig) → Buf (Elt Ideal) ℓ) (g : Dev Cert.ProjGdLatReferenceIdeal.nD → PrngReg), Pre_ProjGdLatReferenceIdeal m →
    θ_run (Cert.ProjGdLatReferenceIdeal.defs (F := Ideal)) (onTc (τ := Cert.ProjGdLatReferenceIdeal.τ) (Cert.ProjGdLatReferenceIdeal.main (F := Ideal))) ⟨m, fun _ => 0, g⟩ (fun r => (∀ c : Dev Cert.ProjGdLatReferenceIdeal.nD,
      r.2.mem ((c.tc : Thread Cert.ProjGdLatReferenceIdeal.nD Cert.ProjGdLatReferenceIdeal.τ).loc Cert.ProjGdLatReferenceIdeal.main_arg0) = m ((c.tc : Thread Cert.ProjGdLatReferenceIdeal.nD Cert.ProjGdLatReferenceIdeal.τ).loc Cert.ProjGdLatReferenceIdeal.main_arg0)
      ∧ r.2.mem ((c.tc : Thread Cert.ProjGdLatReferenceIdeal.nD Cert.ProjGdLatReferenceIdeal.τ).loc Cert.ProjGdLatReferenceIdeal.main_arg1) = m ((c.tc : Thread Cert.ProjGdLatReferenceIdeal.nD Cert.ProjGdLatReferenceIdeal.τ).loc Cert.ProjGdLatReferenceIdeal.main_arg1))
      ∧ r.2.sem = fun _ => 0)

def quiescent_ProjGdCtx [hProjGdCtx : Cert.ProjGdCtx.Facts] : Prop :=
  ∀ (m : (ℓ : Loc Cert.ProjGdCtx.nD Cert.ProjGdCtx.τ Cert.ProjGdCtx.sig) → Buf (Elt Bits) ℓ) (g : Dev Cert.ProjGdCtx.nD → PrngReg), Pre_ProjGdCtx m →
    θ_run (Cert.ProjGdCtx.defs (F := Bits)) (onTc (τ := Cert.ProjGdCtx.τ) (Cert.ProjGdCtx.main (F := Bits))) ⟨m, fun _ => 0, g⟩ (fun r => (∀ c : Dev Cert.ProjGdCtx.nD,
      r.2.mem ((c.tc : Thread Cert.ProjGdCtx.nD Cert.ProjGdCtx.τ).loc Cert.ProjGdCtx.main_arg0) = m ((c.tc : Thread Cert.ProjGdCtx.nD Cert.ProjGdCtx.τ).loc Cert.ProjGdCtx.main_arg0)
      ∧ r.2.mem ((c.tc : Thread Cert.ProjGdCtx.nD Cert.ProjGdCtx.τ).loc Cert.ProjGdCtx.main_arg1) = m ((c.tc : Thread Cert.ProjGdCtx.nD Cert.ProjGdCtx.τ).loc Cert.ProjGdCtx.main_arg1))
      ∧ r.2.sem = fun _ => 0)

def quiescent_ProjGdCtxIdeal [hProjGdCtxIdeal : Cert.ProjGdCtxIdeal.Facts] : Prop :=
  ∀ (m : (ℓ : Loc Cert.ProjGdCtxIdeal.nD Cert.ProjGdCtxIdeal.τ Cert.ProjGdCtxIdeal.sig) → Buf (Elt Ideal) ℓ) (g : Dev Cert.ProjGdCtxIdeal.nD → PrngReg), Pre_ProjGdCtxIdeal m →
    θ_run (Cert.ProjGdCtxIdeal.defs (F := Ideal)) (onTc (τ := Cert.ProjGdCtxIdeal.τ) (Cert.ProjGdCtxIdeal.main (F := Ideal))) ⟨m, fun _ => 0, g⟩ (fun r => (∀ c : Dev Cert.ProjGdCtxIdeal.nD,
      r.2.mem ((c.tc : Thread Cert.ProjGdCtxIdeal.nD Cert.ProjGdCtxIdeal.τ).loc Cert.ProjGdCtxIdeal.main_arg0) = m ((c.tc : Thread Cert.ProjGdCtxIdeal.nD Cert.ProjGdCtxIdeal.τ).loc Cert.ProjGdCtxIdeal.main_arg0)
      ∧ r.2.mem ((c.tc : Thread Cert.ProjGdCtxIdeal.nD Cert.ProjGdCtxIdeal.τ).loc Cert.ProjGdCtxIdeal.main_arg1) = m ((c.tc : Thread Cert.ProjGdCtxIdeal.nD Cert.ProjGdCtxIdeal.τ).loc Cert.ProjGdCtxIdeal.main_arg1))
      ∧ r.2.sem = fun _ => 0)

def quiescent_ProjGdCtxReferenceIdeal [hProjGdCtxReferenceIdeal : Cert.ProjGdCtxReferenceIdeal.Facts] : Prop :=
  ∀ (m : (ℓ : Loc Cert.ProjGdCtxReferenceIdeal.nD Cert.ProjGdCtxReferenceIdeal.τ Cert.ProjGdCtxReferenceIdeal.sig) → Buf (Elt Ideal) ℓ) (g : Dev Cert.ProjGdCtxReferenceIdeal.nD → PrngReg), Pre_ProjGdCtxReferenceIdeal m →
    θ_run (Cert.ProjGdCtxReferenceIdeal.defs (F := Ideal)) (onTc (τ := Cert.ProjGdCtxReferenceIdeal.τ) (Cert.ProjGdCtxReferenceIdeal.main (F := Ideal))) ⟨m, fun _ => 0, g⟩ (fun r => (∀ c : Dev Cert.ProjGdCtxReferenceIdeal.nD,
      r.2.mem ((c.tc : Thread Cert.ProjGdCtxReferenceIdeal.nD Cert.ProjGdCtxReferenceIdeal.τ).loc Cert.ProjGdCtxReferenceIdeal.main_arg0) = m ((c.tc : Thread Cert.ProjGdCtxReferenceIdeal.nD Cert.ProjGdCtxReferenceIdeal.τ).loc Cert.ProjGdCtxReferenceIdeal.main_arg0)
      ∧ r.2.mem ((c.tc : Thread Cert.ProjGdCtxReferenceIdeal.nD Cert.ProjGdCtxReferenceIdeal.τ).loc Cert.ProjGdCtxReferenceIdeal.main_arg1) = m ((c.tc : Thread Cert.ProjGdCtxReferenceIdeal.nD Cert.ProjGdCtxReferenceIdeal.τ).loc Cert.ProjGdCtxReferenceIdeal.main_arg1))
      ∧ r.2.sem = fun _ => 0)

def quiescent_MixGd [hMixGd : Cert.MixGd.Facts] : Prop :=
  ∀ (m : (ℓ : Loc Cert.MixGd.nD Cert.MixGd.τ Cert.MixGd.sig) → Buf (Elt Bits) ℓ) (g : Dev Cert.MixGd.nD → PrngReg), Pre_MixGd m →
    θ_run (Cert.MixGd.defs (F := Bits)) (onTc (τ := Cert.MixGd.τ) (Cert.MixGd.main (F := Bits))) ⟨m, fun _ => 0, g⟩ (fun r => (∀ c : Dev Cert.MixGd.nD,
      r.2.mem ((c.tc : Thread Cert.MixGd.nD Cert.MixGd.τ).loc Cert.MixGd.main_arg0) = m ((c.tc : Thread Cert.MixGd.nD Cert.MixGd.τ).loc Cert.MixGd.main_arg0)
      ∧ r.2.mem ((c.tc : Thread Cert.MixGd.nD Cert.MixGd.τ).loc Cert.MixGd.main_arg1) = m ((c.tc : Thread Cert.MixGd.nD Cert.MixGd.τ).loc Cert.MixGd.main_arg1)
      ∧ r.2.mem ((c.tc : Thread Cert.MixGd.nD Cert.MixGd.τ).loc Cert.MixGd.main_arg2) = m ((c.tc : Thread Cert.MixGd.nD Cert.MixGd.τ).loc Cert.MixGd.main_arg2)
      ∧ r.2.mem ((c.tc : Thread Cert.MixGd.nD Cert.MixGd.τ).loc Cert.MixGd.main_arg3) = m ((c.tc : Thread Cert.MixGd.nD Cert.MixGd.τ).loc Cert.MixGd.main_arg3))
      ∧ r.2.sem = fun _ => 0)

def quiescent_MixGdIdeal [hMixGdIdeal : Cert.MixGdIdeal.Facts] : Prop :=
  ∀ (m : (ℓ : Loc Cert.MixGdIdeal.nD Cert.MixGdIdeal.τ Cert.MixGdIdeal.sig) → Buf (Elt Ideal) ℓ) (g : Dev Cert.MixGdIdeal.nD → PrngReg), Pre_MixGdIdeal m →
    θ_run (Cert.MixGdIdeal.defs (F := Ideal)) (onTc (τ := Cert.MixGdIdeal.τ) (Cert.MixGdIdeal.main (F := Ideal))) ⟨m, fun _ => 0, g⟩ (fun r => (∀ c : Dev Cert.MixGdIdeal.nD,
      r.2.mem ((c.tc : Thread Cert.MixGdIdeal.nD Cert.MixGdIdeal.τ).loc Cert.MixGdIdeal.main_arg0) = m ((c.tc : Thread Cert.MixGdIdeal.nD Cert.MixGdIdeal.τ).loc Cert.MixGdIdeal.main_arg0)
      ∧ r.2.mem ((c.tc : Thread Cert.MixGdIdeal.nD Cert.MixGdIdeal.τ).loc Cert.MixGdIdeal.main_arg1) = m ((c.tc : Thread Cert.MixGdIdeal.nD Cert.MixGdIdeal.τ).loc Cert.MixGdIdeal.main_arg1)
      ∧ r.2.mem ((c.tc : Thread Cert.MixGdIdeal.nD Cert.MixGdIdeal.τ).loc Cert.MixGdIdeal.main_arg2) = m ((c.tc : Thread Cert.MixGdIdeal.nD Cert.MixGdIdeal.τ).loc Cert.MixGdIdeal.main_arg2)
      ∧ r.2.mem ((c.tc : Thread Cert.MixGdIdeal.nD Cert.MixGdIdeal.τ).loc Cert.MixGdIdeal.main_arg3) = m ((c.tc : Thread Cert.MixGdIdeal.nD Cert.MixGdIdeal.τ).loc Cert.MixGdIdeal.main_arg3))
      ∧ r.2.sem = fun _ => 0)

def quiescent_MixGdReferenceIdeal [hMixGdReferenceIdeal : Cert.MixGdReferenceIdeal.Facts] : Prop :=
  ∀ (m : (ℓ : Loc Cert.MixGdReferenceIdeal.nD Cert.MixGdReferenceIdeal.τ Cert.MixGdReferenceIdeal.sig) → Buf (Elt Ideal) ℓ) (g : Dev Cert.MixGdReferenceIdeal.nD → PrngReg), Pre_MixGdReferenceIdeal m →
    θ_run (Cert.MixGdReferenceIdeal.defs (F := Ideal)) (onTc (τ := Cert.MixGdReferenceIdeal.τ) (Cert.MixGdReferenceIdeal.main (F := Ideal))) ⟨m, fun _ => 0, g⟩ (fun r => (∀ c : Dev Cert.MixGdReferenceIdeal.nD,
      r.2.mem ((c.tc : Thread Cert.MixGdReferenceIdeal.nD Cert.MixGdReferenceIdeal.τ).loc Cert.MixGdReferenceIdeal.main_arg0) = m ((c.tc : Thread Cert.MixGdReferenceIdeal.nD Cert.MixGdReferenceIdeal.τ).loc Cert.MixGdReferenceIdeal.main_arg0)
      ∧ r.2.mem ((c.tc : Thread Cert.MixGdReferenceIdeal.nD Cert.MixGdReferenceIdeal.τ).loc Cert.MixGdReferenceIdeal.main_arg1) = m ((c.tc : Thread Cert.MixGdReferenceIdeal.nD Cert.MixGdReferenceIdeal.τ).loc Cert.MixGdReferenceIdeal.main_arg1)
      ∧ r.2.mem ((c.tc : Thread Cert.MixGdReferenceIdeal.nD Cert.MixGdReferenceIdeal.τ).loc Cert.MixGdReferenceIdeal.main_arg2) = m ((c.tc : Thread Cert.MixGdReferenceIdeal.nD Cert.MixGdReferenceIdeal.τ).loc Cert.MixGdReferenceIdeal.main_arg2)
      ∧ r.2.mem ((c.tc : Thread Cert.MixGdReferenceIdeal.nD Cert.MixGdReferenceIdeal.τ).loc Cert.MixGdReferenceIdeal.main_arg3) = m ((c.tc : Thread Cert.MixGdReferenceIdeal.nD Cert.MixGdReferenceIdeal.τ).loc Cert.MixGdReferenceIdeal.main_arg3))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3)
      ∧ r.2.mem ((c.tc : Thread Cert.Back.nD Cert.Back.τ).loc Cert.Back.main_arg4) = m ((c.tc : Thread Cert.Back.nD Cert.Back.τ).loc Cert.Back.main_arg4)
      ∧ r.2.mem ((c.tc : Thread Cert.Back.nD Cert.Back.τ).loc Cert.Back.main_arg5) = m ((c.tc : Thread Cert.Back.nD Cert.Back.τ).loc Cert.Back.main_arg5)
      ∧ r.2.mem ((c.tc : Thread Cert.Back.nD Cert.Back.τ).loc Cert.Back.main_arg6) = m ((c.tc : Thread Cert.Back.nD Cert.Back.τ).loc Cert.Back.main_arg6)
      ∧ r.2.mem ((c.tc : Thread Cert.Back.nD Cert.Back.τ).loc Cert.Back.main_arg7) = m ((c.tc : Thread Cert.Back.nD Cert.Back.τ).loc Cert.Back.main_arg7)
      ∧ r.2.mem ((c.tc : Thread Cert.Back.nD Cert.Back.τ).loc Cert.Back.main_arg8) = m ((c.tc : Thread Cert.Back.nD Cert.Back.τ).loc Cert.Back.main_arg8)
      ∧ r.2.mem ((c.tc : Thread Cert.Back.nD Cert.Back.τ).loc Cert.Back.main_arg9) = m ((c.tc : Thread Cert.Back.nD Cert.Back.τ).loc Cert.Back.main_arg9))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
      ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
      ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
      ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
      ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
      ∧ r.2.mem ((c.tc : Thread Cert.BackIdeal.nD Cert.BackIdeal.τ).loc Cert.BackIdeal.main_arg9) = m ((c.tc : Thread Cert.BackIdeal.nD Cert.BackIdeal.τ).loc Cert.BackIdeal.main_arg9))
      ∧ r.2.sem = fun _ => 0)

def quiescent_BackReferenceIdeal [hBackReferenceIdeal : Cert.BackReferenceIdeal.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1)
      ∧ r.2.mem ((c.tc : Thread Cert.BackReferenceIdeal.nD Cert.BackReferenceIdeal.τ).loc Cert.BackReferenceIdeal.main_arg2) = m ((c.tc : Thread Cert.BackReferenceIdeal.nD Cert.BackReferenceIdeal.τ).loc Cert.BackReferenceIdeal.main_arg2)
      ∧ r.2.mem ((c.tc : Thread Cert.BackReferenceIdeal.nD Cert.BackReferenceIdeal.τ).loc Cert.BackReferenceIdeal.main_arg3) = m ((c.tc : Thread Cert.BackReferenceIdeal.nD Cert.BackReferenceIdeal.τ).loc Cert.BackReferenceIdeal.main_arg3)
      ∧ r.2.mem ((c.tc : Thread Cert.BackReferenceIdeal.nD Cert.BackReferenceIdeal.τ).loc Cert.BackReferenceIdeal.main_arg4) = m ((c.tc : Thread Cert.BackReferenceIdeal.nD Cert.BackReferenceIdeal.τ).loc Cert.BackReferenceIdeal.main_arg4)
      ∧ r.2.mem ((c.tc : Thread Cert.BackReferenceIdeal.nD Cert.BackReferenceIdeal.τ).loc Cert.BackReferenceIdeal.main_arg5) = m ((c.tc : Thread Cert.BackReferenceIdeal.nD Cert.BackReferenceIdeal.τ).loc Cert.BackReferenceIdeal.main_arg5)
      ∧ r.2.mem ((c.tc : Thread Cert.BackReferenceIdeal.nD Cert.BackReferenceIdeal.τ).loc Cert.BackReferenceIdeal.main_arg6) = m ((c.tc : Thread Cert.BackReferenceIdeal.nD Cert.BackReferenceIdeal.τ).loc Cert.BackReferenceIdeal.main_arg6)
      ∧ r.2.mem ((c.tc : Thread Cert.BackReferenceIdeal.nD Cert.BackReferenceIdeal.τ).loc Cert.BackReferenceIdeal.main_arg7) = m ((c.tc : Thread Cert.BackReferenceIdeal.nD Cert.BackReferenceIdeal.τ).loc Cert.BackReferenceIdeal.main_arg7)
      ∧ r.2.mem ((c.tc : Thread Cert.BackReferenceIdeal.nD Cert.BackReferenceIdeal.τ).loc Cert.BackReferenceIdeal.main_arg8) = m ((c.tc : Thread Cert.BackReferenceIdeal.nD Cert.BackReferenceIdeal.τ).loc Cert.BackReferenceIdeal.main_arg8)
      ∧ r.2.mem ((c.tc : Thread Cert.BackReferenceIdeal.nD Cert.BackReferenceIdeal.τ).loc Cert.BackReferenceIdeal.main_arg9) = m ((c.tc : Thread Cert.BackReferenceIdeal.nD Cert.BackReferenceIdeal.τ).loc Cert.BackReferenceIdeal.main_arg9))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3))
      ∧ r.2.sem = fun _ => 0)

def preserves_Kernel_KernelIdeal : Prop :=
  True

def algebraic_KernelIdeal_ReferenceIdeal_pre_routed [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Front_FrontIdeal : Prop :=
  True

def algebraic_FrontIdeal_FrontReferenceIdeal [hFrontIdeal : Cert.FrontIdeal.Facts] [hFrontReferenceIdeal : Cert.FrontReferenceIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontReferenceIdeal.nD Cert.FrontReferenceIdeal.τ Cert.FrontReferenceIdeal.sig) → Buf (Elt Ideal) ℓ) (g' : Dev Cert.FrontReferenceIdeal.nD → PrngReg), Pre_FrontIdeal m →
    (∀ c : Dev Cert.FrontIdeal.nD,
      m' ((c.tc : Thread Cert.FrontReferenceIdeal.nD Cert.FrontReferenceIdeal.τ).loc Cert.FrontReferenceIdeal.main_arg0) = m ((c.tc : Thread Cert.FrontIdeal.nD Cert.FrontIdeal.τ).loc Cert.FrontIdeal.main_arg0)
      ∧ m' ((c.tc : Thread Cert.FrontReferenceIdeal.nD Cert.FrontReferenceIdeal.τ).loc Cert.FrontReferenceIdeal.main_arg1) = m ((c.tc : Thread Cert.FrontIdeal.nD Cert.FrontIdeal.τ).loc Cert.FrontIdeal.main_arg1)
      ∧ m' ((c.tc : Thread Cert.FrontReferenceIdeal.nD Cert.FrontReferenceIdeal.τ).loc Cert.FrontReferenceIdeal.main_arg2) = m ((c.tc : Thread Cert.FrontIdeal.nD Cert.FrontIdeal.τ).loc Cert.FrontIdeal.main_arg2)
      ∧ m' ((c.tc : Thread Cert.FrontReferenceIdeal.nD Cert.FrontReferenceIdeal.τ).loc Cert.FrontReferenceIdeal.main_arg3) = m ((c.tc : Thread Cert.FrontIdeal.nD Cert.FrontIdeal.τ).loc Cert.FrontIdeal.main_arg3)
      ∧ m' ((c.tc : Thread Cert.FrontReferenceIdeal.nD Cert.FrontReferenceIdeal.τ).loc Cert.FrontReferenceIdeal.main_arg4) = m ((c.tc : Thread Cert.FrontIdeal.nD Cert.FrontIdeal.τ).loc Cert.FrontIdeal.main_arg4)
      ∧ m' ((c.tc : Thread Cert.FrontReferenceIdeal.nD Cert.FrontReferenceIdeal.τ).loc Cert.FrontReferenceIdeal.main_arg5) = m ((c.tc : Thread Cert.FrontIdeal.nD Cert.FrontIdeal.τ).loc Cert.FrontIdeal.main_arg5)
      ∧ m' ((c.tc : Thread Cert.FrontReferenceIdeal.nD Cert.FrontReferenceIdeal.τ).loc Cert.FrontReferenceIdeal.main_arg6) = m ((c.tc : Thread Cert.FrontIdeal.nD Cert.FrontIdeal.τ).loc Cert.FrontIdeal.main_arg6)
      ∧ m' ((c.tc : Thread Cert.FrontReferenceIdeal.nD Cert.FrontReferenceIdeal.τ).loc Cert.FrontReferenceIdeal.main_arg7) = m ((c.tc : Thread Cert.FrontIdeal.nD Cert.FrontIdeal.τ).loc Cert.FrontIdeal.main_arg7)) →
    ∃ (v0 : (c : Dev Cert.FrontIdeal.nD) → Buf (Elt Ideal) ((c.tc : Thread Cert.FrontIdeal.nD Cert.FrontIdeal.τ).loc Cert.FrontIdeal.main_v0)) (v1 : (c : Dev Cert.FrontIdeal.nD) → Buf (Elt Ideal) ((c.tc : Thread Cert.FrontIdeal.nD Cert.FrontIdeal.τ).loc Cert.FrontIdeal.main_v1)) (v2 : (c : Dev Cert.FrontIdeal.nD) → Buf (Elt Ideal) ((c.tc : Thread Cert.FrontIdeal.nD Cert.FrontIdeal.τ).loc Cert.FrontIdeal.main_v4)) (v3 : (c : Dev Cert.FrontIdeal.nD) → Buf (Elt Ideal) ((c.tc : Thread Cert.FrontIdeal.nD Cert.FrontIdeal.τ).loc Cert.FrontIdeal.main_v9)) (v4 : (c : Dev Cert.FrontIdeal.nD) → Buf (Elt Ideal) ((c.tc : Thread Cert.FrontIdeal.nD Cert.FrontIdeal.τ).loc Cert.FrontIdeal.main_v10)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v0) = v0 c
          ∧ r.2.mem ((c.tc : Thread Cert.FrontIdeal.nD Cert.FrontIdeal.τ).loc Cert.FrontIdeal.main_v1) = v1 c
          ∧ r.2.mem ((c.tc : Thread Cert.FrontIdeal.nD Cert.FrontIdeal.τ).loc Cert.FrontIdeal.main_v4) = v2 c
          ∧ r.2.mem ((c.tc : Thread Cert.FrontIdeal.nD Cert.FrontIdeal.τ).loc Cert.FrontIdeal.main_v9) = v3 c
          ∧ r.2.mem ((c.tc : Thread Cert.FrontIdeal.nD Cert.FrontIdeal.τ).loc Cert.FrontIdeal.main_v10) = v4 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
          ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7))
      ∧ θ_run (Cert.FrontReferenceIdeal.defs (F := Ideal)) (onTc (τ := Cert.FrontReferenceIdeal.τ) (Cert.FrontReferenceIdeal.main (F := Ideal))) ⟨m', fun _ => 0, g'⟩ (fun r => ∀ c : Dev Cert.FrontReferenceIdeal.nD,
          r.2.mem ((c.tc : Thread Cert.FrontReferenceIdeal.nD Cert.FrontReferenceIdeal.τ).loc Cert.FrontReferenceIdeal.main_v9) = v0 c
          ∧ r.2.mem ((c.tc : Thread Cert.FrontReferenceIdeal.nD Cert.FrontReferenceIdeal.τ).loc Cert.FrontReferenceIdeal.main_v54) = v1 c
          ∧ r.2.mem ((c.tc : Thread Cert.FrontReferenceIdeal.nD Cert.FrontReferenceIdeal.τ).loc Cert.FrontReferenceIdeal.main_v55) = v2 c
          ∧ r.2.mem ((c.tc : Thread Cert.FrontReferenceIdeal.nD Cert.FrontReferenceIdeal.τ).loc Cert.FrontReferenceIdeal.main_v60) = v3 c
          ∧ r.2.mem ((c.tc : Thread Cert.FrontReferenceIdeal.nD Cert.FrontReferenceIdeal.τ).loc Cert.FrontReferenceIdeal.main_v65) = v4 c
          ∧ r.2.mem ((c.tc : Thread Cert.FrontReferenceIdeal.nD Cert.FrontReferenceIdeal.τ).loc Cert.FrontReferenceIdeal.main_arg0) = m' ((c.tc : Thread Cert.FrontReferenceIdeal.nD Cert.FrontReferenceIdeal.τ).loc Cert.FrontReferenceIdeal.main_arg0)
          ∧ r.2.mem ((c.tc : Thread Cert.FrontReferenceIdeal.nD Cert.FrontReferenceIdeal.τ).loc Cert.FrontReferenceIdeal.main_arg1) = m' ((c.tc : Thread Cert.FrontReferenceIdeal.nD Cert.FrontReferenceIdeal.τ).loc Cert.FrontReferenceIdeal.main_arg1)
          ∧ r.2.mem ((c.tc : Thread Cert.FrontReferenceIdeal.nD Cert.FrontReferenceIdeal.τ).loc Cert.FrontReferenceIdeal.main_arg2) = m' ((c.tc : Thread Cert.FrontReferenceIdeal.nD Cert.FrontReferenceIdeal.τ).loc Cert.FrontReferenceIdeal.main_arg2)
          ∧ r.2.mem ((c.tc : Thread Cert.FrontReferenceIdeal.nD Cert.FrontReferenceIdeal.τ).loc Cert.FrontReferenceIdeal.main_arg3) = m' ((c.tc : Thread Cert.FrontReferenceIdeal.nD Cert.FrontReferenceIdeal.τ).loc Cert.FrontReferenceIdeal.main_arg3)
          ∧ r.2.mem ((c.tc : Thread Cert.FrontReferenceIdeal.nD Cert.FrontReferenceIdeal.τ).loc Cert.FrontReferenceIdeal.main_arg4) = m' ((c.tc : Thread Cert.FrontReferenceIdeal.nD Cert.FrontReferenceIdeal.τ).loc Cert.FrontReferenceIdeal.main_arg4)
          ∧ r.2.mem ((c.tc : Thread Cert.FrontReferenceIdeal.nD Cert.FrontReferenceIdeal.τ).loc Cert.FrontReferenceIdeal.main_arg5) = m' ((c.tc : Thread Cert.FrontReferenceIdeal.nD Cert.FrontReferenceIdeal.τ).loc Cert.FrontReferenceIdeal.main_arg5)
          ∧ r.2.mem ((c.tc : Thread Cert.FrontReferenceIdeal.nD Cert.FrontReferenceIdeal.τ).loc Cert.FrontReferenceIdeal.main_arg6) = m' ((c.tc : Thread Cert.FrontReferenceIdeal.nD Cert.FrontReferenceIdeal.τ).loc Cert.FrontReferenceIdeal.main_arg6)
          ∧ r.2.mem ((c.tc : Thread Cert.FrontReferenceIdeal.nD Cert.FrontReferenceIdeal.τ).loc Cert.FrontReferenceIdeal.main_arg7) = m' ((c.tc : Thread Cert.FrontReferenceIdeal.nD Cert.FrontReferenceIdeal.τ).loc Cert.FrontReferenceIdeal.main_arg7))

def preserves_ProjMl_ProjMlIdeal : Prop :=
  True

def algebraic_ProjMlIdeal_ProjMlReferenceIdeal [hProjMlIdeal : Cert.ProjMlIdeal.Facts] [hProjMlReferenceIdeal : Cert.ProjMlReferenceIdeal.Facts] : Prop :=
  ∀ (m : (ℓ : Loc Cert.ProjMlIdeal.nD Cert.ProjMlIdeal.τ Cert.ProjMlIdeal.sig) → Buf (Elt Ideal) ℓ) (g : Dev Cert.ProjMlIdeal.nD → PrngReg)
    (m' : (ℓ : Loc Cert.ProjMlReferenceIdeal.nD Cert.ProjMlReferenceIdeal.τ Cert.ProjMlReferenceIdeal.sig) → Buf (Elt Ideal) ℓ) (g' : Dev Cert.ProjMlReferenceIdeal.nD → PrngReg), Pre_ProjMlIdeal m →
    (∀ c : Dev Cert.ProjMlIdeal.nD,
      m' ((c.tc : Thread Cert.ProjMlReferenceIdeal.nD Cert.ProjMlReferenceIdeal.τ).loc Cert.ProjMlReferenceIdeal.main_arg0) = m ((c.tc : Thread Cert.ProjMlIdeal.nD Cert.ProjMlIdeal.τ).loc Cert.ProjMlIdeal.main_arg0)
      ∧ m' ((c.tc : Thread Cert.ProjMlReferenceIdeal.nD Cert.ProjMlReferenceIdeal.τ).loc Cert.ProjMlReferenceIdeal.main_arg1) = m ((c.tc : Thread Cert.ProjMlIdeal.nD Cert.ProjMlIdeal.τ).loc Cert.ProjMlIdeal.main_arg1)) →
    ∃ (v0 : (c : Dev Cert.ProjMlIdeal.nD) → Buf (Elt Ideal) ((c.tc : Thread Cert.ProjMlIdeal.nD Cert.ProjMlIdeal.τ).loc Cert.ProjMlIdeal.main_v1)),
      θ_run (Cert.ProjMlIdeal.defs (F := Ideal)) (onTc (τ := Cert.ProjMlIdeal.τ) (Cert.ProjMlIdeal.main (F := Ideal))) ⟨m, fun _ => 0, g⟩ (fun r => ∀ c : Dev Cert.ProjMlIdeal.nD,
          r.2.mem ((c.tc : Thread Cert.ProjMlIdeal.nD Cert.ProjMlIdeal.τ).loc Cert.ProjMlIdeal.main_v1) = v0 c
          ∧ r.2.mem ((c.tc : Thread Cert.ProjMlIdeal.nD Cert.ProjMlIdeal.τ).loc Cert.ProjMlIdeal.main_arg0) = m ((c.tc : Thread Cert.ProjMlIdeal.nD Cert.ProjMlIdeal.τ).loc Cert.ProjMlIdeal.main_arg0)
          ∧ r.2.mem ((c.tc : Thread Cert.ProjMlIdeal.nD Cert.ProjMlIdeal.τ).loc Cert.ProjMlIdeal.main_arg1) = m ((c.tc : Thread Cert.ProjMlIdeal.nD Cert.ProjMlIdeal.τ).loc Cert.ProjMlIdeal.main_arg1))
      ∧ θ_run (Cert.ProjMlReferenceIdeal.defs (F := Ideal)) (onTc (τ := Cert.ProjMlReferenceIdeal.τ) (Cert.ProjMlReferenceIdeal.main (F := Ideal))) ⟨m', fun _ => 0, g'⟩ (fun r => ∀ c : Dev Cert.ProjMlReferenceIdeal.nD,
          r.2.mem ((c.tc : Thread Cert.ProjMlReferenceIdeal.nD Cert.ProjMlReferenceIdeal.τ).loc Cert.ProjMlReferenceIdeal.main_v2) = v0 c
          ∧ r.2.mem ((c.tc : Thread Cert.ProjMlReferenceIdeal.nD Cert.ProjMlReferenceIdeal.τ).loc Cert.ProjMlReferenceIdeal.main_arg0) = m' ((c.tc : Thread Cert.ProjMlReferenceIdeal.nD Cert.ProjMlReferenceIdeal.τ).loc Cert.ProjMlReferenceIdeal.main_arg0)
          ∧ r.2.mem ((c.tc : Thread Cert.ProjMlReferenceIdeal.nD Cert.ProjMlReferenceIdeal.τ).loc Cert.ProjMlReferenceIdeal.main_arg1) = m' ((c.tc : Thread Cert.ProjMlReferenceIdeal.nD Cert.ProjMlReferenceIdeal.τ).loc Cert.ProjMlReferenceIdeal.main_arg1))

def preserves_ProjGdLat_ProjGdLatIdeal : Prop :=
  True

def algebraic_ProjGdLatIdeal_ProjGdLatReferenceIdeal [hProjGdLatIdeal : Cert.ProjGdLatIdeal.Facts] [hProjGdLatReferenceIdeal : Cert.ProjGdLatReferenceIdeal.Facts] : Prop :=
  ∀ (m : (ℓ : Loc Cert.ProjGdLatIdeal.nD Cert.ProjGdLatIdeal.τ Cert.ProjGdLatIdeal.sig) → Buf (Elt Ideal) ℓ) (g : Dev Cert.ProjGdLatIdeal.nD → PrngReg)
    (m' : (ℓ : Loc Cert.ProjGdLatReferenceIdeal.nD Cert.ProjGdLatReferenceIdeal.τ Cert.ProjGdLatReferenceIdeal.sig) → Buf (Elt Ideal) ℓ) (g' : Dev Cert.ProjGdLatReferenceIdeal.nD → PrngReg), Pre_ProjGdLatIdeal m →
    (∀ c : Dev Cert.ProjGdLatIdeal.nD,
      m' ((c.tc : Thread Cert.ProjGdLatReferenceIdeal.nD Cert.ProjGdLatReferenceIdeal.τ).loc Cert.ProjGdLatReferenceIdeal.main_arg0) = m ((c.tc : Thread Cert.ProjGdLatIdeal.nD Cert.ProjGdLatIdeal.τ).loc Cert.ProjGdLatIdeal.main_arg0)
      ∧ m' ((c.tc : Thread Cert.ProjGdLatReferenceIdeal.nD Cert.ProjGdLatReferenceIdeal.τ).loc Cert.ProjGdLatReferenceIdeal.main_arg1) = m ((c.tc : Thread Cert.ProjGdLatIdeal.nD Cert.ProjGdLatIdeal.τ).loc Cert.ProjGdLatIdeal.main_arg1)) →
    ∃ (v0 : (c : Dev Cert.ProjGdLatIdeal.nD) → Buf (Elt Ideal) ((c.tc : Thread Cert.ProjGdLatIdeal.nD Cert.ProjGdLatIdeal.τ).loc Cert.ProjGdLatIdeal.main_v1)),
      θ_run (Cert.ProjGdLatIdeal.defs (F := Ideal)) (onTc (τ := Cert.ProjGdLatIdeal.τ) (Cert.ProjGdLatIdeal.main (F := Ideal))) ⟨m, fun _ => 0, g⟩ (fun r => ∀ c : Dev Cert.ProjGdLatIdeal.nD,
          r.2.mem ((c.tc : Thread Cert.ProjGdLatIdeal.nD Cert.ProjGdLatIdeal.τ).loc Cert.ProjGdLatIdeal.main_v1) = v0 c
          ∧ r.2.mem ((c.tc : Thread Cert.ProjGdLatIdeal.nD Cert.ProjGdLatIdeal.τ).loc Cert.ProjGdLatIdeal.main_arg0) = m ((c.tc : Thread Cert.ProjGdLatIdeal.nD Cert.ProjGdLatIdeal.τ).loc Cert.ProjGdLatIdeal.main_arg0)
          ∧ r.2.mem ((c.tc : Thread Cert.ProjGdLatIdeal.nD Cert.ProjGdLatIdeal.τ).loc Cert.ProjGdLatIdeal.main_arg1) = m ((c.tc : Thread Cert.ProjGdLatIdeal.nD Cert.ProjGdLatIdeal.τ).loc Cert.ProjGdLatIdeal.main_arg1))
      ∧ θ_run (Cert.ProjGdLatReferenceIdeal.defs (F := Ideal)) (onTc (τ := Cert.ProjGdLatReferenceIdeal.τ) (Cert.ProjGdLatReferenceIdeal.main (F := Ideal))) ⟨m', fun _ => 0, g'⟩ (fun r => ∀ c : Dev Cert.ProjGdLatReferenceIdeal.nD,
          r.2.mem ((c.tc : Thread Cert.ProjGdLatReferenceIdeal.nD Cert.ProjGdLatReferenceIdeal.τ).loc Cert.ProjGdLatReferenceIdeal.main_v2) = v0 c
          ∧ r.2.mem ((c.tc : Thread Cert.ProjGdLatReferenceIdeal.nD Cert.ProjGdLatReferenceIdeal.τ).loc Cert.ProjGdLatReferenceIdeal.main_arg0) = m' ((c.tc : Thread Cert.ProjGdLatReferenceIdeal.nD Cert.ProjGdLatReferenceIdeal.τ).loc Cert.ProjGdLatReferenceIdeal.main_arg0)
          ∧ r.2.mem ((c.tc : Thread Cert.ProjGdLatReferenceIdeal.nD Cert.ProjGdLatReferenceIdeal.τ).loc Cert.ProjGdLatReferenceIdeal.main_arg1) = m' ((c.tc : Thread Cert.ProjGdLatReferenceIdeal.nD Cert.ProjGdLatReferenceIdeal.τ).loc Cert.ProjGdLatReferenceIdeal.main_arg1))

def preserves_ProjGdCtx_ProjGdCtxIdeal : Prop :=
  True

def algebraic_ProjGdCtxIdeal_ProjGdCtxReferenceIdeal [hProjGdCtxIdeal : Cert.ProjGdCtxIdeal.Facts] [hProjGdCtxReferenceIdeal : Cert.ProjGdCtxReferenceIdeal.Facts] : Prop :=
  ∀ (m : (ℓ : Loc Cert.ProjGdCtxIdeal.nD Cert.ProjGdCtxIdeal.τ Cert.ProjGdCtxIdeal.sig) → Buf (Elt Ideal) ℓ) (g : Dev Cert.ProjGdCtxIdeal.nD → PrngReg)
    (m' : (ℓ : Loc Cert.ProjGdCtxReferenceIdeal.nD Cert.ProjGdCtxReferenceIdeal.τ Cert.ProjGdCtxReferenceIdeal.sig) → Buf (Elt Ideal) ℓ) (g' : Dev Cert.ProjGdCtxReferenceIdeal.nD → PrngReg), Pre_ProjGdCtxIdeal m →
    (∀ c : Dev Cert.ProjGdCtxIdeal.nD,
      m' ((c.tc : Thread Cert.ProjGdCtxReferenceIdeal.nD Cert.ProjGdCtxReferenceIdeal.τ).loc Cert.ProjGdCtxReferenceIdeal.main_arg0) = m ((c.tc : Thread Cert.ProjGdCtxIdeal.nD Cert.ProjGdCtxIdeal.τ).loc Cert.ProjGdCtxIdeal.main_arg0)
      ∧ m' ((c.tc : Thread Cert.ProjGdCtxReferenceIdeal.nD Cert.ProjGdCtxReferenceIdeal.τ).loc Cert.ProjGdCtxReferenceIdeal.main_arg1) = m ((c.tc : Thread Cert.ProjGdCtxIdeal.nD Cert.ProjGdCtxIdeal.τ).loc Cert.ProjGdCtxIdeal.main_arg1)) →
    ∃ (v0 : (c : Dev Cert.ProjGdCtxIdeal.nD) → Buf (Elt Ideal) ((c.tc : Thread Cert.ProjGdCtxIdeal.nD Cert.ProjGdCtxIdeal.τ).loc Cert.ProjGdCtxIdeal.main_v1)),
      θ_run (Cert.ProjGdCtxIdeal.defs (F := Ideal)) (onTc (τ := Cert.ProjGdCtxIdeal.τ) (Cert.ProjGdCtxIdeal.main (F := Ideal))) ⟨m, fun _ => 0, g⟩ (fun r => ∀ c : Dev Cert.ProjGdCtxIdeal.nD,
          r.2.mem ((c.tc : Thread Cert.ProjGdCtxIdeal.nD Cert.ProjGdCtxIdeal.τ).loc Cert.ProjGdCtxIdeal.main_v1) = v0 c
          ∧ r.2.mem ((c.tc : Thread Cert.ProjGdCtxIdeal.nD Cert.ProjGdCtxIdeal.τ).loc Cert.ProjGdCtxIdeal.main_arg0) = m ((c.tc : Thread Cert.ProjGdCtxIdeal.nD Cert.ProjGdCtxIdeal.τ).loc Cert.ProjGdCtxIdeal.main_arg0)
          ∧ r.2.mem ((c.tc : Thread Cert.ProjGdCtxIdeal.nD Cert.ProjGdCtxIdeal.τ).loc Cert.ProjGdCtxIdeal.main_arg1) = m ((c.tc : Thread Cert.ProjGdCtxIdeal.nD Cert.ProjGdCtxIdeal.τ).loc Cert.ProjGdCtxIdeal.main_arg1))
      ∧ θ_run (Cert.ProjGdCtxReferenceIdeal.defs (F := Ideal)) (onTc (τ := Cert.ProjGdCtxReferenceIdeal.τ) (Cert.ProjGdCtxReferenceIdeal.main (F := Ideal))) ⟨m', fun _ => 0, g'⟩ (fun r => ∀ c : Dev Cert.ProjGdCtxReferenceIdeal.nD,
          r.2.mem ((c.tc : Thread Cert.ProjGdCtxReferenceIdeal.nD Cert.ProjGdCtxReferenceIdeal.τ).loc Cert.ProjGdCtxReferenceIdeal.main_v3) = v0 c
          ∧ r.2.mem ((c.tc : Thread Cert.ProjGdCtxReferenceIdeal.nD Cert.ProjGdCtxReferenceIdeal.τ).loc Cert.ProjGdCtxReferenceIdeal.main_arg0) = m' ((c.tc : Thread Cert.ProjGdCtxReferenceIdeal.nD Cert.ProjGdCtxReferenceIdeal.τ).loc Cert.ProjGdCtxReferenceIdeal.main_arg0)
          ∧ r.2.mem ((c.tc : Thread Cert.ProjGdCtxReferenceIdeal.nD Cert.ProjGdCtxReferenceIdeal.τ).loc Cert.ProjGdCtxReferenceIdeal.main_arg1) = m' ((c.tc : Thread Cert.ProjGdCtxReferenceIdeal.nD Cert.ProjGdCtxReferenceIdeal.τ).loc Cert.ProjGdCtxReferenceIdeal.main_arg1))

def preserves_MixGd_MixGdIdeal : Prop :=
  True

def algebraic_MixGdIdeal_MixGdReferenceIdeal [hMixGdIdeal : Cert.MixGdIdeal.Facts] [hMixGdReferenceIdeal : Cert.MixGdReferenceIdeal.Facts] : Prop :=
  ∀ (m : (ℓ : Loc Cert.MixGdIdeal.nD Cert.MixGdIdeal.τ Cert.MixGdIdeal.sig) → Buf (Elt Ideal) ℓ) (g : Dev Cert.MixGdIdeal.nD → PrngReg)
    (m' : (ℓ : Loc Cert.MixGdReferenceIdeal.nD Cert.MixGdReferenceIdeal.τ Cert.MixGdReferenceIdeal.sig) → Buf (Elt Ideal) ℓ) (g' : Dev Cert.MixGdReferenceIdeal.nD → PrngReg), Pre_MixGdIdeal m →
    (∀ c : Dev Cert.MixGdIdeal.nD,
      m' ((c.tc : Thread Cert.MixGdReferenceIdeal.nD Cert.MixGdReferenceIdeal.τ).loc Cert.MixGdReferenceIdeal.main_arg0) = m ((c.tc : Thread Cert.MixGdIdeal.nD Cert.MixGdIdeal.τ).loc Cert.MixGdIdeal.main_arg0)
      ∧ m' ((c.tc : Thread Cert.MixGdReferenceIdeal.nD Cert.MixGdReferenceIdeal.τ).loc Cert.MixGdReferenceIdeal.main_arg1) = m ((c.tc : Thread Cert.MixGdIdeal.nD Cert.MixGdIdeal.τ).loc Cert.MixGdIdeal.main_arg1)
      ∧ m' ((c.tc : Thread Cert.MixGdReferenceIdeal.nD Cert.MixGdReferenceIdeal.τ).loc Cert.MixGdReferenceIdeal.main_arg2) = m ((c.tc : Thread Cert.MixGdIdeal.nD Cert.MixGdIdeal.τ).loc Cert.MixGdIdeal.main_arg2)
      ∧ m' ((c.tc : Thread Cert.MixGdReferenceIdeal.nD Cert.MixGdReferenceIdeal.τ).loc Cert.MixGdReferenceIdeal.main_arg3) = m ((c.tc : Thread Cert.MixGdIdeal.nD Cert.MixGdIdeal.τ).loc Cert.MixGdIdeal.main_arg3)) →
    ∃ (v0 : (c : Dev Cert.MixGdIdeal.nD) → Buf (Elt Ideal) ((c.tc : Thread Cert.MixGdIdeal.nD Cert.MixGdIdeal.τ).loc Cert.MixGdIdeal.main_v4)),
      θ_run (Cert.MixGdIdeal.defs (F := Ideal)) (onTc (τ := Cert.MixGdIdeal.τ) (Cert.MixGdIdeal.main (F := Ideal))) ⟨m, fun _ => 0, g⟩ (fun r => ∀ c : Dev Cert.MixGdIdeal.nD,
          r.2.mem ((c.tc : Thread Cert.MixGdIdeal.nD Cert.MixGdIdeal.τ).loc Cert.MixGdIdeal.main_v4) = v0 c
          ∧ r.2.mem ((c.tc : Thread Cert.MixGdIdeal.nD Cert.MixGdIdeal.τ).loc Cert.MixGdIdeal.main_arg0) = m ((c.tc : Thread Cert.MixGdIdeal.nD Cert.MixGdIdeal.τ).loc Cert.MixGdIdeal.main_arg0)
          ∧ r.2.mem ((c.tc : Thread Cert.MixGdIdeal.nD Cert.MixGdIdeal.τ).loc Cert.MixGdIdeal.main_arg1) = m ((c.tc : Thread Cert.MixGdIdeal.nD Cert.MixGdIdeal.τ).loc Cert.MixGdIdeal.main_arg1)
          ∧ r.2.mem ((c.tc : Thread Cert.MixGdIdeal.nD Cert.MixGdIdeal.τ).loc Cert.MixGdIdeal.main_arg2) = m ((c.tc : Thread Cert.MixGdIdeal.nD Cert.MixGdIdeal.τ).loc Cert.MixGdIdeal.main_arg2)
          ∧ r.2.mem ((c.tc : Thread Cert.MixGdIdeal.nD Cert.MixGdIdeal.τ).loc Cert.MixGdIdeal.main_arg3) = m ((c.tc : Thread Cert.MixGdIdeal.nD Cert.MixGdIdeal.τ).loc Cert.MixGdIdeal.main_arg3))
      ∧ θ_run (Cert.MixGdReferenceIdeal.defs (F := Ideal)) (onTc (τ := Cert.MixGdReferenceIdeal.τ) (Cert.MixGdReferenceIdeal.main (F := Ideal))) ⟨m', fun _ => 0, g'⟩ (fun r => ∀ c : Dev Cert.MixGdReferenceIdeal.nD,
          r.2.mem ((c.tc : Thread Cert.MixGdReferenceIdeal.nD Cert.MixGdReferenceIdeal.τ).loc Cert.MixGdReferenceIdeal.main_v29) = v0 c
          ∧ r.2.mem ((c.tc : Thread Cert.MixGdReferenceIdeal.nD Cert.MixGdReferenceIdeal.τ).loc Cert.MixGdReferenceIdeal.main_arg0) = m' ((c.tc : Thread Cert.MixGdReferenceIdeal.nD Cert.MixGdReferenceIdeal.τ).loc Cert.MixGdReferenceIdeal.main_arg0)
          ∧ r.2.mem ((c.tc : Thread Cert.MixGdReferenceIdeal.nD Cert.MixGdReferenceIdeal.τ).loc Cert.MixGdReferenceIdeal.main_arg1) = m' ((c.tc : Thread Cert.MixGdReferenceIdeal.nD Cert.MixGdReferenceIdeal.τ).loc Cert.MixGdReferenceIdeal.main_arg1)
          ∧ r.2.mem ((c.tc : Thread Cert.MixGdReferenceIdeal.nD Cert.MixGdReferenceIdeal.τ).loc Cert.MixGdReferenceIdeal.main_arg2) = m' ((c.tc : Thread Cert.MixGdReferenceIdeal.nD Cert.MixGdReferenceIdeal.τ).loc Cert.MixGdReferenceIdeal.main_arg2)
          ∧ r.2.mem ((c.tc : Thread Cert.MixGdReferenceIdeal.nD Cert.MixGdReferenceIdeal.τ).loc Cert.MixGdReferenceIdeal.main_arg3) = m' ((c.tc : Thread Cert.MixGdReferenceIdeal.nD Cert.MixGdReferenceIdeal.τ).loc Cert.MixGdReferenceIdeal.main_arg3))

def preserves_Back_BackIdeal : Prop :=
  True

def algebraic_BackIdeal_BackReferenceIdeal [hBackIdeal : Cert.BackIdeal.Facts] [hBackReferenceIdeal : Cert.BackReferenceIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackReferenceIdeal.nD Cert.BackReferenceIdeal.τ Cert.BackReferenceIdeal.sig) → Buf (Elt Ideal) ℓ) (g' : Dev Cert.BackReferenceIdeal.nD → PrngReg), Pre_BackIdeal m →
    (∀ c : Dev Cert.BackIdeal.nD,
      m' ((c.tc : Thread Cert.BackReferenceIdeal.nD Cert.BackReferenceIdeal.τ).loc Cert.BackReferenceIdeal.main_arg0) = m ((c.tc : Thread Cert.BackIdeal.nD Cert.BackIdeal.τ).loc Cert.BackIdeal.main_arg0)
      ∧ m' ((c.tc : Thread Cert.BackReferenceIdeal.nD Cert.BackReferenceIdeal.τ).loc Cert.BackReferenceIdeal.main_arg1) = m ((c.tc : Thread Cert.BackIdeal.nD Cert.BackIdeal.τ).loc Cert.BackIdeal.main_arg1)
      ∧ m' ((c.tc : Thread Cert.BackReferenceIdeal.nD Cert.BackReferenceIdeal.τ).loc Cert.BackReferenceIdeal.main_arg2) = m ((c.tc : Thread Cert.BackIdeal.nD Cert.BackIdeal.τ).loc Cert.BackIdeal.main_arg2)
      ∧ m' ((c.tc : Thread Cert.BackReferenceIdeal.nD Cert.BackReferenceIdeal.τ).loc Cert.BackReferenceIdeal.main_arg3) = m ((c.tc : Thread Cert.BackIdeal.nD Cert.BackIdeal.τ).loc Cert.BackIdeal.main_arg3)
      ∧ m' ((c.tc : Thread Cert.BackReferenceIdeal.nD Cert.BackReferenceIdeal.τ).loc Cert.BackReferenceIdeal.main_arg4) = m ((c.tc : Thread Cert.BackIdeal.nD Cert.BackIdeal.τ).loc Cert.BackIdeal.main_arg4)
      ∧ m' ((c.tc : Thread Cert.BackReferenceIdeal.nD Cert.BackReferenceIdeal.τ).loc Cert.BackReferenceIdeal.main_arg5) = m ((c.tc : Thread Cert.BackIdeal.nD Cert.BackIdeal.τ).loc Cert.BackIdeal.main_arg5)
      ∧ m' ((c.tc : Thread Cert.BackReferenceIdeal.nD Cert.BackReferenceIdeal.τ).loc Cert.BackReferenceIdeal.main_arg6) = m ((c.tc : Thread Cert.BackIdeal.nD Cert.BackIdeal.τ).loc Cert.BackIdeal.main_arg6)
      ∧ m' ((c.tc : Thread Cert.BackReferenceIdeal.nD Cert.BackReferenceIdeal.τ).loc Cert.BackReferenceIdeal.main_arg7) = m ((c.tc : Thread Cert.BackIdeal.nD Cert.BackIdeal.τ).loc Cert.BackIdeal.main_arg7)
      ∧ m' ((c.tc : Thread Cert.BackReferenceIdeal.nD Cert.BackReferenceIdeal.τ).loc Cert.BackReferenceIdeal.main_arg8) = m ((c.tc : Thread Cert.BackIdeal.nD Cert.BackIdeal.τ).loc Cert.BackIdeal.main_arg8)
      ∧ m' ((c.tc : Thread Cert.BackReferenceIdeal.nD Cert.BackReferenceIdeal.τ).loc Cert.BackReferenceIdeal.main_arg9) = m ((c.tc : Thread Cert.BackIdeal.nD Cert.BackIdeal.τ).loc Cert.BackIdeal.main_arg9)) →
    ∃ (v0 : (c : Dev Cert.BackIdeal.nD) → Buf (Elt Ideal) ((c.tc : Thread Cert.BackIdeal.nD Cert.BackIdeal.τ).loc Cert.BackIdeal.main_v6)) (v1 : (c : Dev Cert.BackIdeal.nD) → Buf (Elt Ideal) ((c.tc : Thread Cert.BackIdeal.nD Cert.BackIdeal.τ).loc Cert.BackIdeal.main_v9)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v6) = v0 c
          ∧ r.2.mem ((c.tc : Thread Cert.BackIdeal.nD Cert.BackIdeal.τ).loc Cert.BackIdeal.main_v9) = v1 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
          ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
          ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
          ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
          ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
          ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
          ∧ r.2.mem ((c.tc : Thread Cert.BackIdeal.nD Cert.BackIdeal.τ).loc Cert.BackIdeal.main_arg9) = m ((c.tc : Thread Cert.BackIdeal.nD Cert.BackIdeal.τ).loc Cert.BackIdeal.main_arg9))
      ∧ θ_run (Cert.BackReferenceIdeal.defs (F := Ideal)) (onTc (τ := Cert.BackReferenceIdeal.τ) (Cert.BackReferenceIdeal.main (F := Ideal))) ⟨m', fun _ => 0, g'⟩ (fun r => ∀ c : Dev Cert.BackReferenceIdeal.nD,
          r.2.mem ((c.tc : Thread Cert.BackReferenceIdeal.nD Cert.BackReferenceIdeal.τ).loc Cert.BackReferenceIdeal.main_v33) = v0 c
          ∧ r.2.mem ((c.tc : Thread Cert.BackReferenceIdeal.nD Cert.BackReferenceIdeal.τ).loc Cert.BackReferenceIdeal.main_v54) = v1 c
          ∧ r.2.mem ((c.tc : Thread Cert.BackReferenceIdeal.nD Cert.BackReferenceIdeal.τ).loc Cert.BackReferenceIdeal.main_arg0) = m' ((c.tc : Thread Cert.BackReferenceIdeal.nD Cert.BackReferenceIdeal.τ).loc Cert.BackReferenceIdeal.main_arg0)
          ∧ r.2.mem ((c.tc : Thread Cert.BackReferenceIdeal.nD Cert.BackReferenceIdeal.τ).loc Cert.BackReferenceIdeal.main_arg1) = m' ((c.tc : Thread Cert.BackReferenceIdeal.nD Cert.BackReferenceIdeal.τ).loc Cert.BackReferenceIdeal.main_arg1)
          ∧ r.2.mem ((c.tc : Thread Cert.BackReferenceIdeal.nD Cert.BackReferenceIdeal.τ).loc Cert.BackReferenceIdeal.main_arg2) = m' ((c.tc : Thread Cert.BackReferenceIdeal.nD Cert.BackReferenceIdeal.τ).loc Cert.BackReferenceIdeal.main_arg2)
          ∧ r.2.mem ((c.tc : Thread Cert.BackReferenceIdeal.nD Cert.BackReferenceIdeal.τ).loc Cert.BackReferenceIdeal.main_arg3) = m' ((c.tc : Thread Cert.BackReferenceIdeal.nD Cert.BackReferenceIdeal.τ).loc Cert.BackReferenceIdeal.main_arg3)
          ∧ r.2.mem ((c.tc : Thread Cert.BackReferenceIdeal.nD Cert.BackReferenceIdeal.τ).loc Cert.BackReferenceIdeal.main_arg4) = m' ((c.tc : Thread Cert.BackReferenceIdeal.nD Cert.BackReferenceIdeal.τ).loc Cert.BackReferenceIdeal.main_arg4)
          ∧ r.2.mem ((c.tc : Thread Cert.BackReferenceIdeal.nD Cert.BackReferenceIdeal.τ).loc Cert.BackReferenceIdeal.main_arg5) = m' ((c.tc : Thread Cert.BackReferenceIdeal.nD Cert.BackReferenceIdeal.τ).loc Cert.BackReferenceIdeal.main_arg5)
          ∧ r.2.mem ((c.tc : Thread Cert.BackReferenceIdeal.nD Cert.BackReferenceIdeal.τ).loc Cert.BackReferenceIdeal.main_arg6) = m' ((c.tc : Thread Cert.BackReferenceIdeal.nD Cert.BackReferenceIdeal.τ).loc Cert.BackReferenceIdeal.main_arg6)
          ∧ r.2.mem ((c.tc : Thread Cert.BackReferenceIdeal.nD Cert.BackReferenceIdeal.τ).loc Cert.BackReferenceIdeal.main_arg7) = m' ((c.tc : Thread Cert.BackReferenceIdeal.nD Cert.BackReferenceIdeal.τ).loc Cert.BackReferenceIdeal.main_arg7)
          ∧ r.2.mem ((c.tc : Thread Cert.BackReferenceIdeal.nD Cert.BackReferenceIdeal.τ).loc Cert.BackReferenceIdeal.main_arg8) = m' ((c.tc : Thread Cert.BackReferenceIdeal.nD Cert.BackReferenceIdeal.τ).loc Cert.BackReferenceIdeal.main_arg8)
          ∧ r.2.mem ((c.tc : Thread Cert.BackReferenceIdeal.nD Cert.BackReferenceIdeal.τ).loc Cert.BackReferenceIdeal.main_arg9) = m' ((c.tc : Thread Cert.BackReferenceIdeal.nD Cert.BackReferenceIdeal.τ).loc Cert.BackReferenceIdeal.main_arg9))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v152) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3))

def Claim : Prop :=
  ∃ (hKernel : Cert.Kernel.Facts) (hKernelIdeal : Cert.KernelIdeal.Facts) (hReferenceIdeal : Cert.ReferenceIdeal.Facts) (hFront : Cert.Front.Facts) (hFrontIdeal : Cert.FrontIdeal.Facts) (hFrontReferenceIdeal : Cert.FrontReferenceIdeal.Facts) (hProjMl : Cert.ProjMl.Facts) (hProjMlIdeal : Cert.ProjMlIdeal.Facts) (hProjMlReferenceIdeal : Cert.ProjMlReferenceIdeal.Facts) (hProjGdLat : Cert.ProjGdLat.Facts) (hProjGdLatIdeal : Cert.ProjGdLatIdeal.Facts) (hProjGdLatReferenceIdeal : Cert.ProjGdLatReferenceIdeal.Facts) (hProjGdCtx : Cert.ProjGdCtx.Facts) (hProjGdCtxIdeal : Cert.ProjGdCtxIdeal.Facts) (hProjGdCtxReferenceIdeal : Cert.ProjGdCtxReferenceIdeal.Facts) (hMixGd : Cert.MixGd.Facts) (hMixGdIdeal : Cert.MixGdIdeal.Facts) (hMixGdReferenceIdeal : Cert.MixGdReferenceIdeal.Facts) (hBack : Cert.Back.Facts) (hBackIdeal : Cert.BackIdeal.Facts) (hBackReferenceIdeal : Cert.BackReferenceIdeal.Facts) (hConv : Cert.Conv.Facts) (hConvIdeal : Cert.ConvIdeal.Facts) (hConvReferenceIdeal : Cert.ConvReferenceIdeal.Facts) (hPre_routed : Cert.Pre_routed.Facts),
    quiescent_Kernel (hKernel := hKernel)
    ∧ quiescent_KernelIdeal (hKernelIdeal := hKernelIdeal)
    ∧ quiescent_KernelIdeal_pre_routed (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Front (hFront := hFront)
    ∧ quiescent_FrontIdeal (hFrontIdeal := hFrontIdeal)
    ∧ quiescent_FrontReferenceIdeal (hFrontReferenceIdeal := hFrontReferenceIdeal)
    ∧ quiescent_ProjMl (hProjMl := hProjMl)
    ∧ quiescent_ProjMlIdeal (hProjMlIdeal := hProjMlIdeal)
    ∧ quiescent_ProjMlReferenceIdeal (hProjMlReferenceIdeal := hProjMlReferenceIdeal)
    ∧ quiescent_ProjGdLat (hProjGdLat := hProjGdLat)
    ∧ quiescent_ProjGdLatIdeal (hProjGdLatIdeal := hProjGdLatIdeal)
    ∧ quiescent_ProjGdLatReferenceIdeal (hProjGdLatReferenceIdeal := hProjGdLatReferenceIdeal)
    ∧ quiescent_ProjGdCtx (hProjGdCtx := hProjGdCtx)
    ∧ quiescent_ProjGdCtxIdeal (hProjGdCtxIdeal := hProjGdCtxIdeal)
    ∧ quiescent_ProjGdCtxReferenceIdeal (hProjGdCtxReferenceIdeal := hProjGdCtxReferenceIdeal)
    ∧ quiescent_MixGd (hMixGd := hMixGd)
    ∧ quiescent_MixGdIdeal (hMixGdIdeal := hMixGdIdeal)
    ∧ quiescent_MixGdReferenceIdeal (hMixGdReferenceIdeal := hMixGdReferenceIdeal)
    ∧ quiescent_Back (hBack := hBack)
    ∧ quiescent_BackIdeal (hBackIdeal := hBackIdeal)
    ∧ quiescent_BackReferenceIdeal (hBackReferenceIdeal := hBackReferenceIdeal)
    ∧ quiescent_Conv (hConv := hConv)
    ∧ quiescent_ConvIdeal (hConvIdeal := hConvIdeal)
    ∧ quiescent_ConvReferenceIdeal (hConvReferenceIdeal := hConvReferenceIdeal)
    ∧ preserves_Kernel_KernelIdeal
    ∧ algebraic_KernelIdeal_ReferenceIdeal_pre_routed (hKernelIdeal := hKernelIdeal) (hReferenceIdeal := hReferenceIdeal) (hPre_routed := hPre_routed)
    ∧ preserves_Front_FrontIdeal
    ∧ algebraic_FrontIdeal_FrontReferenceIdeal (hFrontIdeal := hFrontIdeal) (hFrontReferenceIdeal := hFrontReferenceIdeal)
    ∧ preserves_ProjMl_ProjMlIdeal
    ∧ algebraic_ProjMlIdeal_ProjMlReferenceIdeal (hProjMlIdeal := hProjMlIdeal) (hProjMlReferenceIdeal := hProjMlReferenceIdeal)
    ∧ preserves_ProjGdLat_ProjGdLatIdeal
    ∧ algebraic_ProjGdLatIdeal_ProjGdLatReferenceIdeal (hProjGdLatIdeal := hProjGdLatIdeal) (hProjGdLatReferenceIdeal := hProjGdLatReferenceIdeal)
    ∧ preserves_ProjGdCtx_ProjGdCtxIdeal
    ∧ algebraic_ProjGdCtxIdeal_ProjGdCtxReferenceIdeal (hProjGdCtxIdeal := hProjGdCtxIdeal) (hProjGdCtxReferenceIdeal := hProjGdCtxReferenceIdeal)
    ∧ preserves_MixGd_MixGdIdeal
    ∧ algebraic_MixGdIdeal_MixGdReferenceIdeal (hMixGdIdeal := hMixGdIdeal) (hMixGdReferenceIdeal := hMixGdReferenceIdeal)
    ∧ preserves_Back_BackIdeal
    ∧ algebraic_BackIdeal_BackReferenceIdeal (hBackIdeal := hBackIdeal) (hBackReferenceIdeal := hBackReferenceIdeal)
    ∧ preserves_Conv_ConvIdeal
    ∧ algebraic_ConvIdeal_ConvReferenceIdeal (hConvIdeal := hConvIdeal) (hConvReferenceIdeal := hConvReferenceIdeal)
-- ==== Pre_routed.lean ====
abbrev S16384x4096 : Shape := ⟨2, ![16384, 4096]⟩
abbrev S8x24576 : Shape := ⟨2, ![8, 24576]⟩
abbrev S1x4096 : Shape := ⟨2, ![1, 4096]⟩
abbrev S16384x128 : Shape := ⟨2, ![16384, 128]⟩
abbrev S4096 : Shape := ⟨1, ![4096]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x4096 .f32) (main_arg1 : FVec F S8x24576 .f32) (main_arg2 : FVec F S1x4096 .f32) (main_arg3 : IVec S16384x128 32) (main_arg4 : FVec F S16384x128 .f32) (main_arg5 : FVec F S16384x4096 .f32) (main_arg6 : FVec F S16384x4096 .f32) (main_arg7 : FVec F S4096 .f32) : IVec S_ 1 :=
  let main_c : IVec S_ 32 := constantI S_ 32 0#32
  let main_v0 : IVec S16384x128 32 := broadcastInDim S16384x128 ![] bcast_S_S16384x128 main_c
  let main_v1 : IVec S16384x128 1 := cmpi .sge main_arg3 main_v0
  let main_c_0 : IVec S_ 32 := constantI S_ 32 16384#32
  let main_v2 : IVec S16384x128 32 := broadcastInDim S16384x128 ![] bcast_S_S16384x128 main_c_0
  let main_v3 : IVec S16384x128 1 := cmpi .slt main_arg3 main_v2
  let main_v4 : IVec S16384x128 1 := andi main_v1 main_v3
  let main_c_1 : IVec S_ 1 := constantI S_ 1 1#1
  let main_v5 : IVec S_ 1 := (fun x v => Host.reduce IntOp.andi x v reducesTo_S16384x128_S_d0_1 h_S_) main_v4 main_c_1
  let main_cst : FVec F S_ .f32 := constant S_ .f32 0x00000000#32
  let main_v6 : FVec F S16384x128 .f32 := broadcastInDim S16384x128 ![] bcast_S_S16384x128 main_cst
  let main_v7 : IVec S16384x128 1 := cmpf .oge main_arg4 main_v6
  let main_cst_2 : FVec F S_ .f32 := constant S_ .f32 0x7F800000#32
  let main_v8 : FVec F S16384x128 .f32 := broadcastInDim S16384x128 ![] bcast_S_S16384x128 main_cst_2
  let main_v9 : IVec S16384x128 1 := cmpf .olt main_arg4 main_v8
  let main_v10 : IVec S16384x128 1 := andi main_v7 main_v9
  let main_c_3 : IVec S_ 1 := constantI S_ 1 1#1
  let main_v11 : IVec S_ 1 := (fun x v => Host.reduce IntOp.andi x v reducesTo_S16384x128_S_d0_1 h_S_) main_v10 main_c_3
  let main_v12 : IVec S_ 1 := andi main_v5 main_v11
  main_v12
-- ==== Kernel.lean ====
abbrev S16384x4096 : Shape := ⟨2, ![16384, 4096]⟩
abbrev S8x24576 : Shape := ⟨2, ![8, 24576]⟩
abbrev S1x4096 : Shape := ⟨2, ![1, 4096]⟩
abbrev S16384x128 : Shape := ⟨2, ![16384, 128]⟩
abbrev S4096 : Shape := ⟨1, ![4096]⟩
abbrev S256x4096 : Shape := ⟨2, ![256, 4096]⟩
abbrev S8x4096 : Shape := ⟨2, ![8, 4096]⟩
abbrev S256 : Shape := ⟨1, ![256]⟩
abbrev S256x1 : Shape := ⟨2, ![256, 1]⟩
abbrev S128x16384x128 : Shape := ⟨3, ![128, 16384, 128]⟩
abbrev S128x128 : Shape := ⟨2, ![128, 128]⟩
abbrev S128x128x128 : Shape := ⟨3, ![128, 128, 128]⟩
abbrev S8x128 : Shape := ⟨2, ![8, 128]⟩
abbrev S1x128 : Shape := ⟨2, ![1, 128]⟩
abbrev S128x256 : Shape := ⟨2, ![128, 256]⟩
abbrev S1x128x128 : Shape := ⟨3, ![1, 128, 128]⟩
abbrev S8x128x128 : Shape := ⟨3, ![8, 128, 128]⟩
abbrev S128x8x128 : Shape := ⟨3, ![128, 8, 128]⟩
abbrev S16384x16384 : Shape := ⟨2, ![16384, 16384]⟩
abbrev S1024x4096 : Shape := ⟨2, ![1024, 4096]⟩
abbrev S512x4096 : Shape := ⟨2, ![512, 4096]⟩
abbrev S4x1024x128 : Shape := ⟨3, ![4, 1024, 128]⟩
abbrev S1024x512 : Shape := ⟨2, ![1024, 512]⟩
abbrev S1x1024x128 : Shape := ⟨3, ![1, 1024, 128]⟩
abbrev S1024x128 : Shape := ⟨2, ![1024, 128]⟩
abbrev S1024x1024 : Shape := ⟨2, ![1024, 1024]⟩
abbrev S1024x2048 : Shape := ⟨2, ![1024, 2048]⟩

abbrev nBuf : Space → Nat
  | .hbm => 16
  | .vmem => 37
  | .smem => 0
  | _ => 0

abbrev bufTy : (tb : Table) → Fin (tcTables nBuf tb) → BufTy
  | .hbm, ⟨0, _⟩ => ⟨S16384x4096, .f32⟩
  | .hbm, ⟨1, _⟩ => ⟨S8x24576, .f32⟩
  | .hbm, ⟨2, _⟩ => ⟨S1x4096, .f32⟩
  | .hbm, ⟨3, _⟩ => ⟨S16384x128, .i32⟩
  | .hbm, ⟨4, _⟩ => ⟨S16384x128, .f32⟩
  | .hbm, ⟨5, _⟩ => ⟨S16384x4096, .f32⟩
  | .hbm, ⟨6, _⟩ => ⟨S16384x4096, .f32⟩
  | .hbm, ⟨7, _⟩ => ⟨S4096, .f32⟩
  | .hbm, ⟨8, _⟩ => ⟨S16384x4096, .bf16⟩
  | .hbm, ⟨9, _⟩ => ⟨S128x16384x128, .f32⟩
  | .hbm, ⟨10, _⟩ => ⟨S16384x4096, .bf16⟩
  | .hbm, ⟨11, _⟩ => ⟨S16384x16384, .bf16⟩
  | .hbm, ⟨12, _⟩ => ⟨S16384x4096, .bf16⟩
  | .hbm, ⟨13, _⟩ => ⟨S16384x4096, .f32⟩
  | .hbm, ⟨14, _⟩ => ⟨S1x4096, .f32⟩
  | .hbm, ⟨15, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S8x4096, .f32⟩
  | .local _ .vmem, ⟨6, _⟩ => ⟨S8x4096, .f32⟩
  | .local _ .vmem, ⟨7, _⟩ => ⟨S256x4096, .bf16⟩
  | .local _ .vmem, ⟨8, _⟩ => ⟨S256x4096, .bf16⟩
  | .local _ .vmem, ⟨9, _⟩ => ⟨S128x128, .i32⟩
  | .local _ .vmem, ⟨10, _⟩ => ⟨S128x128, .i32⟩
  | .local _ .vmem, ⟨11, _⟩ => ⟨S128x128, .f32⟩
  | .local _ .vmem, ⟨12, _⟩ => ⟨S128x128, .f32⟩
  | .local _ .vmem, ⟨13, _⟩ => ⟨S128x128x128, .f32⟩
  | .local _ .vmem, ⟨14, _⟩ => ⟨S128x128x128, .f32⟩
  | .local _ .vmem, ⟨15, _⟩ => ⟨S1024x4096, .bf16⟩
  | .local _ .vmem, ⟨16, _⟩ => ⟨S1024x4096, .bf16⟩
  | .local _ .vmem, ⟨17, _⟩ => ⟨S512x4096, .bf16⟩
  | .local _ .vmem, ⟨18, _⟩ => ⟨S512x4096, .bf16⟩
  | .local _ .vmem, ⟨19, _⟩ => ⟨S4x1024x128, .f32⟩
  | .local _ .vmem, ⟨20, _⟩ => ⟨S4x1024x128, .f32⟩
  | .local _ .vmem, ⟨21, _⟩ => ⟨S1024x512, .bf16⟩
  | .local _ .vmem, ⟨22, _⟩ => ⟨S1024x512, .bf16⟩
  | .local _ .vmem, ⟨23, _⟩ => ⟨S1024x1024, .bf16⟩
  | .local _ .vmem, ⟨24, _⟩ => ⟨S1024x1024, .bf16⟩
  | .local _ .vmem, ⟨25, _⟩ => ⟨S1024x2048, .bf16⟩
  | .local _ .vmem, ⟨26, _⟩ => ⟨S1024x2048, .bf16⟩
  | .local _ .vmem, ⟨27, _⟩ => ⟨S1024x2048, .f32⟩
  | .local _ .vmem, ⟨28, _⟩ => ⟨S1024x2048, .f32⟩
  | .local _ .vmem, ⟨29, _⟩ => ⟨S256x4096, .f32⟩
  | .local _ .vmem, ⟨30, _⟩ => ⟨S256x4096, .f32⟩
  | .local _ .vmem, ⟨31, _⟩ => ⟨S256x4096, .f32⟩
  | .local _ .vmem, ⟨32, _⟩ => ⟨S256x4096, .f32⟩
  | .local _ .vmem, ⟨33, _⟩ => ⟨S8x4096, .f32⟩
  | .local _ .vmem, ⟨34, _⟩ => ⟨S1x4096, .f32⟩
  | .local _ .vmem, ⟨35, _⟩ => ⟨S256x4096, .f32⟩
  | .local _ .vmem, ⟨36, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg4_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem3_0 : DmaSem sig := 34
abbrev cc4_sem4_0 : DmaSem sig := 35
abbrev cc4_sem4_1 : DmaSem sig := 36

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_4 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![128], ![false]⟩

@[reducible] def k1_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k1_mult1 (k1_t1 : Fin k1_t1_loop.trips) : BitVec 32 :=
  let c0_i32 : BitVec 32 := 0#32
  let c1_i32 : BitVec 32 := 1#32
  let arg4 : BitVec 32 := Scf.iv c0_i32 c1_i32 k1_t1
  let c8_i32 : BitVec 32 := 8#32
  let v2 : BitVec 32 := Scalar.muli arg4 c8_i32
  v2
def k1_off1 (k1_t1 : Fin k1_t1_loop.trips) : Fin 2 → Nat :=
  let c0_i32 : BitVec 32 := 0#32
  let c1_i32 : BitVec 32 := 1#32
  let arg4 : BitVec 32 := Scf.iv c0_i32 c1_i32 k1_t1
  let c8_i32 : BitVec 32 := 8#32
  let v2 : BitVec 32 := Scalar.muli arg4 c8_i32
  let v3 : BitVec 32 := v2
  let v4 : Index := Scalar.indexCast v3
  let c0 : Index := 0#32
  ![v4.toNat, 0]
def k1_off2 (k1_t1 : Fin k1_t1_loop.trips) : Fin 3 → Nat :=
  let c0_55 : Index := 0#32
  let c0_i32 : BitVec 32 := 0#32
  let c1_i32 : BitVec 32 := 1#32
  let arg4 : BitVec 32 := Scf.iv c0_i32 c1_i32 k1_t1
  let c8_i32 : BitVec 32 := 8#32
  let v2 : BitVec 32 := Scalar.muli arg4 c8_i32
  let v3 : BitVec 32 := v2
  let v258 : Index := Scalar.indexCast v3
  let c0_56 : Index := 0#32
  ![0, v258.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S128x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![16, 32], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S4x1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨3, ![16, 2, 16], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![64], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x4096 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S8x4096 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x4096 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S256x4096 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]
-- ==== ReferenceIdeal.lean ====
abbrev S16384x4096 : Shape := ⟨2, ![16384, 4096]⟩
abbrev S8x24576 : Shape := ⟨2, ![8, 24576]⟩
abbrev S1x4096 : Shape := ⟨2, ![1, 4096]⟩
abbrev S16384x128 : Shape := ⟨2, ![16384, 128]⟩
abbrev S4096 : Shape := ⟨1, ![4096]⟩
abbrev S_ : Shape := ⟨0, ![]⟩
abbrev S16384 : Shape := ⟨1, ![16384]⟩
abbrev S16384x1 : Shape := ⟨2, ![16384, 1]⟩
abbrev S16384x128x1 : Shape := ⟨3, ![16384, 128, 1]⟩
abbrev S16384x128x4096 : Shape := ⟨3, ![16384, 128, 4096]⟩

abbrev nBuf : Space → Nat
  | .hbm => 84
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S8x24576, .f32⟩
  | .hbm, ⟨2, _⟩ => ⟨S1x4096, .f32⟩
  | .hbm, ⟨3, _⟩ => ⟨S16384x128, .i32⟩
  | .hbm, ⟨4, _⟩ => ⟨S16384x128, .f32⟩
  | .hbm, ⟨5, _⟩ => ⟨S16384x4096, .f32⟩
  | .hbm, ⟨6, _⟩ => ⟨S16384x4096, .f32⟩
  | .hbm, ⟨7, _⟩ => ⟨S4096, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S16384x4096, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S1x4096, .f32⟩
  | .hbm, ⟨28, _⟩ => ⟨S1x4096, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S_, .i32⟩
  | .hbm, ⟨34, _⟩ => ⟨S16384x128, .i32⟩
  | .hbm, ⟨35, _⟩ => ⟨S16384x128, .i1⟩
  | .hbm, ⟨36, _⟩ => ⟨S_, .i32⟩
  | .hbm, ⟨37, _⟩ => ⟨S16384x128, .i32⟩
  | .hbm, ⟨38, _⟩ => ⟨S16384x128, .i32⟩
  | .hbm, ⟨39, _⟩ => ⟨S16384x128, .i32⟩
  | .hbm, ⟨40, _⟩ => ⟨S16384x128x1, .i32⟩
  | .hbm, ⟨41, _⟩ => ⟨S16384x128x4096, .f32⟩
  | .hbm, ⟨42, _⟩ => ⟨S16384x128, .f32⟩
  | .hbm, ⟨43, _⟩ => ⟨S_, .f32⟩
  | .hbm, ⟨44, _⟩ => ⟨S16384x128, .f32⟩
  | .hbm, ⟨45, _⟩ => ⟨S16384x128, .f32⟩
  | .hbm, ⟨46, _⟩ => ⟨S_, .f32⟩
  | .hbm, ⟨47, _⟩ => ⟨S16384x128, .f32⟩
  | .hbm, ⟨48, _⟩ => ⟨S16384x128, .f32⟩
  | .hbm, ⟨49, _⟩ => ⟨S16384x128, .f32⟩
  | .hbm, ⟨50, _⟩ => ⟨S_, .f32⟩
  | .hbm, ⟨51, _⟩ => ⟨S16384x128, .f32⟩
  | .hbm, ⟨52, _⟩ => ⟨S16384x128, .f32⟩
  | .hbm, ⟨53, _⟩ => ⟨S16384x128, .f32⟩
  | .hbm, ⟨54, _⟩ => ⟨S16384x128, .f32⟩
  | .hbm, ⟨55, _⟩ => ⟨S_, .i32⟩
  | .hbm, ⟨56, _⟩ => ⟨S16384x128, .i32⟩
  | .hbm, ⟨57, _⟩ => ⟨S16384x128, .i1⟩
  | .hbm, ⟨58, _⟩ => ⟨S_, .i32⟩
  | .hbm, ⟨59, _⟩ => ⟨S16384x128, .i32⟩
  | .hbm, ⟨60, _⟩ => ⟨S16384x128, .i32⟩
  | .hbm, ⟨61, _⟩ => ⟨S16384x128, .i32⟩
  | .hbm, ⟨62, _⟩ => ⟨S16384x128x1, .i32⟩
  | .hbm, ⟨63, _⟩ => ⟨S16384x128x4096, .f32⟩
  | .hbm, ⟨64, _⟩ => ⟨S16384x4096, .f32⟩
  | .hbm, ⟨65, _⟩ => ⟨S16384x4096, .f32⟩
  | .hbm, ⟨66, _⟩ => ⟨S16384x4096, .f32⟩
  | .hbm, ⟨67, _⟩ => ⟨S16384x4096, .f32⟩
  | .hbm, ⟨68, _⟩ => ⟨S16384x4096, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S16384x1, .f32⟩
  | .hbm, ⟨79, _⟩ => ⟨S16384x4096, .f32⟩
  | .hbm, ⟨80, _⟩ => ⟨S16384x4096, .f32⟩
  | .hbm, ⟨81, _⟩ => ⟨S1x4096, .f32⟩
  | .hbm, ⟨82, _⟩ => ⟨S16384x4096, .f32⟩
  | .hbm, ⟨83, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== Front.lean ====
abbrev S16384x4096 : Shape := ⟨2, ![16384, 4096]⟩
abbrev S256x4096 : Shape := ⟨2, ![256, 4096]⟩
abbrev S8x4096 : Shape := ⟨2, ![8, 4096]⟩
abbrev S4096x24576 : Shape := ⟨2, ![4096, 24576]⟩
abbrev S1x24576 : Shape := ⟨2, ![1, 24576]⟩
abbrev S1x4096 : Shape := ⟨2, ![1, 4096]⟩
abbrev S4096x16480 : Shape := ⟨2, ![4096, 16480]⟩
abbrev S1x96 : Shape := ⟨2, ![1, 96]⟩
abbrev S8x24576 : Shape := ⟨2, ![8, 24576]⟩
abbrev S4096x512 : Shape := ⟨2, ![4096, 512]⟩
abbrev S1x512 : Shape := ⟨2, ![1, 512]⟩
abbrev S8x512 : Shape := ⟨2, ![8, 512]⟩
abbrev S16640x4096 : Shape := ⟨2, ![16640, 4096]⟩
abbrev S256 : Shape := ⟨1, ![256]⟩
abbrev S256x1 : Shape := ⟨2, ![256, 1]⟩
abbrev S256x64x4096 : Shape := ⟨3, ![256, 64, 4096]⟩
abbrev S64x256x4096 : Shape := ⟨3, ![64, 256, 4096]⟩
abbrev S64x8x4096 : Shape := ⟨3, ![64, 8, 4096]⟩
abbrev S8x64x4096 : Shape := ⟨3, ![8, 64, 4096]⟩
abbrev S8x64 : Shape := ⟨2, ![8, 64]⟩
abbrev S8x64x1 : Shape := ⟨3, ![8, 64, 1]⟩
abbrev S1x1x4096 : Shape := ⟨3, ![1, 1, 4096]⟩
abbrev S4096x96 : Shape := ⟨2, ![4096, 96]⟩
abbrev S_ : Shape := ⟨0, ![]⟩
abbrev S4096x128 : Shape := ⟨2, ![4096, 128]⟩
abbrev S1x128 : Shape := ⟨2, ![1, 128]⟩
abbrev S16640x128 : Shape := ⟨2, ![16640, 128]⟩
abbrev S1280x4096 : Shape := ⟨2, ![1280, 4096]⟩
abbrev S1280x128 : Shape := ⟨2, ![1280, 128]⟩
abbrev S16384x128 : Shape := ⟨2, ![16384, 128]⟩
abbrev S1024x4096 : Shape := ⟨2, ![1024, 4096]⟩
abbrev S1024x128 : Shape := ⟨2, ![1024, 128]⟩

abbrev nBuf : Space → Nat
  | .hbm => 23
  | .vmem => 35
  | .smem => 0
  | _ => 0

abbrev bufTy : (tb : Table) → Fin (tcTables nBuf tb) → BufTy
  | .hbm, ⟨0, _⟩ => ⟨S16384x4096, .f32⟩
  | .hbm, ⟨1, _⟩ => ⟨S256x4096, .f32⟩
  | .hbm, ⟨2, _⟩ => ⟨S8x4096, .f32⟩
  | .hbm, ⟨3, _⟩ => ⟨S4096x24576, .f32⟩
  | .hbm, ⟨4, _⟩ => ⟨S1x24576, .f32⟩
  | .hbm, ⟨5, _⟩ => ⟨S1x4096, .f32⟩
  | .hbm, ⟨6, _⟩ => ⟨S4096x16480, .f32⟩
  | .hbm, ⟨7, _⟩ => ⟨S1x96, .f32⟩
  | .hbm, ⟨8, _⟩ => ⟨S8x24576, .f32⟩
  | .hbm, ⟨9, _⟩ => ⟨S16640x4096, .bf16⟩
  | .hbm, ⟨10, _⟩ => ⟨S256x64x4096, .f32⟩
  | .hbm, ⟨11, _⟩ => ⟨S64x256x4096, .bf16⟩
  | .hbm, ⟨12, _⟩ => ⟨S16384x4096, .bf16⟩
  | .hbm, ⟨13, _⟩ => ⟨S4096x16480, .bf16⟩
  | .hbm, ⟨14, _⟩ => ⟨S4096x96, .bf16⟩
  | .hbm, ⟨15, _⟩ => ⟨S_, .i32⟩
  | .hbm, ⟨16, _⟩ => ⟨S_, .bf16⟩
  | .hbm, ⟨17, _⟩ => ⟨S4096x128, .bf16⟩
  | .hbm, ⟨18, _⟩ => ⟨S_, .i32⟩
  | .hbm, ⟨19, _⟩ => ⟨S_, .f32⟩
  | .hbm, ⟨20, _⟩ => ⟨S1x128, .f32⟩
  | .hbm, ⟨21, _⟩ => ⟨S16640x128, .f32⟩
  | .hbm, ⟨22, _⟩ => ⟨S16384x128, .f32⟩
  | .local _ .vmem, ⟨0, _⟩ => ⟨S8x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .vmem, ⟨10, _⟩ => ⟨S256x4096, .f32⟩
  | .local _ .vmem, ⟨11, _⟩ => ⟨S1x4096, .f32⟩
  | .local _ .vmem, ⟨12, _⟩ => ⟨S8x4096, .f32⟩
  | .local _ .vmem, ⟨13, _⟩ => ⟨S8x4096, .f32⟩
  | .local _ .vmem, ⟨14, _⟩ => ⟨S256x4096, .bf16⟩
  | .local _ .vmem, ⟨15, _⟩ => ⟨S256x4096, .bf16⟩
  | .local _ .vmem, ⟨16, _⟩ => ⟨S64x8x4096, .f32⟩
  | .local _ .vmem, ⟨17, _⟩ => ⟨S64x8x4096, .f32⟩
  | .local _ .vmem, ⟨18, _⟩ => ⟨S1x4096, .f32⟩
  | .local _ .vmem, ⟨19, _⟩ => ⟨S8x4096, .f32⟩
  | .local _ .vmem, ⟨20, _⟩ => ⟨S8x4096, .f32⟩
  | .local _ .vmem, ⟨21, _⟩ => ⟨S8x64x4096, .bf16⟩
  | .local _ .vmem, ⟨22, _⟩ => ⟨S8x64x4096, .bf16⟩
  | .local _ .vmem, ⟨23, _⟩ => ⟨S1280x4096, .bf16⟩
  | .local _ .vmem, ⟨24, _⟩ => ⟨S1280x4096, .bf16⟩
  | .local _ .vmem, ⟨25, _⟩ => ⟨S4096x128, .bf16⟩
  | .local _ .vmem, ⟨26, _⟩ => ⟨S1x128, .f32⟩
  | .local _ .vmem, ⟨27, _⟩ => ⟨S1280x128, .f32⟩
  | .local _ .vmem, ⟨28, _⟩ => ⟨S1280x128, .f32⟩
  | .local _ .vmem, ⟨29, _⟩ => ⟨S1024x4096, .bf16⟩
  | .local _ .vmem, ⟨30, _⟩ => ⟨S1024x4096, .bf16⟩
  | .local _ .vmem, ⟨31, _⟩ => ⟨S4096x128, .bf16⟩
  | .local _ .vmem, ⟨32, _⟩ => ⟨S1x128, .f32⟩
  | .local _ .vmem, ⟨33, _⟩ => ⟨S1024x128, .f32⟩
  | .local _ .vmem, ⟨34, _⟩ => ⟨S1024x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_v7 : Ref sig .tc := ⟨.hbm, 17, rfl⟩
abbrev main_c_0 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem3_0 : DmaSem sig := 33
abbrev cc4_sem3_1 : DmaSem sig := 34

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![65], ![false]⟩

def cc1_transform_0 (i : grid1.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x4096 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![8, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S64x8x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S8x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S8x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S8x64x4096 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![13, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1280x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S4096x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1280x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![16, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S4096x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S1024x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]
-- ==== FrontReferenceIdeal.lean ====
abbrev S16384x4096 : Shape := ⟨2, ![16384, 4096]⟩
abbrev S256x4096 : Shape := ⟨2, ![256, 4096]⟩
abbrev S8x4096 : Shape := ⟨2, ![8, 4096]⟩
abbrev S4096x24576 : Shape := ⟨2, ![4096, 24576]⟩
abbrev S1x24576 : Shape := ⟨2, ![1, 24576]⟩
abbrev S1x4096 : Shape := ⟨2, ![1, 4096]⟩
abbrev S4096x16480 : Shape := ⟨2, ![4096, 16480]⟩
abbrev S1x96 : Shape := ⟨2, ![1, 96]⟩
abbrev S_ : Shape := ⟨0, ![]⟩
abbrev S8x24576 : Shape := ⟨2, ![8, 24576]⟩
abbrev S16384 : Shape := ⟨1, ![16384]⟩
abbrev S16384x1 : Shape := ⟨2, ![16384, 1]⟩
abbrev S256 : Shape := ⟨1, ![256]⟩
abbrev S256x1 : Shape := ⟨2, ![256, 1]⟩
abbrev S16640x4096 : Shape := ⟨2, ![16640, 4096]⟩
abbrev S256x64x4096 : Shape := ⟨3, ![256, 64, 4096]⟩
abbrev S64x256x4096 : Shape := ⟨3, ![64, 256, 4096]⟩
abbrev S4096x96 : Shape := ⟨2, ![4096, 96]⟩
abbrev S16640x96 : Shape := ⟨2, ![16640, 96]⟩
abbrev S16640x128 : Shape := ⟨2, ![16640, 128]⟩
abbrev S16384x96 : Shape := ⟨2, ![16384, 96]⟩
abbrev S16384x128 : Shape := ⟨2, ![16384, 128]⟩

abbrev nBuf : Space → Nat
  | .hbm => 88
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S256x4096, .f32⟩
  | .hbm, ⟨2, _⟩ => ⟨S8x4096, .f32⟩
  | .hbm, ⟨3, _⟩ => ⟨S4096x24576, .f32⟩
  | .hbm, ⟨4, _⟩ => ⟨S1x24576, .f32⟩
  | .hbm, ⟨5, _⟩ => ⟨S1x4096, .f32⟩
  | .hbm, ⟨6, _⟩ => ⟨S4096x16480, .f32⟩
  | .hbm, ⟨7, _⟩ => ⟨S1x96, .f32⟩
  | .hbm, ⟨8, _⟩ => ⟨S8x4096, .f32⟩
  | .hbm, ⟨9, _⟩ => ⟨S8x4096, .f32⟩
  | .hbm, ⟨10, _⟩ => ⟨S_, .f32⟩
  | .hbm, ⟨11, _⟩ => ⟨S8x4096, .f32⟩
  | .hbm, ⟨12, _⟩ => ⟨S8x4096, .f32⟩
  | .hbm, ⟨13, _⟩ => ⟨S_, .f32⟩
  | .hbm, ⟨14, _⟩ => ⟨S8x4096, .f32⟩
  | .hbm, ⟨15, _⟩ => ⟨S8x4096, .f32⟩
  | .hbm, ⟨16, _⟩ => ⟨S8x4096, .f32⟩
  | .hbm, ⟨17, _⟩ => ⟨S8x24576, .f32⟩
  | .hbm, ⟨18, _⟩ => ⟨S8x24576, .f32⟩
  | .hbm, ⟨19, _⟩ => ⟨S8x24576, .f32⟩
  | .hbm, ⟨20, _⟩ => ⟨S16384x4096, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x4096, .f32⟩
  | .hbm, ⟨32, _⟩ => ⟨S16384x4096, .f32⟩
  | .hbm, ⟨33, _⟩ => ⟨S16384x4096, .f32⟩
  | .hbm, ⟨34, _⟩ => ⟨S16384x4096, .f32⟩
  | .hbm, ⟨35, _⟩ => ⟨S1x4096, .f32⟩
  | .hbm, ⟨36, _⟩ => ⟨S_, .f32⟩
  | .hbm, ⟨37, _⟩ => ⟨S1x4096, .f32⟩
  | .hbm, ⟨38, _⟩ => ⟨S1x4096, .f32⟩
  | .hbm, ⟨39, _⟩ => ⟨S16384x4096, .f32⟩
  | .hbm, ⟨40, _⟩ => ⟨S16384x4096, .f32⟩
  | .hbm, ⟨41, _⟩ => ⟨S1x4096, .f32⟩
  | .hbm, ⟨42, _⟩ => ⟨S16384x4096, .f32⟩
  | .hbm, ⟨43, _⟩ => ⟨S16384x4096, .f32⟩
  | .hbm, ⟨44, _⟩ => ⟨S256x4096, .f32⟩
  | .hbm, ⟨45, _⟩ => ⟨S_, .f32⟩
  | .hbm, ⟨46, _⟩ => ⟨S256, .f32⟩
  | .hbm, ⟨47, _⟩ => ⟨S256x1, .f32⟩
  | .hbm, ⟨48, _⟩ => ⟨S_, .f32⟩
  | .hbm, ⟨49, _⟩ => ⟨S256x1, .f32⟩
  | .hbm, ⟨50, _⟩ => ⟨S256x1, .f32⟩
  | .hbm, ⟨51, _⟩ => ⟨S_, .f32⟩
  | .hbm, ⟨52, _⟩ => ⟨S256x1, .f32⟩
  | .hbm, ⟨53, _⟩ => ⟨S256x1, .f32⟩
  | .hbm, ⟨54, _⟩ => ⟨S256x1, .f32⟩
  | .hbm, ⟨55, _⟩ => ⟨S256x4096, .f32⟩
  | .hbm, ⟨56, _⟩ => ⟨S256x4096, .f32⟩
  | .hbm, ⟨57, _⟩ => ⟨S256x4096, .f32⟩
  | .hbm, ⟨58, _⟩ => ⟨S256x4096, .f32⟩
  | .hbm, ⟨59, _⟩ => ⟨S1x4096, .f32⟩
  | .hbm, ⟨60, _⟩ => ⟨S_, .f32⟩
  | .hbm, ⟨61, _⟩ => ⟨S1x4096, .f32⟩
  | .hbm, ⟨62, _⟩ => ⟨S1x4096, .f32⟩
  | .hbm, ⟨63, _⟩ => ⟨S256x4096, .f32⟩
  | .hbm, ⟨64, _⟩ => ⟨S256x4096, .f32⟩
  | .hbm, ⟨65, _⟩ => ⟨S1x4096, .f32⟩
  | .hbm, ⟨66, _⟩ => ⟨S256x4096, .f32⟩
  | .hbm, ⟨67, _⟩ => ⟨S256x4096, .f32⟩
  | .hbm, ⟨68, _⟩ => ⟨S16640x4096, .f32⟩
  | .hbm, ⟨69, _⟩ => ⟨S256x64x4096, .f32⟩
  | .hbm, ⟨70, _⟩ => ⟨S64x256x4096, .f32⟩
  | .hbm, ⟨71, _⟩ => ⟨S16384x4096, .f32⟩
  | .hbm, ⟨72, _⟩ => ⟨S16640x4096, .bf16⟩
  | .hbm, ⟨73, _⟩ => ⟨S16384x4096, .bf16⟩
  | .hbm, ⟨74, _⟩ => ⟨S4096x96, .f32⟩
  | .hbm, ⟨75, _⟩ => ⟨S16640x96, .f32⟩
  | .hbm, ⟨76, _⟩ => ⟨S16640x96, .f32⟩
  | .hbm, ⟨77, _⟩ => ⟨S16640x96, .f32⟩
  | .hbm, ⟨78, _⟩ => ⟨S_, .i32⟩
  | .hbm, ⟨79, _⟩ => ⟨S_, .f32⟩
  | .hbm, ⟨80, _⟩ => ⟨S16640x128, .f32⟩
  | .hbm, ⟨81, _⟩ => ⟨S4096x96, .f32⟩
  | .hbm, ⟨82, _⟩ => ⟨S16384x96, .f32⟩
  | .hbm, ⟨83, _⟩ => ⟨S16384x96, .f32⟩
  | .hbm, ⟨84, _⟩ => ⟨S16384x96, .f32⟩
  | .hbm, ⟨85, _⟩ => ⟨S_, .i32⟩
  | .hbm, ⟨86, _⟩ => ⟨S_, .f32⟩
  | .hbm, ⟨87, _⟩ => ⟨S16384x128, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c : Ref sig .tc := ⟨.hbm, 78, rfl⟩
abbrev main_call0_v0 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_c_9 : Ref sig .tc := ⟨.hbm, 85, rfl⟩
abbrev main_call1_v0 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== ProjMl.lean ====
abbrev S16640x4096 : Shape := ⟨2, ![16640, 4096]⟩
abbrev S4096x16480 : Shape := ⟨2, ![4096, 16480]⟩
abbrev S16640x8192 : Shape := ⟨2, ![16640, 8192]⟩
abbrev S1280x4096 : Shape := ⟨2, ![1280, 4096]⟩
abbrev S4096x512 : Shape := ⟨2, ![4096, 512]⟩
abbrev S1280x512 : Shape := ⟨2, ![1280, 512]⟩

abbrev nBuf : Space → Nat
  | .hbm => 4
  | .vmem => 6
  | .smem => 0
  | _ => 0

abbrev bufTy : (tb : Table) → Fin (tcTables nBuf tb) → BufTy
  | .hbm, ⟨0, _⟩ => ⟨S16640x4096, .bf16⟩
  | .hbm, ⟨1, _⟩ => ⟨S4096x16480, .f32⟩
  | .hbm, ⟨2, _⟩ => ⟨S4096x16480, .bf16⟩
  | .hbm, ⟨3, _⟩ => ⟨S16640x8192, .f32⟩
  | .local _ .vmem, ⟨0, _⟩ => ⟨S1280x4096, .bf16⟩
  | .local _ .vmem, ⟨1, _⟩ => ⟨S1280x4096, .bf16⟩
  | .local _ .vmem, ⟨2, _⟩ => ⟨S4096x512, .bf16⟩
  | .local _ .vmem, ⟨3, _⟩ => ⟨S4096x512, .bf16⟩
  | .local _ .vmem, ⟨4, _⟩ => ⟨S1280x512, .f32⟩
  | .local _ .vmem, ⟨5, _⟩ => ⟨S1280x512, .f32⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjMlReferenceIdeal.lean ====
abbrev S16640x4096 : Shape := ⟨2, ![16640, 4096]⟩
abbrev S4096x16480 : Shape := ⟨2, ![4096, 16480]⟩
abbrev S4096x8192 : Shape := ⟨2, ![4096, 8192]⟩
abbrev S16640x8192 : Shape := ⟨2, ![16640, 8192]⟩

abbrev nBuf : Space → Nat
  | .hbm => 5
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S4096x16480, .f32⟩
  | .hbm, ⟨2, _⟩ => ⟨S16640x4096, .f32⟩
  | .hbm, ⟨3, _⟩ => ⟨S4096x8192, .f32⟩
  | .hbm, ⟨4, _⟩ => ⟨S16640x8192, .f32⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjGdLat.lean ====
abbrev S16384x4096 : Shape := ⟨2, ![16384, 4096]⟩
abbrev S4096x16480 : Shape := ⟨2, ![4096, 16480]⟩
abbrev S16384x8192 : Shape := ⟨2, ![16384, 8192]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x16480, .f32⟩
  | .hbm, ⟨2, _⟩ => ⟨S4096x16480, .bf16⟩
  | .hbm, ⟨3, _⟩ => ⟨S16384x8192, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjGdLatReferenceIdeal.lean ====
abbrev S16384x4096 : Shape := ⟨2, ![16384, 4096]⟩
abbrev S4096x16480 : Shape := ⟨2, ![4096, 16480]⟩
abbrev S4096x8192 : Shape := ⟨2, ![4096, 8192]⟩
abbrev S16384x8192 : Shape := ⟨2, ![16384, 8192]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x16480, .f32⟩
  | .hbm, ⟨2, _⟩ => ⟨S16384x4096, .f32⟩
  | .hbm, ⟨3, _⟩ => ⟨S4096x8192, .f32⟩
  | .hbm, ⟨4, _⟩ => ⟨S16384x8192, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjGdCtx.lean ====
abbrev S16640x4096 : Shape := ⟨2, ![16640, 4096]⟩
abbrev S4096x16480 : Shape := ⟨2, ![4096, 16480]⟩
abbrev S256x8192 : Shape := ⟨2, ![256, 8192]⟩
abbrev S256x4096 : Shape := ⟨2, ![256, 4096]⟩
abbrev S4096x512 : Shape := ⟨2, ![4096, 512]⟩
abbrev S256x512 : Shape := ⟨2, ![256, 512]⟩

abbrev nBuf : Space → Nat
  | .hbm => 4
  | .vmem => 5
  | .smem => 0
  | _ => 0

abbrev bufTy : (tb : Table) → Fin (tcTables nBuf tb) → BufTy
  | .hbm, ⟨0, _⟩ => ⟨S16640x4096, .bf16⟩
  | .hbm, ⟨1, _⟩ => ⟨S4096x16480, .f32⟩
  | .hbm, ⟨2, _⟩ => ⟨S4096x16480, .bf16⟩
  | .hbm, ⟨3, _⟩ => ⟨S256x8192, .f32⟩
  | .local _ .vmem, ⟨0, _⟩ => ⟨S256x4096, .bf16⟩
  | .local _ .vmem, ⟨1, _⟩ => ⟨S4096x512, .bf16⟩
  | .local _ .vmem, ⟨2, _⟩ => ⟨S4096x512, .bf16⟩
  | .local _ .vmem, ⟨3, _⟩ => ⟨S256x512, .f32⟩
  | .local _ .vmem, ⟨4, _⟩ => ⟨S256x512, .f32⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjGdCtxReferenceIdeal.lean ====
abbrev S16640x4096 : Shape := ⟨2, ![16640, 4096]⟩
abbrev S4096x16480 : Shape := ⟨2, ![4096, 16480]⟩
abbrev S256x4096 : Shape := ⟨2, ![256, 4096]⟩
abbrev S4096x8192 : Shape := ⟨2, ![4096, 8192]⟩
abbrev S256x8192 : Shape := ⟨2, ![256, 8192]⟩

abbrev nBuf : Space → Nat
  | .hbm => 6
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S4096x16480, .f32⟩
  | .hbm, ⟨2, _⟩ => ⟨S256x4096, .bf16⟩
  | .hbm, ⟨3, _⟩ => ⟨S256x4096, .f32⟩
  | .hbm, ⟨4, _⟩ => ⟨S4096x8192, .f32⟩
  | .hbm, ⟨5, _⟩ => ⟨S256x8192, .f32⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixGd.lean ====
abbrev S16640x2048 : Shape := ⟨2, ![16640, 2048]⟩
abbrev S16384x8192 : Shape := ⟨2, ![16384, 8192]⟩
abbrev S16x128 : Shape := ⟨2, ![16, 128]⟩
abbrev S65x256x2048 : Shape := ⟨3, ![65, 256, 2048]⟩
abbrev S64x256x8192 : Shape := ⟨3, ![64, 256, 8192]⟩
abbrev S1x2048 : Shape := ⟨2, ![1, 2048]⟩
abbrev S256x64x2048 : Shape := ⟨3, ![256, 64, 2048]⟩
abbrev S16x32x2048 : Shape := ⟨3, ![16, 32, 2048]⟩
abbrev S32x16x2048 : Shape := ⟨3, ![32, 16, 2048]⟩
abbrev S16x32x128 : Shape := ⟨3, ![16, 32, 128]⟩
abbrev S1x128 : Shape := ⟨2, ![1, 128]⟩
abbrev S16x32 : Shape := ⟨2, ![16, 32]⟩
abbrev S16x32x1 : Shape := ⟨3, ![16, 32, 1]⟩
abbrev S1x1x128 : Shape := ⟨3, ![1, 1, 128]⟩
abbrev S32x16x128 : Shape := ⟨3, ![32, 16, 128]⟩

abbrev nBuf : Space → Nat
  | .hbm => 9
  | .vmem => 9
  | .smem => 0
  | _ => 0

abbrev bufTy : (tb : Table) → Fin (tcTables nBuf tb) → BufTy
  | .hbm, ⟨0, _⟩ => ⟨S16640x2048, .f32⟩
  | .hbm, ⟨1, _⟩ => ⟨S16640x2048, .f32⟩
  | .hbm, ⟨2, _⟩ => ⟨S16384x8192, .f32⟩
  | .hbm, ⟨3, _⟩ => ⟨S16x128, .f32⟩
  | .hbm, ⟨4, _⟩ => ⟨S65x256x2048, .f32⟩
  | .hbm, ⟨5, _⟩ => ⟨S65x256x2048, .f32⟩
  | .hbm, ⟨6, _⟩ => ⟨S64x256x8192, .f32⟩
  | .hbm, ⟨7, _⟩ => ⟨S1x2048, .f32⟩
  | .hbm, ⟨8, _⟩ => ⟨S256x64x2048, .bf16⟩
  | .local _ .vmem, ⟨0, _⟩ => ⟨S16x32x2048, .f32⟩
  | .local _ .vmem, ⟨1, _⟩ => ⟨S16x32x2048, .f32⟩
  | .local _ .vmem, ⟨2, _⟩ => ⟨S16x32x2048, .f32⟩
  | .local _ .vmem, ⟨3, _⟩ => ⟨S16x32x2048, .f32⟩
  | .local _ .vmem, ⟨4, _⟩ => ⟨S16x32x2048, .f32⟩
  | .local _ .vmem, ⟨5, _⟩ => ⟨S16x32x2048, .f32⟩
  | .local _ .vmem, ⟨6, _⟩ => ⟨S1x2048, .f32⟩
  | .local _ .vmem, ⟨7, _⟩ => ⟨S32x16x2048, .bf16⟩
  | .local _ .vmem, ⟨8, _⟩ => ⟨S32x16x2048, .bf16⟩
  | _, _ => ⟨S16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S16x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S32x16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MixGdReferenceIdeal.lean ====
abbrev S16640x2048 : Shape := ⟨2, ![16640, 2048]⟩
abbrev S16384x8192 : Shape := ⟨2, ![16384, 8192]⟩
abbrev S16x128 : Shape := ⟨2, ![16, 128]⟩
abbrev S16384x2048 : Shape := ⟨2, ![16384, 2048]⟩
abbrev S16384x16x128 : Shape := ⟨3, ![16384, 16, 128]⟩
abbrev S_ : Shape := ⟨0, ![]⟩
abbrev S16384x16 : Shape := ⟨2, ![16384, 16]⟩
abbrev S16384x16x1 : Shape := ⟨3, ![16384, 16, 1]⟩
abbrev S1x16x128 : Shape := ⟨3, ![1, 16, 128]⟩
abbrev S64x256x2048 : Shape := ⟨3, ![64, 256, 2048]⟩
abbrev S256x64x2048 : Shape := ⟨3, ![256, 64, 2048]⟩

abbrev nBuf : Space → Nat
  | .hbm => 39
  | .vmem => 0
  | .smem => 0
  | _ => 0

abbrev bufTy : (tb : Table) → Fin (tcTables nBuf tb) → BufTy
  | .hbm, ⟨0, _⟩ => ⟨S16640x2048, .f32⟩
  | .hbm, ⟨1, _⟩ => ⟨S16640x2048, .f32⟩
  | .hbm, ⟨2, _⟩ => ⟨S16384x8192, .f32⟩
  | .hbm, ⟨3, _⟩ => ⟨S16x128, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S16384x16x128, .f32⟩
  | .hbm, ⟨9, _⟩ => ⟨S16384x16x128, .f32⟩
  | .hbm, ⟨10, _⟩ => ⟨S_, .f32⟩
  | .hbm, ⟨11, _⟩ => ⟨S16384x16, .f32⟩
  | .hbm, ⟨12, _⟩ => ⟨S16384x16x1, .f32⟩
  | .hbm, ⟨13, _⟩ => ⟨S_, .f32⟩
  | .hbm, ⟨14, _⟩ => ⟨S16384x16x1, .f32⟩
  | .hbm, ⟨15, _⟩ => ⟨S16384x16x1, .f32⟩
  | .hbm, ⟨16, _⟩ => ⟨S_, .f32⟩
  | .hbm, ⟨17, _⟩ => ⟨S16384x16x1, .f32⟩
  | .hbm, ⟨18, _⟩ => ⟨S16384x16x1, .f32⟩
  | .hbm, ⟨19, _⟩ => ⟨S16384x16x1, .f32⟩
  | .hbm, ⟨20, _⟩ => ⟨S16384x16x128, .f32⟩
  | .hbm, ⟨21, _⟩ => ⟨S16384x16x128, .f32⟩
  | .hbm, ⟨22, _⟩ => ⟨S1x16x128, .f32⟩
  | .hbm, ⟨23, _⟩ => ⟨S16384x16x128, .f32⟩
  | .hbm, ⟨24, _⟩ => ⟨S16384x16x128, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S64x256x2048, .f32⟩
  | .hbm, ⟨37, _⟩ => ⟨S256x64x2048, .f32⟩
  | .hbm, ⟨38, _⟩ => ⟨S256x64x2048, .bf16⟩
  | _, _ => ⟨S16640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Back.lean ====
abbrev S16640x2048 : Shape := ⟨2, ![16640, 2048]⟩
abbrev S16640x8192 : Shape := ⟨2, ![16640, 8192]⟩
abbrev S8x256 : Shape := ⟨2, ![8, 256]⟩
abbrev S256x64x2048 : Shape := ⟨3, ![256, 64, 2048]⟩
abbrev S4096x4096 : Shape := ⟨2, ![4096, 4096]⟩
abbrev S16384x4096 : Shape := ⟨2, ![16384, 4096]⟩
abbrev S8x24576 : Shape := ⟨2, ![8, 24576]⟩
abbrev S1x4096 : Shape := ⟨2, ![1, 4096]⟩
abbrev S4096x2048 : Shape := ⟨2, ![4096, 2048]⟩
abbrev S1x2048 : Shape := ⟨2, ![1, 2048]⟩
abbrev S16384x2048 : Shape := ⟨2, ![16384, 2048]⟩
abbrev S256x2048 : Shape := ⟨2, ![256, 2048]⟩
abbrev S256x256 : Shape := ⟨2, ![256, 256]⟩
abbrev S1x256 : Shape := ⟨2, ![1, 256]⟩
abbrev S256 : Shape := ⟨1, ![256]⟩
abbrev S256x1 : Shape := ⟨2, ![256, 1]⟩
abbrev S2048x4096 : Shape := ⟨2, ![2048, 4096]⟩
abbrev S1024x2048 : Shape := ⟨2, ![1024, 2048]⟩
abbrev S2048x512 : Shape := ⟨2, ![2048, 512]⟩
abbrev S1024x512 : Shape := ⟨2, ![1024, 512]⟩
abbrev S8x512 : Shape := ⟨2, ![8, 512]⟩
abbrev S1x512 : Shape := ⟨2, ![1, 512]⟩
abbrev S256x4096 : Shape := ⟨2, ![256, 4096]⟩
abbrev S8x4096 : Shape := ⟨2, ![8, 4096]⟩
abbrev S1024x4096 : Shape := ⟨2, ![1024, 4096]⟩
abbrev S4096x512 : Shape := ⟨2, ![4096, 512]⟩

abbrev nBuf : Space → Nat
  | .hbm => 20
  | .vmem => 38
  | .smem => 0
  | _ => 0

abbrev bufTy : (tb : Table) → Fin (tcTables nBuf tb) → BufTy
  | .hbm, ⟨0, _⟩ => ⟨S16640x2048, .f32⟩
  | .hbm, ⟨1, _⟩ => ⟨S16640x2048, .f32⟩
  | .hbm, ⟨2, _⟩ => ⟨S16640x8192, .f32⟩
  | .hbm, ⟨3, _⟩ => ⟨S8x256, .f32⟩
  | .hbm, ⟨4, _⟩ => ⟨S256x64x2048, .bf16⟩
  | .hbm, ⟨5, _⟩ => ⟨S4096x4096, .f32⟩
  | .hbm, ⟨6, _⟩ => ⟨S16384x4096, .f32⟩
  | .hbm, ⟨7, _⟩ => ⟨S8x24576, .f32⟩
  | .hbm, ⟨8, _⟩ => ⟨S1x4096, .f32⟩
  | .hbm, ⟨9, _⟩ => ⟨S4096x2048, .f32⟩
  | .hbm, ⟨10, _⟩ => ⟨S1x2048, .f32⟩
  | .hbm, ⟨11, _⟩ => ⟨S16384x2048, .bf16⟩
  | .hbm, ⟨12, _⟩ => ⟨S4096x4096, .bf16⟩
  | .hbm, ⟨13, _⟩ => ⟨S16384x2048, .bf16⟩
  | .hbm, ⟨14, _⟩ => ⟨S2048x4096, .bf16⟩
  | .hbm, ⟨15, _⟩ => ⟨S2048x4096, .bf16⟩
  | .hbm, ⟨16, _⟩ => ⟨S16384x4096, .f32⟩
  | .hbm, ⟨17, _⟩ => ⟨S16384x4096, .bf16⟩
  | .hbm, ⟨18, _⟩ => ⟨S4096x2048, .bf16⟩
  | .hbm, ⟨19, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .bf16⟩
  | .local _ .vmem, ⟨8, _⟩ => ⟨S256x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1024x2048, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S1024x512, .f32⟩
  | .local _ .vmem, ⟨18, _⟩ => ⟨S1024x512, .f32⟩
  | .local _ .vmem, ⟨19, _⟩ => ⟨S8x512, .f32⟩
  | .local _ .vmem, ⟨20, _⟩ => ⟨S8x512, .f32⟩
  | .local _ .vmem, ⟨21, _⟩ => ⟨S1024x512, .f32⟩
  | .local _ .vmem, ⟨22, _⟩ => ⟨S1024x512, .f32⟩
  | .local _ .vmem, ⟨23, _⟩ => ⟨S256x4096, .f32⟩
  | .local _ .vmem, ⟨24, _⟩ => ⟨S256x4096, .f32⟩
  | .local _ .vmem, ⟨25, _⟩ => ⟨S256x4096, .f32⟩
  | .local _ .vmem, ⟨26, _⟩ => ⟨S256x4096, .f32⟩
  | .local _ .vmem, ⟨27, _⟩ => ⟨S1x4096, .f32⟩
  | .local _ .vmem, ⟨28, _⟩ => ⟨S8x4096, .f32⟩
  | .local _ .vmem, ⟨29, _⟩ => ⟨S8x4096, .f32⟩
  | .local _ .vmem, ⟨30, _⟩ => ⟨S256x4096, .bf16⟩
  | .local _ .vmem, ⟨31, _⟩ => ⟨S256x4096, .bf16⟩
  | .local _ .vmem, ⟨32, _⟩ => ⟨S1024x4096, .bf16⟩
  | .local _ .vmem, ⟨33, _⟩ => ⟨S1024x4096, .bf16⟩
  | .local _ .vmem, ⟨34, _⟩ => ⟨S4096x512, .bf16⟩
  | .local _ .vmem, ⟨35, _⟩ => ⟨S4096x512, .bf16⟩
  | .local _ .vmem, ⟨36, _⟩ => ⟨S1024x512, .f32⟩
  | .local _ .vmem, ⟨37, _⟩ => ⟨S1024x512, .f32⟩
  | _, _ => ⟨S16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem6_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem5_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S8x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨1, ![64], ![false]⟩

def cc2_transform_0 (i : grid2.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc2_transform_4 (i : grid2.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8x4096 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x4096 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![16, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== BackReferenceIdeal.lean ====
abbrev S16640x2048 : Shape := ⟨2, ![16640, 2048]⟩
abbrev S16640x8192 : Shape := ⟨2, ![16640, 8192]⟩
abbrev S8x256 : Shape := ⟨2, ![8, 256]⟩
abbrev S256x64x2048 : Shape := ⟨3, ![256, 64, 2048]⟩
abbrev S4096x4096 : Shape := ⟨2, ![4096, 4096]⟩
abbrev S16384x4096 : Shape := ⟨2, ![16384, 4096]⟩
abbrev S8x24576 : Shape := ⟨2, ![8, 24576]⟩
abbrev S1x4096 : Shape := ⟨2, ![1, 4096]⟩
abbrev S4096x2048 : Shape := ⟨2, ![4096, 2048]⟩
abbrev S16384x2048 : Shape := ⟨2, ![16384, 2048]⟩
abbrev S16384x8x256 : Shape := ⟨3, ![16384, 8, 256]⟩
abbrev S_ : Shape := ⟨0, ![]⟩
abbrev S16384x8 : Shape := ⟨2, ![16384, 8]⟩
abbrev S16384x8x1 : Shape := ⟨3, ![16384, 8, 1]⟩
abbrev S1x8x256 : Shape := ⟨3, ![1, 8, 256]⟩
abbrev S16384 : Shape := ⟨1, ![16384]⟩
abbrev S16384x1 : Shape := ⟨2, ![16384, 1]⟩

abbrev nBuf : Space → Nat
  | .hbm => 74
  | .vmem => 0
  | .smem => 0
  | _ => 0

abbrev bufTy : (tb : Table) → Fin (tcTables nBuf tb) → BufTy
  | .hbm, ⟨0, _⟩ => ⟨S16640x2048, .f32⟩
  | .hbm, ⟨1, _⟩ => ⟨S16640x2048, .f32⟩
  | .hbm, ⟨2, _⟩ => ⟨S16640x8192, .f32⟩
  | .hbm, ⟨3, _⟩ => ⟨S8x256, .f32⟩
  | .hbm, ⟨4, _⟩ => ⟨S256x64x2048, .bf16⟩
  | .hbm, ⟨5, _⟩ => ⟨S4096x4096, .f32⟩
  | .hbm, ⟨6, _⟩ => ⟨S16384x4096, .f32⟩
  | .hbm, ⟨7, _⟩ => ⟨S8x24576, .f32⟩
  | .hbm, ⟨8, _⟩ => ⟨S1x4096, .f32⟩
  | .hbm, ⟨9, _⟩ => ⟨S4096x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x8x256, .f32⟩
  | .hbm, ⟨15, _⟩ => ⟨S16384x8x256, .f32⟩
  | .hbm, ⟨16, _⟩ => ⟨S_, .f32⟩
  | .hbm, ⟨17, _⟩ => ⟨S16384x8, .f32⟩
  | .hbm, ⟨18, _⟩ => ⟨S16384x8x1, .f32⟩
  | .hbm, ⟨19, _⟩ => ⟨S_, .f32⟩
  | .hbm, ⟨20, _⟩ => ⟨S16384x8x1, .f32⟩
  | .hbm, ⟨21, _⟩ => ⟨S16384x8x1, .f32⟩
  | .hbm, ⟨22, _⟩ => ⟨S_, .f32⟩
  | .hbm, ⟨23, _⟩ => ⟨S16384x8x1, .f32⟩
  | .hbm, ⟨24, _⟩ => ⟨S16384x8x1, .f32⟩
  | .hbm, ⟨25, _⟩ => ⟨S16384x8x1, .f32⟩
  | .hbm, ⟨26, _⟩ => ⟨S16384x8x256, .f32⟩
  | .hbm, ⟨27, _⟩ => ⟨S16384x8x256, .f32⟩
  | .hbm, ⟨28, _⟩ => ⟨S1x8x256, .f32⟩
  | .hbm, ⟨29, _⟩ => ⟨S16384x8x256, .f32⟩
  | .hbm, ⟨30, _⟩ => ⟨S16384x8x256, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S_, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .bf16⟩
  | .hbm, ⟨42, _⟩ => ⟨S16384x2048, .f32⟩
  | .hbm, ⟨43, _⟩ => ⟨S16384x4096, .f32⟩
  | .hbm, ⟨44, _⟩ => ⟨S1x4096, .f32⟩
  | .hbm, ⟨45, _⟩ => ⟨S16384x4096, .f32⟩
  | .hbm, ⟨46, _⟩ => ⟨S16384x4096, .f32⟩
  | .hbm, ⟨47, _⟩ => ⟨S16384x4096, .f32⟩
  | .hbm, ⟨48, _⟩ => ⟨S16384x4096, .f32⟩
  | .hbm, ⟨49, _⟩ => ⟨S16384x4096, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x4096, .f32⟩
  | .hbm, ⟨61, _⟩ => ⟨S16384x4096, .f32⟩
  | .hbm, ⟨62, _⟩ => ⟨S16384x4096, .f32⟩
  | .hbm, ⟨63, _⟩ => ⟨S16384x4096, .f32⟩
  | .hbm, ⟨64, _⟩ => ⟨S1x4096, .f32⟩
  | .hbm, ⟨65, _⟩ => ⟨S_, .f32⟩
  | .hbm, ⟨66, _⟩ => ⟨S1x4096, .f32⟩
  | .hbm, ⟨67, _⟩ => ⟨S1x4096, .f32⟩
  | .hbm, ⟨68, _⟩ => ⟨S16384x4096, .f32⟩
  | .hbm, ⟨69, _⟩ => ⟨S16384x4096, .f32⟩
  | .hbm, ⟨70, _⟩ => ⟨S1x4096, .f32⟩
  | .hbm, ⟨71, _⟩ => ⟨S16384x4096, .f32⟩
  | .hbm, ⟨72, _⟩ => ⟨S16384x4096, .f32⟩
  | .hbm, ⟨73, _⟩ => ⟨S16384x2048, .f32⟩
  | _, _ => ⟨S16640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Conv.lean ====
abbrev S16384x8192 : Shape := ⟨2, ![16384, 8192]⟩
abbrev S256x8192 : Shape := ⟨2, ![256, 8192]⟩
abbrev S5x6144 : Shape := ⟨2, ![5, 6144]⟩
abbrev S1x6144 : Shape := ⟨2, ![1, 6144]⟩
abbrev S16640x6144 : Shape := ⟨2, ![16640, 6144]⟩
abbrev S256x2048 : Shape := ⟨2, ![256, 2048]⟩
abbrev S8x2048 : Shape := ⟨2, ![8, 2048]⟩
abbrev S5x2048 : Shape := ⟨2, ![5, 2048]⟩
abbrev S1x2048 : Shape := ⟨2, ![1, 2048]⟩
abbrev S272x2048 : Shape := ⟨2, ![272, 2048]⟩
abbrev S256x128 : Shape := ⟨2, ![256, 128]⟩
abbrev S256 : Shape := ⟨1, ![256]⟩
abbrev S256x1 : Shape := ⟨2, ![256, 1]⟩

abbrev nBuf : Space → Nat
  | .hbm => 5
  | .vmem => 15
  | .smem => 0
  | _ => 0

abbrev bufTy : (tb : Table) → Fin (tcTables nBuf tb) → BufTy
  | .hbm, ⟨0, _⟩ => ⟨S16384x8192, .f32⟩
  | .hbm, ⟨1, _⟩ => ⟨S256x8192, .f32⟩
  | .hbm, ⟨2, _⟩ => ⟨S5x6144, .f32⟩
  | .hbm, ⟨3, _⟩ => ⟨S1x6144, .f32⟩
  | .hbm, ⟨4, _⟩ => ⟨S16640x6144, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | .local _ .vmem, ⟨8, _⟩ => ⟨S5x2048, .f32⟩
  | .local _ .vmem, ⟨9, _⟩ => ⟨S5x2048, .f32⟩
  | .local _ .vmem, ⟨10, _⟩ => ⟨S1x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S272x2048, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![65, 3], ![false, false]⟩

def cc0_transform_0 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.minsi arg0 c63_i32
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let c2047_i32 : BitVec 32 := 2047#32
  let v2 : BitVec 32 := Scalar.maxsi c0_i32 v1
  let v3 : BitVec 32 := Scalar.minsi c2047_i32 v2
  let c0_i32_0 : BitVec 32 := 0#32
  ![v3.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  ![v2.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S5x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvReferenceIdeal.lean ====
abbrev S16384x8192 : Shape := ⟨2, ![16384, 8192]⟩
abbrev S256x8192 : Shape := ⟨2, ![256, 8192]⟩
abbrev S5x6144 : Shape := ⟨2, ![5, 6144]⟩
abbrev S1x6144 : Shape := ⟨2, ![1, 6144]⟩
abbrev S_ : Shape := ⟨0, ![]⟩
abbrev S2x6144 : Shape := ⟨2, ![2, 6144]⟩
abbrev S16384x6144 : Shape := ⟨2, ![16384, 6144]⟩
abbrev S16388x6144 : Shape := ⟨2, ![16388, 6144]⟩
abbrev S6144 : Shape := ⟨1, ![6144]⟩
abbrev S16384x2048 : Shape := ⟨2, ![16384, 2048]⟩
abbrev S16384x16x128 : Shape := ⟨3, ![16384, 16, 128]⟩
abbrev S16384x16 : Shape := ⟨2, ![16384, 16]⟩
abbrev S16384x16x1 : Shape := ⟨3, ![16384, 16, 1]⟩
abbrev S256x6144 : Shape := ⟨2, ![256, 6144]⟩
abbrev S260x6144 : Shape := ⟨2, ![260, 6144]⟩
abbrev S256x2048 : Shape := ⟨2, ![256, 2048]⟩
abbrev S256x16x128 : Shape := ⟨3, ![256, 16, 128]⟩
abbrev S256x16 : Shape := ⟨2, ![256, 16]⟩
abbrev S256x16x1 : Shape := ⟨3, ![256, 16, 1]⟩
abbrev S16640x6144 : Shape := ⟨2, ![16640, 6144]⟩

abbrev nBuf : Space → Nat
  | .hbm => 175
  | .vmem => 0
  | .smem => 0
  | _ => 0

abbrev hbmTy0_0 (i : Nat) : BufTy := match i % 128 with
  | 0 => ⟨S16384x8192, .f32⟩
  | 1 => ⟨S256x8192, .f32⟩
  | 2 => ⟨S5x6144, .f32⟩
  | 3 => ⟨S1x6144, .f32⟩
  | 4 => ⟨S_, .f32⟩
  | 5 => ⟨S2x6144, .f32⟩
  | 6 => ⟨S16384x6144, .f32⟩
  | 7 => ⟨S16388x6144, .f32⟩
  | 8 => ⟨S6144, .f32⟩
  | 9 => ⟨S16384x6144, .f32⟩
  | 10 => ⟨S1x6144, .f32⟩
  | 11 => ⟨S6144, .f32⟩
  | 12 => ⟨S1x6144, .f32⟩
  | 13 => ⟨S16384x6144, .f32⟩
  | 14 => ⟨S16384x6144, .f32⟩
  | 15 => ⟨S_, .f32⟩
  | 16 => ⟨S16384x6144, .f32⟩
  | 17 => ⟨S16384x6144, .f32⟩
  | 18 => ⟨S16384x6144, .f32⟩
  | 19 => ⟨S1x6144, .f32⟩
  | 20 => ⟨S6144, .f32⟩
  | 21 => ⟨S1x6144, .f32⟩
  | 22 => ⟨S16384x6144, .f32⟩
  | 23 => ⟨S16384x6144, .f32⟩
  | 24 => ⟨S16384x6144, .f32⟩
  | 25 => ⟨S16384x6144, .f32⟩
  | 26 => ⟨S1x6144, .f32⟩
  | 27 => ⟨S6144, .f32⟩
  | 28 => ⟨S1x6144, .f32⟩
  | 29 => ⟨S16384x6144, .f32⟩
  | 30 => ⟨S16384x6144, .f32⟩
  | 31 => ⟨S16384x6144, .f32⟩
  | 32 => ⟨S16384x6144, .f32⟩
  | 33 => ⟨S1x6144, .f32⟩
  | 34 => ⟨S6144, .f32⟩
  | 35 => ⟨S1x6144, .f32⟩
  | 36 => ⟨S16384x6144, .f32⟩
  | 37 => ⟨S16384x6144, .f32⟩
  | 38 => ⟨S16384x6144, .f32⟩
  | 39 => ⟨S16384x6144, .f32⟩
  | 40 => ⟨S1x6144, .f32⟩
  | 41 => ⟨S6144, .f32⟩
  | 42 => ⟨S1x6144, .f32⟩
  | 43 => ⟨S16384x6144, .f32⟩
  | 44 => ⟨S16384x6144, .f32⟩
  | 45 => ⟨S16384x6144, .f32⟩
  | 46 => ⟨S1x6144, .f32⟩
  | 47 => ⟨S16384x6144, .f32⟩
  | 48 => ⟨S16384x6144, .f32⟩
  | 49 => ⟨S16384x6144, .f32⟩
  | 50 => ⟨S16384x6144, .f32⟩
  | 51 => ⟨S_, .f32⟩
  | 52 => ⟨S16384x6144, .f32⟩
  | 53 => ⟨S16384x6144, .f32⟩
  | 54 => ⟨S_, .f32⟩
  | 55 => ⟨S16384x6144, .f32⟩
  | 56 => ⟨S16384x6144, .f32⟩
  | 57 => ⟨S16384x6144, .f32⟩
  | 58 => ⟨S16384x2048, .f32⟩
  | 59 => ⟨S16384x16x128, .f32⟩
  | 60 => ⟨S16384x16x128, .f32⟩
  | 61 => ⟨S_, .f32⟩
  | 62 => ⟨S16384x16, .f32⟩
  | 63 => ⟨S16384x16x1, .f32⟩
  | 64 => ⟨S_, .f32⟩
  | 65 => ⟨S16384x16x1, .f32⟩
  | 66 => ⟨S16384x16x1, .f32⟩
  | 67 => ⟨S16384x16x1, .f32⟩
  | 68 => ⟨S16384x16x128, .f32⟩
  | 69 => ⟨S16384x16x128, .f32⟩
  | 70 => ⟨S16384x2048, .f32⟩
  | 71 => ⟨S_, .f32⟩
  | 72 => ⟨S16384x2048, .f32⟩
  | 73 => ⟨S16384x2048, .f32⟩
  | 74 => ⟨S16384x2048, .f32⟩
  | 75 => ⟨S16384x16x128, .f32⟩
  | 76 => ⟨S16384x16x128, .f32⟩
  | 77 => ⟨S_, .f32⟩
  | 78 => ⟨S16384x16, .f32⟩
  | 79 => ⟨S16384x16x1, .f32⟩
  | 80 => ⟨S_, .f32⟩
  | 81 => ⟨S16384x16x1, .f32⟩
  | 82 => ⟨S16384x16x1, .f32⟩
  | 83 => ⟨S16384x16x1, .f32⟩
  | 84 => ⟨S16384x16x128, .f32⟩
  | 85 => ⟨S16384x16x128, .f32⟩
  | 86 => ⟨S16384x2048, .f32⟩
  | 87 => ⟨S16384x2048, .f32⟩
  | 88 => ⟨S16384x6144, .f32⟩
  | 89 => ⟨S_, .f32⟩
  | 90 => ⟨S2x6144, .f32⟩
  | 91 => ⟨S256x6144, .f32⟩
  | 92 => ⟨S260x6144, .f32⟩
  | 93 => ⟨S6144, .f32⟩
  | 94 => ⟨S256x6144, .f32⟩
  | 95 => ⟨S1x6144, .f32⟩
  | 96 => ⟨S6144, .f32⟩
  | 97 => ⟨S1x6144, .f32⟩
  | 98 => ⟨S256x6144, .f32⟩
  | 99 => ⟨S256x6144, .f32⟩
  | 100 => ⟨S_, .f32⟩
  | 101 => ⟨S256x6144, .f32⟩
  | 102 => ⟨S256x6144, .f32⟩
  | 103 => ⟨S256x6144, .f32⟩
  | 104 => ⟨S1x6144, .f32⟩
  | 105 => ⟨S6144, .f32⟩
  | 106 => ⟨S1x6144, .f32⟩
  | 107 => ⟨S256x6144, .f32⟩
  | 108 => ⟨S256x6144, .f32⟩
  | 109 => ⟨S256x6144, .f32⟩
  | 110 => ⟨S256x6144, .f32⟩
  | 111 => ⟨S1x6144, .f32⟩
  | 112 => ⟨S6144, .f32⟩
  | 113 => ⟨S1x6144, .f32⟩
  | 114 => ⟨S256x6144, .f32⟩
  | 115 => ⟨S256x6144, .f32⟩
  | 116 => ⟨S256x6144, .f32⟩
  | 117 => ⟨S256x6144, .f32⟩
  | 118 => ⟨S1x6144, .f32⟩
  | 119 => ⟨S6144, .f32⟩
  | 120 => ⟨S1x6144, .f32⟩
  | 121 => ⟨S256x6144, .f32⟩
  | 122 => ⟨S256x6144, .f32⟩
  | 123 => ⟨S256x6144, .f32⟩
  | 124 => ⟨S256x6144, .f32⟩
  | 125 => ⟨S1x6144, .f32⟩
  | 126 => ⟨S6144, .f32⟩
  | 127 => ⟨S1x6144, .f32⟩
  | _ => ⟨S16384x8192, .f32⟩

abbrev hbmTy0_1 (i : Nat) : BufTy := match i % 128 with
  | 0 => ⟨S256x6144, .f32⟩
  | 1 => ⟨S256x6144, .f32⟩
  | 2 => ⟨S256x6144, .f32⟩
  | 3 => ⟨S1x6144, .f32⟩
  | 4 => ⟨S256x6144, .f32⟩
  | 5 => ⟨S256x6144, .f32⟩
  | 6 => ⟨S256x6144, .f32⟩
  | 7 => ⟨S256x6144, .f32⟩
  | 8 => ⟨S_, .f32⟩
  | 9 => ⟨S256x6144, .f32⟩
  | 10 => ⟨S256x6144, .f32⟩
  | 11 => ⟨S_, .f32⟩
  | 12 => ⟨S256x6144, .f32⟩
  | 13 => ⟨S256x6144, .f32⟩
  | 14 => ⟨S256x6144, .f32⟩
  | 15 => ⟨S256x2048, .f32⟩
  | 16 => ⟨S256x16x128, .f32⟩
  | 17 => ⟨S256x16x128, .f32⟩
  | 18 => ⟨S_, .f32⟩
  | 19 => ⟨S256x16, .f32⟩
  | 20 => ⟨S256x16x1, .f32⟩
  | 21 => ⟨S_, .f32⟩
  | 22 => ⟨S256x16x1, .f32⟩
  | 23 => ⟨S256x16x1, .f32⟩
  | 24 => ⟨S256x16x1, .f32⟩
  | 25 => ⟨S256x16x128, .f32⟩
  | 26 => ⟨S256x16x128, .f32⟩
  | 27 => ⟨S256x2048, .f32⟩
  | 28 => ⟨S_, .f32⟩
  | 29 => ⟨S256x2048, .f32⟩
  | 30 => ⟨S256x2048, .f32⟩
  | 31 => ⟨S256x2048, .f32⟩
  | 32 => ⟨S256x16x128, .f32⟩
  | 33 => ⟨S256x16x128, .f32⟩
  | 34 => ⟨S_, .f32⟩
  | 35 => ⟨S256x16, .f32⟩
  | 36 => ⟨S256x16x1, .f32⟩
  | 37 => ⟨S_, .f32⟩
  | 38 => ⟨S256x16x1, .f32⟩
  | 39 => ⟨S256x16x1, .f32⟩
  | 40 => ⟨S256x16x1, .f32⟩
  | 41 => ⟨S256x16x128, .f32⟩
  | 42 => ⟨S256x16x128, .f32⟩
  | 43 => ⟨S256x2048, .f32⟩
  | 44 => ⟨S256x2048, .f32⟩
  | 45 => ⟨S256x6144, .f32⟩
  | 46 => ⟨S16640x6144, .f32⟩
  | _ => ⟨S16384x8192, .f32⟩

abbrev hbmTy (i : Nat) : BufTy := match i / 128 with
  | 0 => hbmTy0_0 i
  | 1 => hbmTy0_1 i
  | _ => ⟨S16384x8192, .f32⟩

abbrev bufTy : (tb : Table) → Fin (tcTables nBuf tb) → BufTy
  | .hbm, ⟨i, _⟩ => hbmTy i
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_cst_1 : Ref sig .tc := ⟨.hbm, 51, rfl⟩
abbrev main_v45 : Ref sig .tc := ⟨.hbm, 52, rfl⟩
abbrev main_v46 : Ref sig .tc := ⟨.hbm, 53, rfl⟩
abbrev main_cst_2 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst_3 : Ref sig .tc := ⟨.hbm, 61, rfl⟩
abbrev main_v53 : Ref sig .tc := ⟨.hbm, 62, rfl⟩
abbrev main_v54 : Ref sig .tc := ⟨.hbm, 63, rfl⟩
abbrev main_cst_4 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_cst_5 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_cst_6 : Ref sig .tc := ⟨.hbm, 77, rfl⟩
abbrev main_v66 : Ref sig .tc := ⟨.hbm, 78, rfl⟩
abbrev main_v67 : Ref sig .tc := ⟨.hbm, 79, rfl⟩
abbrev main_cst_7 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_cst_8 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_cst_9 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_cst_10 : Ref sig .tc := ⟨.hbm, 136, rfl⟩
abbrev main_v121 : Ref sig .tc := ⟨.hbm, 137, rfl⟩
abbrev main_v122 : Ref sig .tc := ⟨.hbm, 138, rfl⟩
abbrev main_cst_11 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_cst_12 : Ref sig .tc := ⟨.hbm, 146, rfl⟩
abbrev main_v129 : Ref sig .tc := ⟨.hbm, 147, rfl⟩
abbrev main_v130 : Ref sig .tc := ⟨.hbm, 148, rfl⟩
abbrev main_cst_13 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_cst_14 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_cst_15 : Ref sig .tc := ⟨.hbm, 162, rfl⟩
abbrev main_v142 : Ref sig .tc := ⟨.hbm, 163, rfl⟩
abbrev main_v143 : Ref sig .tc := ⟨.hbm, 164, rfl⟩
abbrev main_cst_16 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩

abbrev nD : Nat := 1
abbrev τ : Topo := Topo.v7x

variable {F : FTy → Type} [FloatOps F]
-- ==== Proof.Weights.lean ====
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- The row numbers of a table of weights, in the first coordinate. -/
def rowIota : IVec S128x128 32 := iota .tc S128x128 32 [0] iota_S128x128_d0_w32

/-- One token's table of weights, from its expert indices and gates: the one-hot rows against the weighted one-hot
    columns, the gate split in two parts. -/
def slab (v0 : IVec S128x128 32) (e : IVec S1x128 32) (g : FVec Ideal S1x128 .f32) : FVec Ideal S128x128 .f32 :=
  have v10 : IVec S1x128 32 := broadcast S1x128 7#32
  have v11 : IVec S1x128 32 := shrui e v10
  have v12 : IVec S1x128 32 := broadcast S1x128 127#32
  have v13 : IVec S1x128 32 := andi e v12
  have v14 : FVec Ideal S1x128 .bf16 := truncf .bf16 g bitsLt_bf16_f32
  have v15 : FVec Ideal S1x128 .f32 := extf .f32 v14 bitsLt_bf16_f32
  have v16 : IVec S128x128 32 := broadcastTo S128x128 v11 broadcasts_S1x128_S128x128
  have v17 : IVec S128x128 1 := cmpi .eq v0 v16
  have cst : Ideal .f32 := Scalar.ofBits .f32 0x3F800000#32
  have cst_2 : Ideal .f32 := Scalar.ofBits .f32 0x00000000#32
  have v18 : FVec Ideal S128x128 .f32 := broadcast S128x128 cst
  have v19 : FVec Ideal S128x128 .f32 := broadcast S128x128 cst_2
  have v20 : FVec Ideal S128x128 .f32 := select v17 v18 v19
  have v21 : FVec Ideal S128x128 .bf16 := truncf .bf16 v20 bitsLt_bf16_f32
  have v22 : IVec S128x128 32 := broadcastTo S128x128 v13 broadcasts_S1x128_S128x128
  have v23 : IVec S128x128 1 := cmpi .eq v0 v22
  have cst_3 : Ideal .f32 := Scalar.ofBits .f32 0x00000000#32
  have v24 : FVec Ideal S1x128 .f32 := shapeCast S1x128 v15 shapeCasts_S1x128_S1x128
  have v25 : FVec Ideal S128x128 .f32 := broadcastTo S128x128 v24 broadcasts_S1x128_S128x128
  have v26 : FVec Ideal S128x128 .f32 := broadcast S128x128 cst_3
  have v27 : FVec Ideal S128x128 .f32 := select v23 v25 v26
  have v28 : FVec Ideal S128x128 .bf16 := truncf .bf16 v27 bitsLt_bf16_f32
  have v29 : FVec Ideal S1x128 .f32 := subf g v15
  have cst_4 : Ideal .f32 := Scalar.ofBits .f32 0x00000000#32
  have v30 : FVec Ideal S1x128 .f32 := shapeCast S1x128 v29 shapeCasts_S1x128_S1x128
  have v31 : FVec Ideal S128x128 .f32 := broadcastTo S128x128 v30 broadcasts_S1x128_S128x128
  have v32 : FVec Ideal S128x128 .f32 := broadcast S128x128 cst_4
  have v33 : FVec Ideal S128x128 .f32 := select v23 v31 v32
  have v34 : FVec Ideal S128x128 .bf16 := truncf .bf16 v33 bitsLt_bf16_f32
  have v35 : FVec Ideal S128x256 .bf16 := concatenate S128x256 1 [⟨S128x128, v28⟩, ⟨S128x128, v34⟩] concatenates_S128x128_S128x128_S128x256_d1
  have v36 : FVec Ideal S128x256 .bf16 := concatenate S128x256 1 [⟨S128x128, v21⟩, ⟨S128x128, v21⟩] concatenates_S128x128_S128x128_S128x256_d1
  have cst_5 : FVec Ideal S128x128 .f32 := constant S128x128 .f32 0x00000000#32
  have v37 : FVec Ideal S128x128 .f32 := matmul dot_S128x256_S128x256_S128x128_1_1_0_0_n_n none v36 v35 cst_5
  v37

/-- The tables of eight tokens, the token in the middle coordinate. -/
def group (v0 : IVec S128x128 32) (v5 : IVec S8x128 32) (v7 : FVec Ideal S8x128 .f32) : FVec Ideal S128x8x128 .f32 :=
  transpose S128x8x128 [1, 0, 2] (concatenate S8x128x128 0 [⟨S1x128x128, shapeCast S1x128x128 (slab v0 (extractStridedSlice S1x128 ![0, 0] v5 slices_S8x128_o0_0_S1x128) (extractStridedSlice S1x128 ![0, 0] v7 slices_S8x128_o0_0_S1x128)) shapeCasts_S128x128_S1x128x128⟩, ⟨S1x128x128, shapeCast S1x128x128 (slab v0 (extractStridedSlice S1x128 ![1, 0] v5 slices_S8x128_o1_0_S1x128) (extractStridedSlice S1x128 ![1, 0] v7 slices_S8x128_o1_0_S1x128)) shapeCasts_S128x128_S1x128x128⟩, ⟨S1x128x128, shapeCast S1x128x128 (slab v0 (extractStridedSlice S1x128 ![2, 0] v5 slices_S8x128_o2_0_S1x128) (extractStridedSlice S1x128 ![2, 0] v7 slices_S8x128_o2_0_S1x128)) shapeCasts_S128x128_S1x128x128⟩, ⟨S1x128x128, shapeCast S1x128x128 (slab v0 (extractStridedSlice S1x128 ![3, 0] v5 slices_S8x128_o3_0_S1x128) (extractStridedSlice S1x128 ![3, 0] v7 slices_S8x128_o3_0_S1x128)) shapeCasts_S128x128_S1x128x128⟩, ⟨S1x128x128, shapeCast S1x128x128 (slab v0 (extractStridedSlice S1x128 ![4, 0] v5 slices_S8x128_o4_0_S1x128) (extractStridedSlice S1x128 ![4, 0] v7 slices_S8x128_o4_0_S1x128)) shapeCasts_S128x128_S1x128x128⟩, ⟨S1x128x128, shapeCast S1x128x128 (slab v0 (extractStridedSlice S1x128 ![5, 0] v5 slices_S8x128_o5_0_S1x128) (extractStridedSlice S1x128 ![5, 0] v7 slices_S8x128_o5_0_S1x128)) shapeCasts_S128x128_S1x128x128⟩, ⟨S1x128x128, shapeCast S1x128x128 (slab v0 (extractStridedSlice S1x128 ![6, 0] v5 slices_S8x128_o6_0_S1x128) (extractStridedSlice S1x128 ![6, 0] v7 slices_S8x128_o6_0_S1x128)) shapeCasts_S128x128_S1x128x128⟩, ⟨S1x128x128, shapeCast S1x128x128 (slab v0 (extractStridedSlice S1x128 ![7, 0] v5 slices_S8x128_o7_0_S1x128) (extractStridedSlice S1x128 ![7, 0] v7 slices_S8x128_o7_0_S1x128)) shapeCasts_S128x128_S1x128x128⟩] concatenates_S1x128x128_S1x128x128_S1x128x128_S1x128x128_S1x128x128_S1x128x128_S1x128x128_S1x128x128_S8x128x128_d0) transposes_S8x128x128_p1_0_2_S128x8x128

/-- The rows of a block that one trip reads. -/
abbrev rowsAt (k : Fin k1_t1_loop.trips) : Rect S128x128 := Rect.unit (s := S128x128) (k1_off1 k) S8x128.size (k1_off1_inb k)

/-- The one store of a trip: the tables of its eight tokens. -/
theorem trip_pieces (c : Dev nD) (i : grid1.Coords) (arg1 : Memref sig .tc .vmem S128x128 .i32) (harg1 : arg1.IsWhole) (arg2 : Memref sig .tc .vmem S128x128 .f32) (harg2 : arg2.IsWhole) (arg3 : Memref sig .tc .vmem S128x128x128 .f32) (harg3 : arg3.IsWhole) (v0 : IVec S128x128 32)
    (x0 : Vec Ideal S128x128 .i32) (x1 : Vec Ideal S128x128 .f32) (k : Fin k1_t1_loop.trips) :
    tripL_k1_t1 Variants.none c none i arg1 harg1 arg2 harg2 arg3 harg3 v0 (harg1.unread x0) (harg2.unread x1) k
      = [⟨Rect.unit (s := S128x128x128) (k1_off2 k) S128x8x128.size (k1_off2_inb k),
          group v0 (View.ld x0 (rowsAt k)) (View.ld x1 (rowsAt k))⟩] := by
  unfold tripL_k1_t1 trip_k1_t1
  dsimp only
  sl_unfold_words
  simp only [View.readAt_eq_ld, Memref.IsWhole.read_unread]
  rfl

/-- A word's row and column in the table are those of an index exactly when the word is the index's number. -/
theorem word_hits (w : BitVec 32) (a b : Fin 128) :
    (BitVec.ofNat 32 b.val = w &&& 127#32 ∧ BitVec.ofNat 32 a.val = w >>> 7#32) ↔ w.toNat = 128 * a.val + b.val := by
  have h1 : (w &&& 127#32).toNat = w.toNat % 128 := by
    rw [BitVec.toNat_and]; exact Nat.and_two_pow_sub_one_eq_mod w.toNat 7
  have h2 : (w >>> 7#32).toNat = w.toNat / 128 := by
    rw [BitVec.ushiftRight_eq', BitVec.toNat_ushiftRight, Nat.shiftRight_eq_div_pow]; rfl
  have ha := a.isLt
  have hb := b.isLt
  rw [← BitVec.toNat_inj, ← BitVec.toNat_inj, h1, h2, BitVec.toNat_ofNat, BitVec.toNat_ofNat,
    Nat.mod_eq_of_lt (show b.val < 2 ^ 32 by omega), Nat.mod_eq_of_lt (show a.val < 2 ^ 32 by omega)]
  omega

/-- The comparison words of the kernel, as one condition on the expert's number. -/
theorem pick_word (w : BitVec 32) (a b : Fin 128) (x : EReal) :
    Scalar.select (IntOp.cmpi CmpIPredicate.eq (BitVec.ofNat 32 b.val) (IntOp.andi w 127#32))
      (Scalar.select (IntOp.cmpi CmpIPredicate.eq (BitVec.ofNat 32 a.val) (IntOp.shrui ArithUnit.vector w 7#32)) x 0) 0
    = if w.toNat = 128 * a.val + b.val then x else 0 := by
  rw [← if_congr (word_hits w a b) rfl rfl]
  have h7 : (7#32).toNat < 32 := by decide
  simp only [Scalar.select, IntOp.cmpi, IntOp.andi, IntOp.shrui, if_pos h7]
  have ho : ∀ p : Bool, (BitVec.ofBool p = 1#1) ↔ p = true := by decide
  have hB : ∀ u v : BitVec 32, (BitVec.ofBool (u == v) = 1) ↔ u = v := fun u v => (ho _).trans beq_iff_eq
  rw [if_congr (hB _ _) (if_congr (hB _ _) rfl rfl) rfl, ← ite_and]

theorem same_word {w w' : BitVec 32} {n n' : ℕ} (h : w = w') (h' : n = n') : w.toNat = n ↔ w'.toNat = n' := by rw [h, h']

/-- A token's table: at row `a`, column `b`, the gates of the choices of expert `128 a + b`. -/
theorem slab_apply (e : IVec S1x128 32) (g : FVec Ideal S1x128 .f32) (hg : ∀ k, g k - g k = (0 : EReal)) (a b : Fin 128) :
    slab rowIota e g (ix2 a b)
      = ∑ k : Fin 128, if (e (ix2 0 k)).toNat = 128 * a.val + b.val then (g (ix2 0 k) : EReal) else 0 := by
  have h : slab rowIota e g (ix2 a b) = (∑ k : Fin 128, if (e (ix2 0 k)).toNat = 128 * a.val + b.val then (g (ix2 0 k) : EReal) else 0)
      + ∑ k : Fin 128, if (e (ix2 0 k)).toNat = 128 * a.val + b.val then (g (ix2 0 k) - g (ix2 0 k) : EReal) else 0 := by
    pointwise [slab, rowIota]
    simp only [pick_word]
  rw [h]
  simp only [hg, ite_self, Finset.sum_const_zero, add_zero]

theorem group_apply (v0 : IVec S128x128 32) (v5 : IVec S8x128 32) (v7 : FVec Ideal S8x128 .f32) (j : S128x8x128.Idx) :
    group v0 v5 v7 j = slab v0 (fun k => v5 (ix2 (j 1) (k 1))) (fun k => v7 (ix2 (j 1) (k 1))) (ix2 (j 0) (j 2)) := by
  pointwise [group]
  split_ifs <;>
    (refine congrFun (congr (congrArg (slab v0) (funext fun k => ?_)) (funext fun k => ?_)) _ <;> (pointwise; blk_ext))

/-- The dense table of all tokens: expert `128 a + b`'s weight for token `t` is the sum of the gates that choose it. -/
def dense (e : IVec S16384x128 32) (g : FVec Ideal S16384x128 .f32) : FVec Ideal S128x16384x128 .f32 := fun i =>
  ∑ k : Fin 128, if (e (ix2 (i 1) k)).toNat = 128 * (i 0).val + (i 2).val then (g (ix2 (i 1) k) : EReal) else 0

/-- Gates are finite: each less itself is zero. -/
def Finite (g : FVec Ideal S16384x128 .f32) : Prop := ∀ k, g k - g k = (0 : EReal)

/-- All stores of the trips before `n` agree at `y` with a value `v`, when every trip's rows do. -/
theorem pieces_at (c : Dev nD) (i : grid1.Coords) (arg1 : Memref sig .tc .vmem S128x128 .i32) (harg1 : arg1.IsWhole) (arg2 : Memref sig .tc .vmem S128x128 .f32) (harg2 : arg2.IsWhole) (arg3 : Memref sig .tc .vmem S128x128x128 .f32) (harg3 : arg3.IsWhole) (v0 : IVec S128x128 32)
    (x0 : Vec Ideal S128x128 .i32) (x1 : Vec Ideal S128x128 .f32) (y : S128x128x128.Idx) (v : EReal)
    (h : ∀ (k : Fin k1_t1_loop.trips) (x : S128x8x128.Idx), (y 0 : ℕ) = x 0 → (y 1 : ℕ) = 8 * k.val + x 1 → (y 2 : ℕ) = x 2 →
      group v0 (View.ld x0 (rowsAt k)) (View.ld x1 (rowsAt k)) x = v) :
    ∀ n, View.AllAt (pb_k1_t1 (F := Ideal) Variants.none c none i arg1 harg1 arg2 harg2 arg3 harg3 v0 (harg1.unread x0) (harg2.unread x1) n) y v
  | 0 => by rw [pb_k1_t1.eq_1]; exact View.allAt_nil (Val := Elt Ideal) (e := .f32) y v
  | n + 1 => by
    by_cases hn : n < k1_t1_loop.trips
    · have hs := pb_k1_t1_succ (F := Ideal) Variants.none c none i arg1 harg1 arg2 harg2 arg3 harg3 v0 (harg1.unread x0) (harg2.unread x1) ⟨n, hn⟩
      rw [trip_pieces] at hs
      rw [hs]
      refine View.allAt_cons_unit _ _ _ _ _ (fun x hx => h ⟨n, hn⟩ x ?_ ?_ ?_) (pieces_at c i arg1 harg1 arg2 harg2 arg3 harg3 v0 x0 x1 y v h n)
      · have := hx 0; rw [k1_off2_eq] at this; simpa using this
      · have := hx 1; rw [k1_off2_eq] at this; simpa using this
      · have := hx 2; rw [k1_off2_eq] at this; simpa using this
    · rw [pb_k1_t1.eq_2]; unfold pb_k1_t1Step; rw [dif_neg hn]
      exact pieces_at c i arg1 harg1 arg2 harg2 arg3 harg3 v0 x0 x1 y v h n

variable (V : (c : Dev nD) → (b : Ref sig .tc) → Buf (Elt Ideal) ((c : Thread nD τ).loc b))

theorem idx1 : ∀ t : Fin cfg1.N, win1_0.index t = ![t.val, 0] ∧ win1_1.index t = ![t.val, 0] ∧ win1_2.index t = ![0, t.val, 0] :=
  (by decide +kernel : ∀ t : Fin grid1.N, _)

theorem final1 (c : Dev nD) (hg : Finite (V c main_arg4)) :
    (dat1 V c).arrAt 2 cfg1.N = dense (V c main_arg3) (V c main_arg4) := by
  refine (dat1 V c).arrAt_eq_of_covers 2 _ (by decide +kernel) fun t _ y => ?_
  blk_simp
  rw [after1_2]; unfold outsAt1 out1_A_2
  rw [View.read_writes_junk_eq_canon]
  refine View.canon_eq_of_allAt _ _ _ (cover1_A_2 c _ _ _ _ _ _ _ _ _ y) ?_
  unfold kernelRun1_A
  dsimp only
  sl_unfold_words
  refine pieces_at c _ _ _ _ _ _ _ _ _ _ _ _ (fun k x h0 h1 h2 => ?_) _
  rw [group_apply]
  refine (slab_apply _ _ (fun q => ?_) (x 0) (x 2)).trans ?_
  · pointwise
    unfold iblk1
    exact hg _
  · pointwise [dense]
    have ho : k1_off1 k 0 = 8 * k.val ∧ k1_off1 k 1 = 0 := by rw [k1_off1_eq]; exact ⟨rfl, rfl⟩
    refine Finset.sum_congr rfl fun q _ => if_congr (same_word ?_ ?_) ?_ rfl
    · blk_point [iblk1, idx1 t, ho, h0, h1, h2]
    · blk_point [iblk1, idx1 t, ho, h0, h1, h2]
    · blk_point [iblk1, idx1 t, ho, h0, h1, h2]

end Cert.KernelIdeal.Value

end
-- ==== Proof.Act.lean ====
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- The activation on the reals, by the error function. -/
def gelu (h : EReal) : EReal := Ideal.ofBits .f32 0x3F000000#32 * h * (1 + (FloatOps.erf (F := Ideal) (φ := .f32) (h * Ideal.ofBits .f32 0x3F3504F3#32) : EReal))

/-- The score of token `t` against row `n` of the experts' first table. -/
def score (f : FVec Ideal S16384x4096 .bf16) (u : FVec Ideal S16384x4096 .bf16) (t n : Fin 16384) : EReal :=
  ∑ d : Fin 4096, f (ix2 t d) * u (ix2 n d)

/-- The weighted activations of all experts: the dense weight of expert `128 a + b` times the activation of its score. -/
def acts (f : FVec Ideal S16384x4096 .bf16) (u : FVec Ideal S16384x4096 .bf16) (w : FVec Ideal S128x16384x128 .f32) :
    FVec Ideal S16384x16384 .bf16 := fun i =>
  w (ix3 ⟨(i 1).val / 128, by have : (i 1).val < 16384 := (i 1).isLt; omega⟩ (i 0) ⟨(i 1).val % 128, by omega⟩)
    * gelu (score f u (i 0) (i 1))

variable (V : (c : Dev nD) → (b : Ref sig .tc) → Buf (Elt Ideal) ((c : Thread nD τ).loc b))

theorem idx2 : ∀ t : Fin cfg2.N, win2_0.index t = ![t.val / 32, 0] ∧ win2_1.index t = ![t.val % 32, 0]
    ∧ win2_2.index t = ![t.val % 32, t.val / 32, 0] ∧ win2_3.index t = ![t.val / 32, t.val % 32] :=
  (by decide +kernel : ∀ t : Fin grid2.N, _)

/-- One element of a block: the block's weight times the activation of the block's score is the array's element. -/
theorem element2 (c : Dev nD) (t : Fin cfg2.N) (y : S1024x512.Idx) (z : S4x1024x128.Idx) (s : S1024x512.Idx) (i : S16384x16384.Idx)
    (hz0 : (z 0 : ℕ) = (y 1 : ℕ) / 128) (hz1 : (z 1 : ℕ) = y 0) (hz2 : (z 2 : ℕ) = (y 1 : ℕ) % 128)
    (hs0 : (s 0 : ℕ) = y 0) (hs1 : (s 1 : ℕ) = y 1)
    (hi0 : (i 0 : ℕ) = t.val / 32 * 1024 + y 0) (hi1 : (i 1 : ℕ) = t.val % 32 * 512 + y 1) :
    (show FVec Ideal S4x1024x128 .f32 from iblk2 V c 2 t) z * gelu (k2_pay3 (F := Ideal) (iblk2 V c 0 t) (iblk2 V c 1 t) s)
      = acts (V c main_v0) (V c main_v2) (V c main_v1) i := by
  pointwise [k2_pay3, acts, score]
  blk_point [iblk2, idx2 t]

theorem final2 (c : Dev nD) : (dat2 V c).arrAt 3 cfg2.N
    = acts (V c main_v0) (V c main_v2) (V c main_v1) := by
  refine (dat2 V c).arrAt_eq_of_covers 3 _ (by decide +kernel) fun t _ y => ?_
  blk_simp
  rw [after2_3]; frame_out
  canon_tiles x h
  all_goals
    obtain_idx z : S4x1024x128 := [(y 1 : ℕ) / 128, (y 0 : ℕ), (y 1 : ℕ) % 128] with hz
    obtain_idx s : S1024x512 := [(y 0 : ℕ), (y 1 : ℕ)] with hs
    refine Eq.trans ?_ (element2 V c t y z s _ hz0 hz1 hz2 hs0 hs1 ?_ ?_)
    · open_payloads
      pointwise [gelu]
      generalize k2_pay3 (F := Ideal) (iblk2 V c 0 t) (iblk2 V c 1 t) = T
      blk_point []
    all_goals (blk_simp [idx2 t] <;> try omega)

end Cert.KernelIdeal.Value

end
-- ==== Proof.Out.lean ====
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- The activations summed against the experts' second table. -/
def outs (a : FVec Ideal S16384x16384 .bf16) (v : FVec Ideal S16384x4096 .bf16) : FVec Ideal S16384x4096 .f32 := fun i =>
  ∑ n : Fin 16384, a (ix2 (i 0) n) * v (ix2 n (i 1))

variable (V : (c : Dev nD) → (b : Ref sig .tc) → Buf (Elt Ideal) ((c : Thread nD τ).loc b))

theorem idx3 : ∀ t : Fin cfg3.N, win3_0.index t = ![t.val / 32, t.val % 16] ∧ win3_1.index t = ![t.val % 16, t.val / 16 % 2]
    ∧ win3_2.index t = ![t.val / 32, t.val / 16 % 2] :=
  (by decide +kernel : ∀ t : Fin grid3.N, _)

theorem zero3 (j) : k3_pay1 (F := Ideal) j = 0 := by pointwise [k3_pay1]

theorem step3 (acc : FVec Ideal S1024x2048 .f32) (a : FVec Ideal S1024x1024 .bf16) (v : FVec Ideal S1024x2048 .bf16) (j) :
    k3_pay2 acc a v j = acc j + ∑ k : Fin 1024, a (ix2 (j 0) k) * v (ix2 k (j 1)) := by pointwise [k3_pay2]

theorem final3 (c : Dev nD) : (dat3 V c).arrAt 2 cfg3.N = outs (V c main_v3) (V c main_v4) := by
  refine (dat3 V c).arrAt_eq_of_covers 2 _ (by decide +kernel) fun t hf y => ?_
  blk_simp
  rw [after3_2, Pipeline.eq_sum_fin_of_reset_step_apply_of_flush (fun n h => outsAt3 V c n h) 16 (fun _ => 0) _
    (fun t h j => by rw [outsAt3_A V c t h]; frame_out; rw [step3, zero3])
    (fun t h j => by rw [outsAt3_B V c t h]; frame_out; rw [step3])
    t ((flush3_2 t).mp hf) _, zero_add]
  unfold outs
  refine Fin.sum_mul_add_congr fun s k hl => ?_
  blk_point [iblk3, idx3 t, idx3 ⟨_, Pipeline.run_point_lt_of_flush t ((flush3_2 t).mp hf) s⟩]

end Cert.KernelIdeal.Value

end
-- ==== Proof.Norm.lean ====
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- One over the root mean square of row `t` of `x`. -/
def rms (x : FVec Ideal S16384x4096 .f32) (t : Fin 16384) : EReal :=
  Ideal.rsqrt (Ideal.div (∑ k : Fin 4096, x (ix2 t k) * x (ix2 t k)) (Ideal.ofBits .f32 0x45800000#32) + Ideal.ofBits .f32 0x358637BD#32)

/-- The normalised input of the experts: row normalisation, the gain, then the scale and shift of the modulation. -/
def hidden (x : FVec Ideal S16384x4096 .f32) (md : FVec Ideal S8x24576 .f32) (g : FVec Ideal S1x4096 .f32) :
    FVec Ideal S16384x4096 .bf16 := fun i =>
  x i * rms x (i 0) * g (ix2 0 (i 1)) * (1 + md (ix2 0 ⟨16384 + (i 1).val, by have : (i 1).val < 4096 := (i 1).isLt; omega⟩))
    + md (ix2 0 ⟨12288 + (i 1).val, by have : (i 1).val < 4096 := (i 1).isLt; omega⟩)

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![0, 0]
    ∧ win0_3.index t = ![0, 3] ∧ win0_4.index t = ![0, 4] ∧ win0_5.index t = ![t.val, 0] :=
  (by decide +kernel : ∀ t : Fin grid0.N, _)

/-- No point of the grid lies in the context rows. -/
theorem tokens_only : ∀ t : Fin cfg0.N, Scalar.cmpi CmpIPredicate.sge (BitVec.ofNat 32 (grid0.coords t 0).val) 64#32 = 0#1 :=
  (by decide +kernel : ∀ t : Fin grid0.N, _)

theorem select_second {α : Type} (a b : α) : Scalar.select 0#1 a b = b := rfl

theorem final0 (c : Dev nD) : (dat0 V c).arrAt 5 cfg0.N
    = hidden (V c main_arg0) (V c main_arg1) (V c main_arg2) := by
  refine (dat0 V c).arrAt_eq_of_covers 5 _ (by decide +kernel) fun t _ y => ?_
  blk_simp
  rw [after0_5]; frame_out
  pointwise [k0_pay1, hidden, rms]
  simp only [tokens_only, select_second]
  blk_point [iblk0, idx0 t]

end Cert.KernelIdeal.Value

end
-- ==== Proof.Last.lean ====
module

public import proofs.«01_k».proof.Proof.Gen.KernelIdeal.Frame
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- The residual row after the experts: the input plus the gated sum of the experts. -/
def mixed (x : FVec Ideal S16384x4096 .f32) (y : FVec Ideal S16384x4096 .f32) (md : FVec Ideal S8x24576 .f32) :
    FVec Ideal S16384x4096 .f32 := fun i =>
  x i + md (ix2 0 ⟨20480 + (i 1).val, by have : (i 1).val < 4096 := (i 1).isLt; omega⟩) * y i

/-- The layer's last step: the mixed row, normalised, times the last gain. -/
def lastNorm (x : FVec Ideal S16384x4096 .f32) (y : FVec Ideal S16384x4096 .f32) (md : FVec Ideal S8x24576 .f32)
    (g : FVec Ideal S1x4096 .f32) : FVec Ideal S16384x4096 .f32 := fun i =>
  mixed x y md i * rms (mixed x y md) (i 0) * g (ix2 0 (i 1))

variable (V : (c : Dev nD) → (b : Ref sig .tc) → Buf (Elt Ideal) ((c : Thread nD τ).loc b))

theorem idx4 : ∀ t : Fin cfg4.N, win4_0.index t = ![t.val, 0] ∧ win4_1.index t = ![t.val, 0] ∧ win4_2.index t = ![0, 5]
    ∧ win4_3.index t = ![0, 0] ∧ win4_4.index t = ![t.val, 0] :=
  (by decide +kernel : ∀ t : Fin grid4.N, _)

theorem final4 (c : Dev nD) : (dat4 V c).arrAt 4 cfg4.N
    = lastNorm (V c main_arg0) (V c main_v5) (V c main_arg1) (V c main_v6) := by
  refine (dat4 V c).arrAt_eq_of_covers 4 _ (by decide +kernel) fun t _ y => ?_
  blk_simp
  rw [after4_4]; frame_out
  pointwise [k4_pay1, lastNorm, mixed, rms]
  blk_point [iblk4, idx4 t]

end Cert.KernelIdeal.Value

end
-- ==== Proof.Result.lean ====
module

public import proofs.«01_k».proof.Proof.Weights
public import proofs.«01_k».proof.Proof.Act
public import proofs.«01_k».proof.Proof.Out
public import proofs.«01_k».proof.Proof.Last

/-!
  The run of the experts' program with its result named: the launch of the frame, keeping also what the result array
  holds at the end, and that value read back through the five calls to the arguments.
-/

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

section Launch

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The frame's run, keeping the result: it holds what the last call leaves, the arguments are as launched, every counter is zero. -/
theorem run_result : θ_run defs (onTc (τ := τ) (main (F := F))) ⟨m, fun _ => 0, ρ⟩ (fun r => (∀ c : Dev nD,
      r.2.mem ((c.tc : Thread nD τ).loc main_v7) = W8 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨(fun c =>
      ⟨(h c _ (mem_uc main_v7 (by decide))),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩), funext fun g => hz g (.inr (no_unscoped g.2))⟩)

end Launch

variable (m : (ℓ : Loc nD τ sig) → Buf (Elt Ideal) ℓ) (ρ : Dev nD → PrngReg)

/-- The one host operation before the last call lays the gain out as a row. -/
theorem last_gain (σ : Valuation τ sig (Elt Ideal)) : StableHlo.after hostOps4 σ (Proc.devRef .tc main_v6)
    = shapeCast S1x4096 (σ (Proc.devRef .tc main_arg7)) shapeCasts_S4096_S1x4096 := by
  after_results_simp
  rfl

/-- A vector laid out as a row, read at an index. -/
theorem row_of (g : FVec Ideal S4096 .f32) : shapeCast S1x4096 g shapeCasts_S4096_S1x4096 = fun i => g (ix1 (i 1)) := by
  refine funext fun i => ?_
  idx_vars i
  pointwise

/-- What the last call leaves, read back through the calls. -/
theorem result_eq (c : Dev nD) (hg : Finite (m ((c : Thread nD τ).loc main_arg4))) :
    W8 m ρ c (Proc.devRef .tc main_v7)
      = lastNorm (m ((c : Thread nD τ).loc main_arg0))
          (outs (acts (hidden (m ((c : Thread nD τ).loc main_arg0)) (m ((c : Thread nD τ).loc main_arg1)) (m ((c : Thread nD τ).loc main_arg2)))
              (m ((c : Thread nD τ).loc main_arg5)) (dense (m ((c : Thread nD τ).loc main_arg3)) (m ((c : Thread nD τ).loc main_arg4))))
            (m ((c : Thread nD τ).loc main_arg6)))
          (m ((c : Thread nD τ).loc main_arg1))
          (fun i => m ((c : Thread nD τ).loc main_arg7) (ix1 (i 1))) := by
  have h0 : V1 m ρ c main_v0 = hidden (m ((c : Thread nD τ).loc main_arg0)) (m ((c : Thread nD τ).loc main_arg1)) (m ((c : Thread nD τ).loc main_arg2)) :=
    (hF0 m ρ c 5).symm.trans (final0 (V0 m ρ) c)
  have h1 : V2 m ρ c main_v1 = dense (m ((c : Thread nD τ).loc main_arg3)) (m ((c : Thread nD τ).loc main_arg4)) := by
    have e3 : V1 m ρ c main_arg3 = m ((c : Thread nD τ).loc main_arg3) := W1_args m ρ c main_arg3 (by decide)
    have e4 : V1 m ρ c main_arg4 = m ((c : Thread nD τ).loc main_arg4) := W1_args m ρ c main_arg4 (by decide)
    refine (hF1 m ρ c 2).symm.trans ((final1 (V1 m ρ) c (by rw [e4]; exact hg)).trans ?_)
    rw [e3, e4]
  have h2 : V4 m ρ c main_v3 = acts (hidden (m ((c : Thread nD τ).loc main_arg0)) (m ((c : Thread nD τ).loc main_arg1)) (m ((c : Thread nD τ).loc main_arg2)))
      (m ((c : Thread nD τ).loc main_arg5)) (dense (m ((c : Thread nD τ).loc main_arg3)) (m ((c : Thread nD τ).loc main_arg4))) := by
    have e0 : V3 m ρ c main_v0 = V1 m ρ c main_v0 := (W3_of m ρ c main_v0 (by decide)).trans (W2_of m ρ c main_v0 (by decide))
    have e1 : V3 m ρ c main_v1 = V2 m ρ c main_v1 := W3_of m ρ c main_v1 (by decide)
    have e2 : V3 m ρ c main_v2 = m ((c : Thread nD τ).loc main_arg5) := by
      refine Eq.trans ?_ (W2_args m ρ c main_arg5 (by decide))
      unfold V3 W3
      after_results_simp
      rfl
    refine (hF2 m ρ c 3).symm.trans ((final2 (V3 m ρ) c).trans ?_)
    rw [e0, e1, e2, h0, h1]
  have h3 : V6 m ρ c main_v5 = outs (acts (hidden (m ((c : Thread nD τ).loc main_arg0)) (m ((c : Thread nD τ).loc main_arg1)) (m ((c : Thread nD τ).loc main_arg2)))
      (m ((c : Thread nD τ).loc main_arg5)) (dense (m ((c : Thread nD τ).loc main_arg3)) (m ((c : Thread nD τ).loc main_arg4))))
      (m ((c : Thread nD τ).loc main_arg6)) := by
    have e3 : V5 m ρ c main_v3 = V4 m ρ c main_v3 := W5_of m ρ c main_v3 (by decide)
    have e4 : V5 m ρ c main_v4 = m ((c : Thread nD τ).loc main_arg6) := by
      refine Eq.trans ?_ (W4_args m ρ c main_arg6 (by decide))
      unfold V5 W5
      after_results_simp
      rfl
    refine (hF3 m ρ c 2).symm.trans ((final3 (V5 m ρ) c).trans ?_)
    rw [e3, e4, h2]
  have e5 : V7 m ρ c main_v5 = V6 m ρ c main_v5 := W7_of m ρ c main_v5 (by decide)
  have e0 : V7 m ρ c main_arg0 = m ((c : Thread nD τ).loc main_arg0) := W7_args m ρ c main_arg0 (by decide)
  have e1 : V7 m ρ c main_arg1 = m ((c : Thread nD τ).loc main_arg1) := W7_args m ρ c main_arg1 (by decide)
  have e6 : V7 m ρ c main_v6 = fun i => m ((c : Thread nD τ).loc main_arg7) (ix1 (i 1)) := by
    refine (last_gain _).trans ((row_of _).trans (funext fun i => ?_))
    exact congrFun (W6_args m ρ c main_arg7 (by decide)) _
  refine (hF4 m ρ c 4).symm.trans ((final4 (V7 m ρ) c).trans ?_)
  rw [e0, e1, e5, e6, h3]
  rfl

end Cert.KernelIdeal.Value

end
-- ==== Proof.Gather.lean ====
module

public import proofs.«01_k».proof.Proof.Gen.ReferenceIdeal.Run
public import Idealize.ShloMosaic.Lib.Pipeline.ValueKit

/-!
  The row gather of the reference, read at an index.
-/

@[expose] public section

set_option maxRecDepth 16384

noncomputable section

open Idealize.ShloMosaic Idealize.ShloMosaic.TcCoe Idealize.SL.Sem

namespace Cert.ReferenceIdeal.Value

open Cert.ReferenceIdeal

/-- The record of the experts' row gather. -/
local notation "rowGather" => gather_S16384x4096_S16384x128x1_S16384x128x4096_2_0_n_n_0_2_14096

/-- Entry `(t, k, d)` of the gather is column `d` of the table's row number `idx (t, k)`, cut to the table's last row. -/
theorem gather_apply (x : FVec Ideal S16384x4096 .f32) (idx : IVec S16384x128x1 32) (t : Fin 16384) (k : Fin 128) (d : Fin 4096) :
    Host.gather rowGather x idx (ix3 t k d)
      = x (ix2 ⟨min (idx (ix3 t k 0)).toInt.toNat 16383, by omega⟩ d) := by
  unfold Host.gather
  refine congrArg x (funext fun a => Fin.ext ?_)
  show GatherDims.start rowGather (ix3 t k d) idx a + GatherDims.batchCoord rowGather (ix3 t k d) a
    + GatherDims.offCoord rowGather (ix3 t k d) a = _
  rw [GatherDims.batchCoord_eq_zero _ _ _ List.not_mem_nil, Nat.add_zero]
  have ha : a = 0 ∨ a = 1 := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ GatherDims.startIndexMap rowGather from List.mem_singleton.mpr rfl)]
    have hs : GatherDims.siIdx rowGather (ix3 t k d) ⟨List.idxOf (0 : Fin 2) [0], List.idxOf_lt_length_iff.2 (List.mem_singleton.mpr rfl)⟩ = ix3 t k 0 := by
      refine funext fun b => Fin.ext ?_
      match b with
      | ⟨0, _⟩ => rfl
      | ⟨1, _⟩ => rfl
      | ⟨2, _⟩ => rfl
    exact congrArg (fun q => min (idx q).toInt.toNat 16383) hs
  · unfold GatherDims.start
    rw [dif_neg (by decide), Nat.zero_add]
    unfold GatherDims.offCoord
    rw [dif_pos (by decide)]
    rfl

/-- A row number between 0 and 16383 is kept by the gather's treatment of negative and large numbers. -/
theorem row_kept (w : BitVec 32) (h : w.toNat < 16384) :
    min (Scalar.select (IntOp.cmpi CmpIPredicate.slt w 0#32) (IntOp.addi w 16384#32) w).toInt.toNat 16383 = w.toNat := by
  have hw : w.toInt = w.toNat := by rw [BitVec.toInt_eq_toNat_cond]; split <;> omega
  have hs : IntOp.cmpi CmpIPredicate.slt w 0#32 = 0#1 := by
    simp only [IntOp.cmpi, BitVec.slt_eq_decide, hw]
    rfl
  rw [hs]
  show min w.toInt.toNat 16383 = _
  rw [hw]; omega

end Cert.ReferenceIdeal.Value

end
-- ==== Proof.Math.lean ====
module

public import Mathlib.Data.EReal.Operations
public import Mathlib.Algebra.Order.BigOperators.Group.Finset
public import Mathlib.Algebra.BigOperators.Fin
public import Mathlib.Algebra.BigOperators.Group.Finset.Piecewise

@[expose] public section

/-! # Weights spread over a table against entries gathered from it

The kernel spreads the routing weights of a token over the whole table of experts and sums over the table. The
reference gathers the rows that the token is routed to and sums over these. Over the extended reals the two agree
when the weights are not negative. -/

namespace Cert.Peer

open Finset

/-- A sum of nonnegative numbers, times any number, is the sum of the products. -/
theorem sum_mul_nonneg {ι : Type} (s : Finset ι) (g : ι → EReal) (hg : ∀ k, 0 ≤ g k) (y : EReal) :
    (∑ k ∈ s, g k) * y = ∑ k ∈ s, g k * y := by
  classical
  induction s using Finset.induction_on with
  | empty => simp
  | insert a s ha ih =>
    rw [sum_insert ha, sum_insert ha,
      EReal.right_distrib_of_nonneg (hg a) (Finset.sum_nonneg fun k _ => hg k), ih]

/-- Spreading nonnegative weights over the table and summing over the table is summing over the entries gathered. -/
theorem spread_eq_gather {n K : Type} [Fintype n] [Fintype K] [DecidableEq n] (e : K → n) (g : K → EReal)
    (hg : ∀ k, 0 ≤ g k) (y : n → EReal) :
    ∑ i, (∑ k, if e k = i then g k else 0) * y i = ∑ k, g k * y (e k) := by
  have h : ∀ i, (∑ k, if e k = i then g k else 0) * y i = ∑ k, (if e k = i then g k * y i else 0) := fun i => by
    rw [sum_mul_nonneg _ _ (fun k => by split_ifs; exacts [hg k, le_refl _])]
    refine sum_congr rfl fun k _ => ?_
    split_ifs
    · rfl
    · rw [zero_mul]
  simp only [h]
  rw [sum_comm]
  refine sum_congr rfl fun k _ => ?_
  rw [sum_ite_eq univ (e k) (fun i => g k * y i), if_pos (mem_univ _)]

end Cert.Peer

end
-- ==== Proof.Reference.lean ====
module

public import proofs.«01_k».proof.Proof.Gather
public import proofs.«01_k».proof.Proof.Math
public import proofs.«01_k».proof.Proof.Weights
public import proofs.«01_k».proof.Proof.Act
public import proofs.«01_k».proof.Proof.Out
public import proofs.«01_k».proof.Proof.Last

/-!
  The reference's result, read step by step, and its equality with what the kernel leaves: the sum over a token's gathered
  rows is the sum over the whole table with the routing weights spread over it.
-/

@[expose] public section

set_option maxRecDepth 16384

noncomputable section

open Idealize.ShloMosaic Idealize.ShloMosaic.TcCoe Idealize.SL.Sem
open Cert.KernelIdeal.Value (hidden rms gelu score acts outs mixed lastNorm dense Finite)

namespace Cert.ReferenceIdeal.Value

open Cert.ReferenceIdeal Cert.ReferenceIdeal.Gen

/-- The reference's normalised and modulated input of the experts. -/
def tHidden (x : FVec Ideal S16384x4096 .f32) (md : FVec Ideal S8x24576 .f32) (g : FVec Ideal S1x4096 .f32) : FVec Ideal S16384x4096 .f32 :=
  addf (mulf (mulf (mulf x (broadcastInDim S16384x4096 ![0, 1] bcast_S16384x1_S16384x4096_0_1 (Host.rsqrt (addf (Host.divf (broadcastInDim S16384x1 ![0] bcast_S16384_S16384x1_0 (Host.reduceAdd (mulf x x) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 g)) (broadcastInDim S16384x4096 ![0, 1] bcast_S1x4096_S16384x4096_0_1 (addf (broadcastInDim S1x4096 ![] bcast_S_S1x4096 (constant S_ .f32 0x3F800000#32)) (extractStridedSlice S1x4096 ![0, 16384] md slices_S8x24576_S1x4096_0_16384)))) (broadcastInDim S16384x4096 ![0, 1] bcast_S1x4096_S16384x4096_0_1 (extractStridedSlice S1x4096 ![0, 12288] md slices_S8x24576_S1x4096_0_12288))

/-- The rows of a table that the tokens are routed to. -/
def tRows (u : FVec Ideal S16384x4096 .f32) (e : IVec S16384x128 32) : FVec Ideal S16384x128x4096 .f32 :=
  Host.gather gather_S16384x4096_S16384x128x1_S16384x128x4096_2_0_n_n_0_2_14096 u (broadcastInDim S16384x128x1 ![0, 1] bcast_S16384x128_S16384x128x1_0_1 (select (cmpi .slt e (broadcastInDim S16384x128 ![] bcast_S_S16384x128 (constantI S_ 32 0#32))) (addi e (broadcastInDim S16384x128 ![] bcast_S_S16384x128 (constantI S_ 32 16384#32))) e))

/-- The gated activations of the tokens' experts. -/
def tAct (f : FVec Ideal S16384x4096 .f32) (r : FVec Ideal S16384x128x4096 .f32) (g : FVec Ideal S16384x128 .f32) : FVec Ideal S16384x128 .f32 :=
  mulf g (mulf (mulf (broadcastInDim S16384x128 ![] bcast_S_S16384x128 (constant S_ .f32 0x3F000000#32)) (Host.dotGeneral dot_S16384x4096_S16384x128x4096_S16384x128_1_2_n_1_0_0 none f r)) (addf (broadcastInDim S16384x128 ![] bcast_S_S16384x128 (constant S_ .f32 0x3F800000#32)) (Host.erf (mulf (Host.dotGeneral dot_S16384x4096_S16384x128x4096_S16384x128_1_2_n_1_0_0 none f r) (broadcastInDim S16384x128 ![] bcast_S_S16384x128 (constant S_ .f32 0x3F3504F3#32))))))

/-- The sum of the experts' answers. -/
def tOut (a : FVec Ideal S16384x128 .f32) (r : FVec Ideal S16384x128x4096 .f32) : FVec Ideal S16384x4096 .f32 :=
  Host.dotGeneral dot_S16384x128_S16384x128x4096_S16384x4096_1_1_n_2_0_0 none a r

/-- The residual sum and the last normalisation. -/
def tLast (x y : FVec Ideal S16384x4096 .f32) (md : FVec Ideal S8x24576 .f32) (g : FVec Ideal S4096 .f32) : FVec Ideal S16384x4096 .f32 :=
  mulf (mulf (addf x (mulf (broadcastInDim S16384x4096 ![0, 1] bcast_S1x4096_S16384x4096_0_1 (extractStridedSlice S1x4096 ![0, 20480] md slices_S8x24576_S1x4096_0_20480)) y)) (broadcastInDim S16384x4096 ![0, 1] bcast_S16384x1_S16384x4096_0_1 (Host.rsqrt (addf (Host.divf (broadcastInDim S16384x1 ![0] bcast_S16384_S16384x1_0 (Host.reduceAdd (mulf (addf x (mulf (broadcastInDim S16384x4096 ![0, 1] bcast_S1x4096_S16384x4096_0_1 (extractStridedSlice S1x4096 ![0, 20480] md slices_S8x24576_S1x4096_0_20480)) y)) (addf x (mulf (broadcastInDim S16384x4096 ![0, 1] bcast_S1x4096_S16384x4096_0_1 (extractStridedSlice S1x4096 ![0, 20480] md slices_S8x24576_S1x4096_0_20480)) y))) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 g))

theorem tHidden_eq (x : FVec Ideal S16384x4096 .f32) (md : FVec Ideal S8x24576 .f32) (g : FVec Ideal S1x4096 .f32) :
    tHidden x md g = hidden x md g := by
  refine funext fun i => ?_
  idx_vars i
  pointwise [tHidden, Cert.KernelIdeal.Value.hidden, rms]

theorem tRows_apply (u : FVec Ideal S16384x4096 .f32) (e : IVec S16384x128 32) (he : ∀ i, (e i).toNat < 16384)
    (t : Fin 16384) (k : Fin 128) (d : Fin 4096) :
    tRows u e (ix3 t k d) = u (ix2 ⟨(e (ix2 t k)).toNat, he _⟩ d) := by
  unfold tRows
  rw [gather_apply]
  refine congrArg u (congrArg (fun n => ix2 n d) (Fin.ext ?_))
  refine Eq.trans ?_ (row_kept (e (ix2 t k)) (he _))
  pointwise

theorem tAct_apply (f : FVec Ideal S16384x4096 .f32) (r : FVec Ideal S16384x128x4096 .f32) (g : FVec Ideal S16384x128 .f32)
    (t : Fin 16384) (k : Fin 128) :
    tAct f r g (ix2 t k) = g (ix2 t k) * gelu (∑ d : Fin 4096, f (ix2 t d) * r (ix3 t k d)) := by
  pointwise [tAct, gelu]
  rfl

theorem tOut_apply (a : FVec Ideal S16384x128 .f32) (r : FVec Ideal S16384x128x4096 .f32) (t : Fin 16384) (d : Fin 4096) :
    tOut a r (ix2 t d) = ∑ k : Fin 128, a (ix2 t k) * r (ix3 t k d) := by
  pointwise [tOut]

theorem tLast_eq (x y : FVec Ideal S16384x4096 .f32) (md : FVec Ideal S8x24576 .f32) (g : FVec Ideal S4096 .f32) :
    tLast x y md g = lastNorm x y md (fun i => g (ix1 (i 1))) := by
  refine funext fun i => ?_
  idx_vars i
  pointwise [tLast, lastNorm, mixed, rms]
  trace_state

/-- The sum over the gathered rows is the sum over the table with the weights spread over it. -/
theorem experts_eq (f : FVec Ideal S16384x4096 .f32) (u v : FVec Ideal S16384x4096 .f32) (e : IVec S16384x128 32) (g : FVec Ideal S16384x128 .f32)
    (he : ∀ i, (e i).toNat < 16384) (hg : ∀ i, (0 : EReal) ≤ g i) :
    tOut (tAct f (tRows u e) g) (tRows v e) = outs (acts f u (dense e g)) v := by
  refine funext fun i => ?_
  idx_vars i
  rw [tOut_apply]
  simp only [tAct_apply, tRows_apply _ _ he]
  unfold outs acts dense
  refine Eq.trans ?_ (Eq.trans (Cert.Peer.spread_eq_gather (fun k : Fin 128 => (⟨(e (ix2 i0 k)).toNat, he _⟩ : Fin 16384))
    (fun k => (g (ix2 i0 k) : EReal)) (fun k => hg _) (fun n => gelu (score f u i0 n) * v (ix2 n i1))).symm ?_)
  · exact Finset.sum_congr rfl fun k _ => mul_assoc _ _ _
  · refine Finset.sum_congr rfl fun n _ => (mul_assoc _ _ _).symm.trans ?_
    refine congrArg (fun w : EReal => w * gelu (score f u i0 n) * v (ix2 n i1)) (Finset.sum_congr rfl fun k _ => if_congr ?_ rfl rfl)
    show _ ↔ (e (ix2 i0 k)).toNat = 128 * (n.val / 128) + n.val % 128
    rw [Fin.ext_iff, Nat.div_add_mod]

theorem result_eq (m : (ℓ : Loc nD τ sig) → Buf (Elt Ideal) ℓ) (c : Dev nD)
    (he : ∀ i, (m ((c.tc : Thread nD τ).loc main_arg3) i : BitVec 32).toNat < 16384) (hg : ∀ i, (0 : EReal) ≤ m ((c.tc : Thread nD τ).loc main_arg4) i) :
    res_main_v61 m c = lastNorm (m ((c.tc : Thread nD τ).loc main_arg0))
        (outs (acts (hidden (m ((c.tc : Thread nD τ).loc main_arg0)) (m ((c.tc : Thread nD τ).loc main_arg1)) (m ((c.tc : Thread nD τ).loc main_arg2)))
            (m ((c.tc : Thread nD τ).loc main_arg5)) (dense (m ((c.tc : Thread nD τ).loc main_arg3)) (m ((c.tc : Thread nD τ).loc main_arg4))))
          (m ((c.tc : Thread nD τ).loc main_arg6)))
        (m ((c.tc : Thread nD τ).loc main_arg1)) (fun i => m ((c.tc : Thread nD τ).loc main_arg7) (ix1 (i 1))) := by
  rw [← tLast_eq, ← tHidden_eq, ← experts_eq _ _ _ _ _ he hg]
  rfl

end Cert.ReferenceIdeal.Value

end
-- ==== Proof.Routed.lean ====
module

public import proofs.«01_k».proof.Pre_routed
public import proofs.«01_k».proof.Proof.Math
public import Idealize.ShloMosaic.Lib.Pipeline.ValueKit
public import Idealize.ShloMosaic.Lib.ReduceAll

/-!
  What the precondition on the routing says of its arrays: every expert's number is below 16384, every gate is a
  finite number that is not negative.
-/

@[expose] public section

set_option maxRecDepth 16384

noncomputable section

open Idealize.ShloMosaic

namespace Cert.Peer

open Cert.Pre_routed

theorem routed_facts : Cert.Pre_routed.Facts where
  bcast_S_S16384x128 := by decide
  reducesTo_S16384x128_S_d0_1 := by decide
  h_S_ := by decide

/-- Both halves of a conjunction of bits. -/
theorem and_bits {p q : BitVec 1} (h : IntOp.andi p q = 1#1) : p = 1#1 ∧ q = 1#1 := by
  revert p q; decide

/-- A word that is neither negative nor beyond the table is an expert's number. -/
theorem word_range {w : BitVec 32} (h : IntOp.andi (IntOp.cmpi .sge w 0#32) (IntOp.cmpi .slt w 16384#32) = 1#1) : w.toNat < 16384 := by
  have h1 := (and_bits h).1
  have h2 := (and_bits h).2
  have ho : ∀ p : Bool, (BitVec.ofBool p = 1#1) ↔ p = true := by decide
  simp only [IntOp.cmpi, ho, BitVec.sle_eq_decide, BitVec.slt_eq_decide, decide_eq_true_eq, BitVec.toInt_eq_toNat_cond,
    BitVec.toNat_ofNat, Nat.reducePow, Nat.reduceMod] at h1 h2
  omega

instance : Subsingleton S_.Idx := ⟨fun a b => funext fun k => k.elim0⟩

theorem routed_says [Cert.Pre_routed.Facts] (x : FVec Ideal S16384x4096 .f32) (md : FVec Ideal S8x24576 .f32) (gf : FVec Ideal S1x4096 .f32)
    (e : IVec S16384x128 32) (g : FVec Ideal S16384x128 .f32) (u v : FVec Ideal S16384x4096 .f32) (gl : FVec Ideal S4096 .f32)
    (h : Cert.Pre_routed.fn (F := Ideal) x md gf e g u v gl = fun _ => 1#1) :
    (∀ i, (e i).toNat < 16384) ∧ ∀ i, (0 : EReal) ≤ g i ∧ (g i : EReal) < ⊤ := by
  have h0 := congrFun h (fun k => k.elim0)
  simp only [Cert.Pre_routed.fn] at h0
  have hb := and_bits h0
  refine ⟨fun i => word_range (Host.reduce_andi_all _ _ _ _ _ hb.1 i), fun i => ?_⟩
  have hi := Host.reduce_andi_all _ _ _ _ _ hb.2 i
  have h3 := (and_bits hi).1
  have h4 := (and_bits hi).2
  pointwise at h3 h4
  have ho : ∀ p : Bool, (BitVec.ofBool p = 1#1) ↔ p = true := by decide
  rw [ho, decide_eq_true_eq] at h3 h4
  refine ⟨h3, lt_of_lt_of_le h4 le_top⟩

/-- A number that is not negative and less than infinity, less itself, is zero. -/
theorem sub_self_of_finite {x : EReal} (h : 0 ≤ x) (h' : x < ⊤) : x - x = 0 :=
  EReal.sub_self h'.ne (bot_lt_iff_ne_bot.1 (lt_of_lt_of_le EReal.bot_lt_zero h))

end Cert.Peer

end
-- ==== Proof.ProjMl.lean ====
module

public import proofs.«01_k».proof.Proof.Gen.ProjMlIdeal.Value
public import proofs.«01_k».proof.Proof.Gen.ProjMlReferenceIdeal.Run
public import Idealize.ShloMosaic.Lib.Pipeline.ValueKit

/-!
  The projection of the tokens to the first mixer's columns: each block of the kernel is the rows times the columns of
  the weight, and so is the reference.
-/

@[expose] public section

set_option maxRecDepth 16384

noncomputable section

open Idealize.ShloMosaic Idealize.ShloMosaic.TcCoe Idealize.SL.Sem
open Idealize.ShloMosaic.Pipeline (Dat)

namespace Cert.ProjMlIdeal.Value

open Cert.ProjMlIdeal Cert.ProjMlIdeal.Gen

/-- The rows times the first 8192 columns of the weight. -/
def proj (h : FVec Ideal S16640x4096 .bf16) (w : FVec Ideal S4096x16480 .f32) : FVec Ideal S16640x8192 .f32 := fun i =>
  ∑ k : Fin 4096, h (ix2 (i 0) k) * w (ix2 k ⟨(i 1).val, by have : (i 1).val < 8192 := (i 1).isLt; omega⟩)

variable (m : (ℓ : Loc nD τ sig) → Buf (Elt Ideal) ℓ) (ρ : Dev nD → PrngReg)

theorem idx0 : ∀ t : Fin cfg0.N, win0_0.index t = ![t.val / 16, 0] ∧ win0_1.index t = ![0, t.val % 16]
    ∧ win0_2.index t = ![t.val / 16, t.val % 16] :=
  (by decide +kernel : ∀ t : Fin grid0.N, _)

/-- The weight's block at a point. -/
theorem weight_block (c : Dev nD) (t : Fin cfg0.N) : (show FVec Ideal S4096x512 .bf16 from X0_1 m c t) = fun y =>
    (show FVec Ideal S4096x16480 .bf16 from V m c main_v0) (ix2 (y 0) ⟨t.val % 16 * 512 + (y 1).val, by have : (y 1).val < 512 := (y 1).isLt; omega⟩) := by
  funext y
  show X0_1 m c t y = _
  unfold X0_1 Pipeline.Window.fill
  rw [dif_pos (moved0_1 t _)]
  blk_point [iblk, idx0 t]

theorem cast_weight (c : Dev nD) : (show FVec Ideal S4096x16480 .bf16 from V m c main_v0) = m ((c : Thread nD τ).loc main_arg1) := by
  rfl

theorem kernel_eq (c : Dev nD) : (dats m 0 c).arrAt 2 cfg0.N
    = proj (m ((c : Thread nD τ).loc main_arg0)) (m ((c : Thread nD τ).loc main_arg1)) := by
  rw [← cast_weight m c, ← V_main_arg0 m c]
  refine (dats m 0 c).arrAt_eq_of_covers 2 _ (by decide +kernel) fun t hf y => ?_
  blk_simp
  rw [after0_2]; unfold outsAt0; frame_out
  pointwise [k0_pay1, proj]
  refine Finset.sum_congr (M := EReal) rfl fun k _ => ?_
  refine congrArg₂ (fun p q : EReal => p * q) ?_ ((congrFun (weight_block m c t) (ix2 k (y 1))).trans ?_)
  · blk_point [iblk, idx0 t]
  · blk_point [iblk, idx0 t]

end Cert.ProjMlIdeal.Value

namespace Cert.ProjMlReferenceIdeal.Value

open Cert.ProjMlReferenceIdeal Cert.ProjMlReferenceIdeal.Gen

theorem reference_eq (h : FVec Ideal S16640x4096 .bf16) (w : FVec Ideal S4096x16480 .f32) :
    Host.dotGeneral dot_S16640x4096_S4096x8192_S16640x8192_1_0_0_1_n_n none (extf .f32 h bitsLt_bf16_f32) (extractStridedSlice S4096x8192 ![0, 0] w slices_S4096x16480_S4096x8192_0_0)
      = Cert.ProjMlIdeal.Value.proj h w := by
  funext i
  pointwise [Cert.ProjMlIdeal.Value.proj]

end Cert.ProjMlReferenceIdeal.Value

end
-- ==== Proof.ProjGdLat.lean ====
module

public import proofs.«01_k».proof.Proof.Gen.ProjGdLatIdeal.Value
public import proofs.«01_k».proof.Proof.Gen.ProjGdLatReferenceIdeal.Run
public import Idealize.ShloMosaic.Lib.Pipeline.ValueKit

/-!
  The projection of the column-ordered tokens to the second mixer's columns: each block of the kernel is the rows times the columns of
  the weight, and so is the reference.
-/

@[expose] public section

set_option maxRecDepth 16384

noncomputable section

open Idealize.ShloMosaic Idealize.ShloMosaic.TcCoe Idealize.SL.Sem
open Idealize.ShloMosaic.Pipeline (Dat)

namespace Cert.ProjGdLatIdeal.Value

open Cert.ProjGdLatIdeal Cert.ProjGdLatIdeal.Gen

/-- The rows times the columns from 8192 up to 16384 of the weight. -/
def proj (h : FVec Ideal S16384x4096 .bf16) (w : FVec Ideal S4096x16480 .f32) : FVec Ideal S16384x8192 .f32 := fun i =>
  ∑ k : Fin 4096, h (ix2 (i 0) k) * w (ix2 k ⟨8192 + (i 1).val, by have : (i 1).val < 8192 := (i 1).isLt; omega⟩)

variable (m : (ℓ : Loc nD τ sig) → Buf (Elt Ideal) ℓ) (ρ : Dev nD → PrngReg)

theorem idx0 : ∀ t : Fin cfg0.N, win0_0.index t = ![t.val / 16, 0] ∧ win0_1.index t = ![0, t.val % 16 + 16]
    ∧ win0_2.index t = ![t.val / 16, t.val % 16] :=
  (by decide +kernel : ∀ t : Fin grid0.N, _)

/-- The weight's block at a point. -/
theorem weight_block (c : Dev nD) (t : Fin cfg0.N) : (show FVec Ideal S4096x512 .bf16 from X0_1 m c t) = fun y =>
    (show FVec Ideal S4096x16480 .bf16 from V m c main_v0) (ix2 (y 0) ⟨(t.val % 16 + 16) * 512 + (y 1).val, by have : (y 1).val < 512 := (y 1).isLt; omega⟩) := by
  funext y
  show X0_1 m c t y = _
  unfold X0_1 Pipeline.Window.fill
  rw [dif_pos (moved0_1 t _)]
  blk_point [iblk, idx0 t]

theorem cast_weight (c : Dev nD) : (show FVec Ideal S4096x16480 .bf16 from V m c main_v0) = m ((c : Thread nD τ).loc main_arg1) := by
  rfl

theorem kernel_eq (c : Dev nD) : (dats m 0 c).arrAt 2 cfg0.N
    = proj (m ((c : Thread nD τ).loc main_arg0)) (m ((c : Thread nD τ).loc main_arg1)) := by
  rw [← cast_weight m c, ← V_main_arg0 m c]
  refine (dats m 0 c).arrAt_eq_of_covers 2 _ (by decide +kernel) fun t hf y => ?_
  blk_simp
  rw [after0_2]; unfold outsAt0; frame_out
  pointwise [k0_pay1, proj]
  refine Finset.sum_congr (M := EReal) rfl fun k _ => ?_
  refine congrArg₂ (fun p q : EReal => p * q) ?_ ((congrFun (weight_block m c t) (ix2 k (y 1))).trans ?_)
  · blk_point [iblk, idx0 t]
  · blk_point [iblk, idx0 t]

end Cert.ProjGdLatIdeal.Value

namespace Cert.ProjGdLatReferenceIdeal.Value

open Cert.ProjGdLatReferenceIdeal Cert.ProjGdLatReferenceIdeal.Gen

theorem reference_eq (h : FVec Ideal S16384x4096 .bf16) (w : FVec Ideal S4096x16480 .f32) :
    Host.dotGeneral dot_S16384x4096_S4096x8192_S16384x8192_1_0_0_1_n_n none (extf .f32 h bitsLt_bf16_f32) (extractStridedSlice S4096x8192 ![0, 8192] w slices_S4096x16480_S4096x8192_0_8192)
      = Cert.ProjGdLatIdeal.Value.proj h w := by
  funext i
  pointwise [Cert.ProjGdLatIdeal.Value.proj]

end Cert.ProjGdLatReferenceIdeal.Value

end
-- ==== Proof.ProjGdCtx.lean ====
module

public import proofs.«01_k».proof.Proof.Gen.ProjGdCtxIdeal.Value
public import proofs.«01_k».proof.Proof.Gen.ProjGdCtxReferenceIdeal.Run
public import Idealize.ShloMosaic.Lib.Pipeline.ValueKit

/-!
  The projection of the context tokens to the second mixer's columns: each block of the kernel is the rows times the columns of
  the weight, and so is the reference.
-/

@[expose] public section

set_option maxRecDepth 16384

noncomputable section

open Idealize.ShloMosaic Idealize.ShloMosaic.TcCoe Idealize.SL.Sem
open Idealize.ShloMosaic.Pipeline (Dat)

namespace Cert.ProjGdCtxIdeal.Value

open Cert.ProjGdCtxIdeal Cert.ProjGdCtxIdeal.Gen

/-- Rows 16384 on times the columns from 8192 up to 16384 of the weight. -/
def proj (h : FVec Ideal S16640x4096 .bf16) (w : FVec Ideal S4096x16480 .f32) : FVec Ideal S256x8192 .f32 := fun i =>
  ∑ k : Fin 4096, h (ix2 ⟨16384 + (i 0).val, by have : (i 0).val < 256 := (i 0).isLt; omega⟩ k) * w (ix2 k ⟨8192 + (i 1).val, by have : (i 1).val < 8192 := (i 1).isLt; omega⟩)

variable (m : (ℓ : Loc nD τ sig) → Buf (Elt Ideal) ℓ) (ρ : Dev nD → PrngReg)

theorem idx0 : ∀ t : Fin cfg0.N, win0_0.index t = ![64, 0] ∧ win0_1.index t = ![0, t.val % 16 + 16]
    ∧ win0_2.index t = ![0, t.val % 16] :=
  (by decide +kernel : ∀ t : Fin grid0.N, _)

/-- The weight's block at a point. -/
theorem weight_block (c : Dev nD) (t : Fin cfg0.N) : (show FVec Ideal S4096x512 .bf16 from X0_1 m c t) = fun y =>
    (show FVec Ideal S4096x16480 .bf16 from V m c main_v0) (ix2 (y 0) ⟨(t.val % 16 + 16) * 512 + (y 1).val, by have : (y 1).val < 512 := (y 1).isLt; omega⟩) := by
  funext y
  show X0_1 m c t y = _
  unfold X0_1 Pipeline.Window.fill
  rw [dif_pos (moved0_1 t _)]
  blk_point [iblk, idx0 t]

theorem cast_weight (c : Dev nD) : (show FVec Ideal S4096x16480 .bf16 from V m c main_v0) = m ((c : Thread nD τ).loc main_arg1) := by
  rfl

theorem kernel_eq (c : Dev nD) : (dats m 0 c).arrAt 2 cfg0.N
    = proj (m ((c : Thread nD τ).loc main_arg0)) (m ((c : Thread nD τ).loc main_arg1)) := by
  rw [← cast_weight m c, ← V_main_arg0 m c]
  refine (dats m 0 c).arrAt_eq_of_covers 2 _ (by decide +kernel) fun t hf y => ?_
  blk_simp
  rw [after0_2]; unfold outsAt0; frame_out
  pointwise [k0_pay1, proj]
  refine Finset.sum_congr (M := EReal) rfl fun k _ => ?_
  refine congrArg₂ (fun p q : EReal => p * q) ?_ ((congrFun (weight_block m c t) (ix2 k (y 1))).trans ?_)
  · blk_point [iblk, idx0 t]
  · blk_point [iblk, idx0 t]

end Cert.ProjGdCtxIdeal.Value

namespace Cert.ProjGdCtxReferenceIdeal.Value

open Cert.ProjGdCtxReferenceIdeal Cert.ProjGdCtxReferenceIdeal.Gen

theorem reference_eq (h : FVec Ideal S16640x4096 .bf16) (w : FVec Ideal S4096x16480 .f32) :
    Host.dotGeneral dot_S256x4096_S4096x8192_S256x8192_1_0_0_1_n_n none (extf .f32 (extractStridedSlice S256x4096 ![16384, 0] h slices_S16640x4096_S256x4096_16384_0) bitsLt_bf16_f32) (extractStridedSlice S4096x8192 ![0, 8192] w slices_S4096x16480_S4096x8192_0_8192)
      = Cert.ProjGdCtxIdeal.Value.proj h w := by
  funext i
  pointwise [Cert.ProjGdCtxIdeal.Value.proj]

end Cert.ProjGdCtxReferenceIdeal.Value

end
-- ==== Proof.MixGd.lean ====
module

public import proofs.«01_k».proof.Proof.Gen.MixGdIdeal.Value
public import proofs.«01_k».proof.Proof.Gen.MixGdReferenceIdeal.Run
public import Idealize.ShloMosaic.Lib.Pipeline.ValueKit

/-!
  The second mixer's outputs: both directions summed, normalised head by head, gated, and put back from column order
  into row order. Each block of the kernel is a block of that array, and the reference is the same array.
-/

@[expose] public section

set_option maxRecDepth 16384

noncomputable section

open Idealize.ShloMosaic Idealize.ShloMosaic.TcCoe Idealize.SL.Sem
open Idealize.ShloMosaic.Pipeline (Dat)

namespace Cert.MixGdIdeal.Value

open Cert.MixGdIdeal Cert.MixGdIdeal.Gen

/-- The gate times a head's entry, normalised over the head's 128 entries `s` and times the gain. -/
def gated (z : EReal) (s : Fin 128 → EReal) (v g : EReal) : EReal :=
  z * Ideal.div 1 (1 + Ideal.exp (-z))
    * (v * Ideal.rsqrt (Ideal.div (∑ k : Fin 128, s k * s k) (Ideal.ofBits .f32 0x43000000#32) + Ideal.ofBits .f32 0x358637BD#32) * g)

/-- The second mixer's outputs in row order, of the directions and the gate in column order. -/
def mixGd (hf hb : FVec Ideal S65x256x2048 .f32) (pg : FVec Ideal S64x256x8192 .f32) (g : FVec Ideal S1x2048 .f32) : FVec Ideal S256x64x2048 .bf16 := fun i =>
  have h1 : (i 1).val < 64 := (i 1).isLt
  have h2 : (i 2).val < 2048 := (i 2).isLt
  gated (pg (ix3 (i 1) (i 0) ⟨6144 + (i 2).val, by omega⟩))
    (fun k => hf (ix3 ⟨(i 1).val, by omega⟩ (i 0) ⟨(i 2).val / 128 * 128 + k.val, by omega⟩) + hb (ix3 ⟨(i 1).val, by omega⟩ (i 0) ⟨(i 2).val / 128 * 128 + k.val, by omega⟩))
    (hf (ix3 ⟨(i 1).val, by omega⟩ (i 0) (i 2)) + hb (ix3 ⟨(i 1).val, by omega⟩ (i 0) (i 2))) (g (ix2 0 (i 2)))

variable (m : (ℓ : Loc nD τ sig) → Buf (Elt Ideal) ℓ) (ρ : Dev nD → PrngReg)

theorem idx0 : ∀ t : Fin cfg0.N, win0_0.index t = ![t.val / 8, t.val % 8, 0] ∧ win0_1.index t = ![t.val / 8, t.val % 8, 0]
    ∧ win0_2.index t = ![t.val / 8, t.val % 8, 3] ∧ win0_3.index t = ![0, 0] ∧ win0_4.index t = ![t.val % 8, t.val / 8, 0] :=
  (by decide +kernel : ∀ t : Fin grid0.N, _)

/-- A direction's block at a point. -/
theorem forward_block (c : Dev nD) (t : Fin cfg0.N) : (show FVec Ideal S16x32x2048 .f32 from X0_0 m c t) = fun y =>
    (show FVec Ideal S65x256x2048 .f32 from V m c main_v0) (ix3
      ⟨t.val / 8 * 16 + (y 0).val, by have : (y 0).val < 16 := (y 0).isLt; have : t.val < 32 := t.isLt; omega⟩
      ⟨t.val % 8 * 32 + (y 1).val, by have : (y 1).val < 32 := (y 1).isLt; omega⟩ (y 2)) := by
  funext y
  show X0_0 m c t y = _
  unfold X0_0 Pipeline.Window.fill
  rw [dif_pos (moved0_0 t _)]
  blk_point [iblk, idx0 t]

theorem backward_block (c : Dev nD) (t : Fin cfg0.N) : (show FVec Ideal S16x32x2048 .f32 from X0_1 m c t) = fun y =>
    (show FVec Ideal S65x256x2048 .f32 from V m c main_v1) (ix3
      ⟨t.val / 8 * 16 + (y 0).val, by have : (y 0).val < 16 := (y 0).isLt; have : t.val < 32 := t.isLt; omega⟩
      ⟨t.val % 8 * 32 + (y 1).val, by have : (y 1).val < 32 := (y 1).isLt; omega⟩ (y 2)) := by
  funext y
  show X0_1 m c t y = _
  unfold X0_1 Pipeline.Window.fill
  rw [dif_pos (moved0_1 t _)]
  blk_point [iblk, idx0 t]

/-- The gated entry of a block. -/
def blockMix (hf hb z : FVec Ideal S16x32x2048 .f32) (g : FVec Ideal S1x2048 .f32) (y : S32x16x2048.Idx) : EReal :=
  have h2 : (y 2).val < 2048 := (y 2).isLt
  gated (z (ix3 (y 1) (y 0) (y 2)))
    (fun k => hf (ix3 (y 1) (y 0) ⟨(y 2).val / 128 * 128 + k.val, by omega⟩) + hb (ix3 (y 1) (y 0) ⟨(y 2).val / 128 * 128 + k.val, by omega⟩))
    (hf (ix3 (y 1) (y 0) (y 2)) + hb (ix3 (y 1) (y 0) (y 2))) (g (ix2 0 (y 2)))

theorem element0 (c : Dev nD) (t : Fin cfg0.N) (y : S32x16x2048.Idx) (i : S256x64x2048.Idx)
    (hi0 : (i 0 : ℕ) = t.val % 8 * 32 + y 0) (hi1 : (i 1 : ℕ) = t.val / 8 * 16 + y 1) (hi2 : (i 2 : ℕ) = y 2) :
    blockMix (X0_0 m c t) (X0_1 m c t) (iblk m c 2 t) (iblk m c 3 t) y
      = mixGd (V m c main_v0) (V m c main_v1) (V m c main_v2) (V m c main_v3) i := by
  refine (congrArg₂ (fun p q : FVec Ideal S16x32x2048 .f32 => blockMix p q (iblk m c 2 t) (iblk m c 3 t) y) (forward_block m c t) (backward_block m c t)).trans ?_
  pointwise [blockMix, mixGd, gated]
  blk_point [iblk, idx0 t]

theorem kernel_eq (c : Dev nD) : (dats m 0 c).arrAt 4 cfg0.N
    = mixGd (V m c main_v0) (V m c main_v1) (V m c main_v2) (V m c main_v3) := by
  refine (dats m 0 c).arrAt_eq_of_covers 4 _ (by decide +kernel) fun t hf y => ?_
  blk_simp
  rw [after0_4]; unfold outsAt0; frame_out
  refine Eq.trans ?_ (element0 m c t y _ (by blk_simp [idx0 t]) (by blk_simp [idx0 t]) (by blk_simp [idx0 t]))
  generalize X0_0 m c t = b0
  generalize X0_1 m c t = b1
  generalize iblk m c 2 t = b2
  generalize iblk m c 3 t = b3
  canon_tiles x h
  all_goals
    open_payloads
    pointwise [blockMix, gated]
    simp only [zero_sub]
    blk_point []

theorem kernel_result (c : Dev nD) : (dats m 0 c).arrAt 4 cfg0.N
    = mixGd (shapeCast S65x256x2048 (m ((c : Thread nD τ).loc main_arg0)) shapeCasts_S16640x2048_S65x256x2048)
        (shapeCast S65x256x2048 (m ((c : Thread nD τ).loc main_arg1)) shapeCasts_S16640x2048_S65x256x2048)
        (shapeCast S64x256x8192 (m ((c : Thread nD τ).loc main_arg2)) shapeCasts_S16384x8192_S64x256x8192)
        (shapeCast S1x2048 (m ((c : Thread nD τ).loc main_arg3)) shapeCasts_S16x128_S1x2048) := by
  refine (kernel_eq m c).trans ?_
  rfl

end Cert.MixGdIdeal.Value

namespace Cert.MixGdReferenceIdeal.Value

open Cert.MixGdReferenceIdeal Cert.MixGdReferenceIdeal.Gen
open Cert.MixGdIdeal.Value (mixGd)

/-- The reference's result of its arguments. -/
def refMix (hf hb : FVec Ideal S16640x2048 .f32) (pg : FVec Ideal S16384x8192 .f32) (g : FVec Ideal S16x128 .f32) : FVec Ideal S256x64x2048 .bf16 :=
  truncf .bf16 (transpose S256x64x2048 [1, 0, 2] (shapeCast S64x256x2048 (mulf (mulf (extractStridedSlice S16384x2048 ![0, 6144] pg slices_S16384x8192_S16384x2048_0_6144) (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extractStridedSlice S16384x2048 ![0, 6144] pg slices_S16384x8192_S16384x2048_0_6144)))))) (shapeCast S16384x2048 (mulf (mulf (shapeCast S16384x16x128 (addf (extractStridedSlice S16384x2048 ![0, 0] hf slices_S16640x2048_S16384x2048_0_0) (extractStridedSlice S16384x2048 ![0, 0] hb slices_S16640x2048_S16384x2048_0_0)) shapeCasts_S16384x2048_S16384x16x128) (broadcastInDim S16384x16x128 ![0, 1, 2] bcast_S16384x16x1_S16384x16x128_0_1_2 (Host.rsqrt (addf (Host.divf (broadcastInDim S16384x16x1 ![0, 1] bcast_S16384x16_S16384x16x1_0_1 (Host.reduceAdd (mulf (shapeCast S16384x16x128 (addf (extractStridedSlice S16384x2048 ![0, 0] hf slices_S16640x2048_S16384x2048_0_0) (extractStridedSlice S16384x2048 ![0, 0] hb slices_S16640x2048_S16384x2048_0_0)) shapeCasts_S16384x2048_S16384x16x128) (shapeCast S16384x16x128 (addf (extractStridedSlice S16384x2048 ![0, 0] hf slices_S16640x2048_S16384x2048_0_0) (extractStridedSlice S16384x2048 ![0, 0] hb slices_S16640x2048_S16384x2048_0_0)) shapeCasts_S16384x2048_S16384x16x128)) (constant S_ .f32 0x00000000#32) reducesTo_S16384x16x128_S16384x16_d2 h_S_)) (broadcastInDim S16384x16x1 ![] bcast_S_S16384x16x1 (constant S_ .f32 0x43000000#32))) (broadcastInDim S16384x16x1 ![] bcast_S_S16384x16x1 (constant S_ .f32 0x358637BD#32)))))) (broadcastInDim S16384x16x128 ![0, 1, 2] bcast_S1x16x128_S16384x16x128_0_1_2 (broadcastInDim S1x16x128 ![1, 2] bcast_S16x128_S1x16x128_1_2 g))) shapeCasts_S16384x16x128_S16384x2048)) shapeCasts_S16384x2048_S64x256x2048) transposes_S64x256x2048_S256x64x2048_1_0_2) bitsLt_bf16_f32

theorem reference_eq (hf hb : FVec Ideal S16640x2048 .f32) (pg : FVec Ideal S16384x8192 .f32) (g : FVec Ideal S16x128 .f32) :
    refMix hf hb pg g = mixGd (shapeCast Cert.MixGdIdeal.S65x256x2048 hf Cert.MixGdIdeal.Facts₀.shapeCasts_S16640x2048_S65x256x2048)
        (shapeCast Cert.MixGdIdeal.S65x256x2048 hb Cert.MixGdIdeal.Facts₀.shapeCasts_S16640x2048_S65x256x2048)
        (shapeCast Cert.MixGdIdeal.S64x256x8192 pg Cert.MixGdIdeal.Facts₀.shapeCasts_S16384x8192_S64x256x8192)
        (shapeCast Cert.MixGdIdeal.S1x2048 g Cert.MixGdIdeal.Facts₀.shapeCasts_S16x128_S1x2048) := by
  funext i
  idx_vars i
  pointwise [refMix, mixGd, Cert.MixGdIdeal.Value.gated]

end Cert.MixGdReferenceIdeal.Value

end
-- ==== Proof.Front.lean ====
module

public import proofs.«01_k».proof.Proof.Gen.FrontIdeal.Frame
public import Idealize.ShloMosaic.Lib.Pipeline.ValueKit

/-!
  The five calls before the mixers: the modulation vectors, the modulated tokens in row order and in column order, and the gate
  projections of both, each at any contents of the arrays it reads.
-/

@[expose] public section

set_option maxRecDepth 16384

noncomputable section

open Idealize.ShloMosaic Idealize.ShloMosaic.TcCoe Idealize.SL.Sem
open Idealize.ShloMosaic.Pipeline (Dat)

namespace Cert.FrontIdeal.Value

open Cert.FrontIdeal Cert.FrontIdeal.Gen

/-- The sigmoid-weighted identity. -/
def silu (x : EReal) : EReal := x * Ideal.div 1 (1 + Ideal.exp (-x))

/-- The modulation vectors of the eight rows of `s`. -/
def modv (s : FVec Ideal S8x4096 .f32) (w : FVec Ideal S4096x24576 .f32) (b : FVec Ideal S1x24576 .f32) : FVec Ideal S8x24576 .f32 := fun i =>
  (∑ k : Fin 4096, silu (s (ix2 (i 0) k)) * w (ix2 k (i 1))) + b (ix2 0 (i 1))

/-- One over the root mean square of a row. -/
def rms (x : Fin 4096 → EReal) : EReal :=
  Ideal.rsqrt (Ideal.div (∑ k : Fin 4096, x k * x k) (Ideal.ofBits .f32 0x45800000#32) + Ideal.ofBits .f32 0x358637BD#32)

/-- A row normalised, times the gain, modulated by row `r` of the modulation vectors. -/
def modulated (x : Fin 4096 → EReal) (md : FVec Ideal S8x24576 .f32) (g : FVec Ideal S1x4096 .f32) (r : Fin 8) (d : Fin 4096) : EReal :=
  x d * rms x * g (ix2 0 d) * (1 + md (ix2 r ⟨4096 + d.val, by omega⟩)) + md (ix2 r ⟨d.val, by omega⟩)

/-- The modulated tokens in row order, the context tokens last. -/
def tokens (x : FVec Ideal S16384x4096 .f32) (ctx : FVec Ideal S256x4096 .f32) (md : FVec Ideal S8x24576 .f32) (g : FVec Ideal S1x4096 .f32) :
    FVec Ideal S16640x4096 .bf16 := fun i =>
  if h : (i 0).val < 16384 then modulated (fun k => x (ix2 ⟨(i 0).val, h⟩ k)) md g 0 (i 1)
  else modulated (fun k => ctx (ix2 ⟨(i 0).val - 16384, by have : (i 0).val < 16640 := (i 0).isLt; omega⟩ k)) md g 1 (i 1)

/-- The modulated tokens in column order, from tokens laid out in rows and columns. -/
def columns (x : FVec Ideal S256x64x4096 .f32) (md : FVec Ideal S8x24576 .f32) (g : FVec Ideal S1x4096 .f32) :
    FVec Ideal S64x256x4096 .bf16 := fun i => modulated (fun k => x (ix3 (i 1) (i 0) k)) md g 0 (i 2)

/-- Rows of tokens times the gate columns of the weight, plus the bias. -/
def gates {s : Shape} {n : Nat} (h : FVec Ideal s .bf16) (row : Fin n → Fin 4096 → s.Idx) (w : FVec Ideal S4096x128 .bf16) (b : FVec Ideal S1x128 .f32)
    (r : Fin n) (q : Fin 128) : EReal :=
  (∑ k : Fin 4096, h (row r k) * w (ix2 k q)) + b (ix2 0 q)

variable (V : (c : Dev nD) → (b : Ref sig .tc) → Buf (Elt Ideal) ((c : Thread nD τ).loc b))

theorem idx0 : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

theorem final0 (c : Dev nD) : (dat0 V c).arrAt 3 cfg0.N = modv (V c main_arg2) (V c main_arg3) (V c main_arg4) := by
  refine (dat0 V c).arrAt_eq_of_covers 3 _ (by decide +kernel) fun t _ y => ?_
  blk_simp
  rw [after0_3]; frame_out
  pointwise [k0_pay1, modv, silu]
  simp only [zero_sub]
  blk_point [iblk0, idx0 t]

theorem idx1 : ∀ t : Fin cfg1.N, win1_0.index t = ![min t.val 63, 0] ∧ win1_1.index t = ![t.val - 64, 0] ∧ win1_2.index t = ![0, 0]
    ∧ win1_3.index t = ![0, 0] ∧ win1_4.index t = ![0, 1] ∧ win1_5.index t = ![t.val, 0] :=
  (by decide +kernel : ∀ t : Fin grid1.N, _)

/-- The grid's points below 64 lie in the image rows, the others in the context rows. -/
theorem part : ∀ t : Fin cfg1.N, Scalar.cmpi CmpIPredicate.sge (BitVec.ofNat 32 (grid1.coords t 0).val) 64#32 = if t.val < 64 then 0#1 else 1#1 :=
  (by decide +kernel : ∀ t : Fin grid1.N, _)

theorem select_second {α : Type} (a b : α) : Scalar.select 0#1 a b = b := rfl
theorem select_first {α : Type} (a b : α) : Scalar.select 1#1 a b = a := rfl

theorem final1 (c : Dev nD) : (dat1 V c).arrAt 5 cfg1.N = tokens (V c main_arg0) (V c main_arg1) (V c main_v0) (V c main_arg5) := by
  refine (dat1 V c).arrAt_eq_of_covers 5 _ (by decide +kernel) fun t _ y => ?_
  blk_simp
  rw [after1_5]; frame_out
  by_cases ht : t.val < 64
  · have hp := part t
    rw [if_pos ht] at hp
    pointwise [k1_pay1]
    simp only [hp, select_second]
    unfold tokens
    rw [dif_pos (by have hy : (y 0).val < 256 := (y 0).isLt; blk_simp [idx1 t]; omega)]
    simp only [modulated, rms]
    blk_point [iblk1, idx1 t]
  · have hp := part t
    rw [if_neg ht] at hp
    pointwise [k1_pay1]
    simp only [hp, select_first]
    unfold tokens
    rw [dif_neg (by have hy : (y 0).val < 256 := (y 0).isLt; blk_simp [idx1 t]; omega)]
    simp only [modulated, rms]
    blk_point [iblk1, idx1 t]

theorem idx2 : ∀ t : Fin cfg2.N, win2_0.index t = ![t.val % 4, t.val / 4, 0] ∧ win2_1.index t = ![0, 0] ∧ win2_2.index t = ![0, 0]
    ∧ win2_3.index t = ![0, 1] ∧ win2_4.index t = ![t.val / 4, t.val % 4, 0] :=
  (by decide +kernel : ∀ t : Fin grid2.N, _)

theorem final2 (c : Dev nD) : (dat2 V c).arrAt 4 cfg2.N = columns (V c main_v2) (V c main_v0) (V c main_arg5) := by
  refine (dat2 V c).arrAt_eq_of_covers 4 _ (by decide +kernel) fun t _ y => ?_
  blk_simp
  rw [after2_4]; frame_out
  pointwise [k2_pay1, columns, modulated, rms]
  blk_point [iblk2, idx2 t]

theorem idx3 : ∀ t : Fin cfg3.N, win3_0.index t = ![t.val, 0] ∧ win3_1.index t = ![0, 0] ∧ win3_2.index t = ![0, 0] ∧ win3_3.index t = ![t.val, 0] :=
  (by decide +kernel : ∀ t : Fin grid3.N, _)

theorem final3 (c : Dev nD) : (dat3 V c).arrAt 3 cfg3.N
    = fun i : S16640x128.Idx => gates (s := S16640x4096) (V c main_v1) ix2 (V c main_v7) (V c main_v8) (i 0) (i 1) := by
  refine (dat3 V c).arrAt_eq_of_covers 3 _ (by decide +kernel) fun t _ y => ?_
  blk_simp
  rw [after3_3]; frame_out
  pointwise [k3_pay1, gates]
  blk_point [iblk3, idx3 t]

theorem idx4 : ∀ t : Fin cfg4.N, win4_0.index t = ![t.val, 0] ∧ win4_1.index t = ![0, 0] ∧ win4_2.index t = ![0, 0] ∧ win4_3.index t = ![t.val, 0] :=
  (by decide +kernel : ∀ t : Fin grid4.N, _)

theorem final4 (c : Dev nD) : (dat4 V c).arrAt 3 cfg4.N
    = fun i : S16384x128.Idx => gates (s := S16384x4096) (V c main_v4) ix2 (V c main_v7) (V c main_v8) (i 0) (i 1) := by
  refine (dat4 V c).arrAt_eq_of_covers 3 _ (by decide +kernel) fun t _ y => ?_
  blk_simp
  rw [after4_3]; frame_out
  pointwise [k4_pay1, gates]
  blk_point [iblk4, idx4 t]

end Cert.FrontIdeal.Value

end
-- ==== Proof.FrontSpec.lean ====
module

public import proofs.«01_k».proof.Proof.Front

/-!
  The column order and the gates of a row of tokens, as both programs compute them.
-/

@[expose] public section

set_option maxRecDepth 16384

noncomputable section

open Idealize.ShloMosaic Idealize.ShloMosaic.TcCoe Idealize.SL.Sem

namespace Cert.FrontIdeal.Value

open Cert.FrontIdeal Cert.FrontIdeal.Gen

/-- The modulated tokens, column after column. -/
def ordered (x : FVec Ideal S16384x4096 .f32) (md : FVec Ideal S8x24576 .f32) (g : FVec Ideal S1x4096 .f32) : FVec Ideal S16384x4096 .bf16 := fun i =>
  modulated (fun k => x (ix2 ⟨(i 0).val % 256 * 64 + (i 0).val / 256, by have : (i 0).val < 16384 := (i 0).isLt; omega⟩ k)) md g 0 (i 1)

/-- The zero word as a number. -/
theorem word_zero {φ : FTy} : (FloatOps.sitofp (F := Ideal) φ (0#32) : EReal) = 0 := by
  show (((0#32 : BitVec 32).toInt : ℝ) : EReal) = 0
  simp

/-- Gate `q` of a row: the row times the gate's column of the weight, plus its bias; nothing past the last gate. -/
def gate (h : Fin 4096 → EReal) (w : FVec Ideal S4096x16480 .f32) (b : FVec Ideal S1x96 .f32) (q : Fin 128) : EReal :=
  if hq : q.val < 96 then (∑ k : Fin 4096, h k * w (ix2 k ⟨16384 + q.val, by omega⟩)) + b (ix2 0 ⟨q.val, hq⟩) else 0

end Cert.FrontIdeal.Value

end
-- ==== Proof.FrontResult.lean ====
module

public import proofs.«01_k».proof.Proof.FrontSpec

/-!
  The run of the calls before the mixers with its five results named, each read back to the arguments.
-/

@[expose] public section

set_option maxRecDepth 16384

noncomputable section

namespace Cert.FrontIdeal.Value

open Cert.FrontIdeal Cert.FrontIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

section Launch

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The frame's run, keeping the results: they hold what the calls leave, the arguments are as launched, every counter is zero. -/
theorem run_result : θ_run defs (onTc (τ := τ) (main (F := F))) ⟨m, fun _ => 0, ρ⟩ (fun r => (∀ c : Dev nD,
      r.2.mem ((c.tc : Thread nD τ).loc main_v0) = W10 m ρ c (Proc.devRef .tc main_v0)
      ∧ r.2.mem ((c.tc : Thread nD τ).loc main_v1) = W10 m ρ c (Proc.devRef .tc main_v1)
      ∧ r.2.mem ((c.tc : Thread nD τ).loc main_v4) = W10 m ρ c (Proc.devRef .tc main_v4)
      ∧ r.2.mem ((c.tc : Thread nD τ).loc main_v9) = W10 m ρ c (Proc.devRef .tc main_v9)
      ∧ r.2.mem ((c.tc : Thread nD τ).loc main_v10) = W10 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨(fun c =>
      ⟨(h c _ (mem_uc main_v0 (by decide))),
       (h c _ (mem_uc main_v1 (by decide))),
       (h c _ (mem_uc main_v4 (by decide))),
       (h c _ (mem_uc main_v9 (by decide))),
       (h c _ (mem_uc main_v10 (by decide))),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩), funext fun g => hz g (.inr (no_unscoped g.2))⟩)

end Launch

variable (m : (ℓ : Loc nD τ sig) → Buf (Elt Ideal) ℓ) (ρ : Dev nD → PrngReg)

section HostOps

variable (σ : Valuation τ sig (Elt Ideal))

theorem laid_out : StableHlo.after hostOps2 σ (Proc.devRef .tc main_v2)
    = shapeCast S256x64x4096 (σ (Proc.devRef .tc main_arg0)) shapeCasts_S16384x4096_S256x64x4096 := by
  after_results_simp
  rfl

theorem flattened : StableHlo.after hostOps3 σ (Proc.devRef .tc main_v4)
    = shapeCast S16384x4096 (σ (Proc.devRef .tc main_v3)) shapeCasts_S64x256x4096_S16384x4096 := by
  after_results_simp
  rfl

theorem gate_columns : StableHlo.after hostOps3 σ (Proc.devRef .tc main_v6)
    = extractStridedSlice S4096x96 ![0, 16384] (truncf (F := Ideal) .bf16 (show FVec Ideal S4096x16480 .f32 from σ (Proc.devRef .tc main_arg6)) bitsLt_bf16_f32) slices_S4096x16480_S4096x96_0_16384 := by
  after_results_simp

theorem zero_word : StableHlo.after hostOps3 σ (Proc.devRef .tc main_c) = constantI S_ 32 0#32 := by
  after_results_simp

theorem padded_columns : StableHlo.after hostOps3_1 σ (Proc.devRef .tc main_v7)
    = pad S4096x128 ![0, 0] ![0, 32] ![0, 0] (σ (Proc.devRef .tc main_v6)) (sitofp (F := Ideal) .bf16 (σ (Proc.devRef .tc main_c))) pads_S4096x96_S4096x128_000_0320 h_S_ := by
  after_results_simp
  rfl

theorem zero_word' : StableHlo.after hostOps3_2 σ (Proc.devRef .tc main_c_0) = constantI S_ 32 0#32 := by
  after_results_simp

theorem padded_bias : StableHlo.after hostOps3_3 σ (Proc.devRef .tc main_v8)
    = pad S1x128 ![0, 0] ![0, 32] ![0, 0] (σ (Proc.devRef .tc main_arg7)) (sitofp (F := Ideal) .f32 (σ (Proc.devRef .tc main_c_0))) pads_S1x96_S1x128_000_0320 h_S_ := by
  after_results_simp
  rfl

end HostOps

/-- The gates of padded columns and bias: past the last gate a product with zero columns plus a zero bias is zero. -/
theorem gates_padded {s : Shape} {n : Nat} (h : FVec Ideal s .bf16) (row : Fin n → Fin 4096 → s.Idx) (w : FVec Ideal S4096x16480 .f32)
    (b : FVec Ideal S1x96 .f32) (r : Fin n) (q : Fin 128) :
    gates h row (pad S4096x128 ![0, 0] ![0, 32] ![0, 0] (extractStridedSlice S4096x96 ![0, 16384] (truncf (F := Ideal) .bf16 w bitsLt_bf16_f32) slices_S4096x16480_S4096x96_0_16384)
        (sitofp (F := Ideal) .bf16 (constantI S_ 32 0#32)) pads_S4096x96_S4096x128_000_0320 h_S_)
      (pad S1x128 ![0, 0] ![0, 32] ![0, 0] b (sitofp (F := Ideal) .f32 (constantI S_ 32 0#32)) pads_S1x96_S1x128_000_0320 h_S_) r q
      = gate (fun k => h (row r k)) w b q := by
  pointwise [gates, gate]
  by_cases hq : q.val < 96
  · simp only [dif_pos hq]
  · simp only [dif_neg hq, word_zero, mul_zero, Finset.sum_const_zero, add_zero]

/-- Tokens laid out in rows and columns, modulated in column order, read flat: column after column. -/
theorem columns_flat (x : FVec Ideal S16384x4096 .f32) (md : FVec Ideal S8x24576 .f32) (g : FVec Ideal S1x4096 .f32) :
    shapeCast S16384x4096 (columns (shapeCast S256x64x4096 x shapeCasts_S16384x4096_S256x64x4096) md g) shapeCasts_S64x256x4096_S16384x4096 = ordered x md g := by
  funext i
  idx_vars i
  pointwise [columns, ordered, modulated, rms]

/-- The modulation vectors the program computes of its arguments. -/
abbrev mv (c : Dev nD) : FVec Ideal S8x24576 .f32 :=
  modv (m ((c : Thread nD τ).loc main_arg2)) (m ((c : Thread nD τ).loc main_arg3)) (m ((c : Thread nD τ).loc main_arg4))

theorem at_mod (c : Dev nD) : V1 m ρ c main_v0 = mv m c :=
  (hF0 m ρ c 3).symm.trans (final0 (V0 m ρ) c)

theorem at_tokens (c : Dev nD) : V2 m ρ c main_v1 = tokens (m ((c : Thread nD τ).loc main_arg0)) (m ((c : Thread nD τ).loc main_arg1)) (mv m c) (m ((c : Thread nD τ).loc main_arg5)) := by
  have e0 : V1 m ρ c main_arg0 = m ((c : Thread nD τ).loc main_arg0) := W1_args m ρ c main_arg0 (by decide)
  have e1 : V1 m ρ c main_arg1 = m ((c : Thread nD τ).loc main_arg1) := W1_args m ρ c main_arg1 (by decide)
  have e5 : V1 m ρ c main_arg5 = m ((c : Thread nD τ).loc main_arg5) := W1_args m ρ c main_arg5 (by decide)
  refine (hF1 m ρ c 5).symm.trans ((final1 (V1 m ρ) c).trans ?_)
  rw [at_mod m ρ c, e0, e1, e5]

theorem at_columns (c : Dev nD) : W5 m ρ c (Proc.devRef .tc main_v4) = ordered (m ((c : Thread nD τ).loc main_arg0)) (mv m c) (m ((c : Thread nD τ).loc main_arg5)) := by
  have e0 : V3 m ρ c main_v0 = mv m c :=
    ((W3_of m ρ c main_v0 (by decide)).trans (W2_of m ρ c main_v0 (by decide))).trans (at_mod m ρ c)
  have e5 : V3 m ρ c main_arg5 = m ((c : Thread nD τ).loc main_arg5) := W3_args m ρ c main_arg5 (by decide)
  have e2 : V3 m ρ c main_v2 = shapeCast S256x64x4096 (m ((c : Thread nD τ).loc main_arg0)) shapeCasts_S16384x4096_S256x64x4096 :=
    (laid_out _).trans (congrArg (fun x : FVec Ideal S16384x4096 .f32 => shapeCast S256x64x4096 x shapeCasts_S16384x4096_S256x64x4096) (W2_args m ρ c main_arg0 (by decide)))
  have e3 : V4 m ρ c main_v3 = columns (shapeCast S256x64x4096 (m ((c : Thread nD τ).loc main_arg0)) shapeCasts_S16384x4096_S256x64x4096) (mv m c) (m ((c : Thread nD τ).loc main_arg5)) := by
    refine (hF2 m ρ c 4).symm.trans ((final2 (V3 m ρ) c).trans ?_)
    rw [e0, e5, e2]
  exact (flattened _).trans ((congrArg (fun x : FVec Ideal S64x256x4096 .bf16 => shapeCast S16384x4096 x shapeCasts_S64x256x4096_S16384x4096) e3).trans (columns_flat _ _ _))

/-- The padded gate columns and bias, when the gates' calls read them. -/
theorem at_padded (c : Dev nD) : V8 m ρ c main_v7
      = pad S4096x128 ![0, 0] ![0, 32] ![0, 0] (extractStridedSlice S4096x96 ![0, 16384] (truncf (F := Ideal) .bf16 (show FVec Ideal S4096x16480 .f32 from m ((c : Thread nD τ).loc main_arg6)) bitsLt_bf16_f32) slices_S4096x16480_S4096x96_0_16384)
        (sitofp (F := Ideal) .bf16 (constantI S_ 32 0#32)) pads_S4096x96_S4096x128_000_0320 h_S_
    ∧ V8 m ρ c main_v8 = pad S1x128 ![0, 0] ![0, 32] ![0, 0] (m ((c : Thread nD τ).loc main_arg7)) (sitofp (F := Ideal) .f32 (constantI S_ 32 0#32)) pads_S1x96_S1x128_000_0320 h_S_ := by
  constructor
  · refine ((W8_of m ρ c main_v7 (by decide)).trans (W7_of m ρ c main_v7 (by decide))).trans ((padded_columns _).trans ?_)
    have e6 : W5 m ρ c (Proc.devRef .tc main_v6) = _ := gate_columns _
    have e : W5 m ρ c (Proc.devRef .tc main_c) = _ := zero_word _
    have e4 : W4 m ρ c (Proc.devRef .tc main_arg6) = m ((c : Thread nD τ).loc main_arg6) := W4_args m ρ c main_arg6 (by decide)
    rw [e6, e, e4]
  · refine (padded_bias _).trans ?_
    have e7 : W7 m ρ c (Proc.devRef .tc main_arg7) = m ((c : Thread nD τ).loc main_arg7) := W7_args m ρ c main_arg7 (by decide)
    have e : W7 m ρ c (Proc.devRef .tc main_c_0) = _ := zero_word' _
    rw [e7, e]

theorem at_gates (c : Dev nD) : V9 m ρ c main_v9 = fun i : S16640x128.Idx =>
    gate (fun k => tokens (m ((c : Thread nD τ).loc main_arg0)) (m ((c : Thread nD τ).loc main_arg1)) (mv m c) (m ((c : Thread nD τ).loc main_arg5)) (ix2 (i 0) k))
      (m ((c : Thread nD τ).loc main_arg6)) (m ((c : Thread nD τ).loc main_arg7)) (i 1) := by
  have e1 : V8 m ρ c main_v1 = tokens (m ((c : Thread nD τ).loc main_arg0)) (m ((c : Thread nD τ).loc main_arg1)) (mv m c) (m ((c : Thread nD τ).loc main_arg5)) :=
    ((W8_of m ρ c main_v1 (by decide)).trans ((W7_of m ρ c main_v1 (by decide)).trans ((W6_of m ρ c main_v1 (by decide)).trans ((W5_of m ρ c main_v1 (by decide)).trans
      ((W4_of m ρ c main_v1 (by decide)).trans (W3_of m ρ c main_v1 (by decide))))))).trans (at_tokens m ρ c)
  refine (hF3 m ρ c 3).symm.trans ((final3 (V8 m ρ) c).trans ?_)
  rw [e1, (at_padded m ρ c).1, (at_padded m ρ c).2]
  exact funext fun i => gates_padded _ _ _ _ _ _

theorem at_gates' (c : Dev nD) : V10 m ρ c main_v10 = fun i : S16384x128.Idx =>
    gate (fun k => ordered (m ((c : Thread nD τ).loc main_arg0)) (mv m c) (m ((c : Thread nD τ).loc main_arg5)) (ix2 (i 0) k))
      (m ((c : Thread nD τ).loc main_arg6)) (m ((c : Thread nD τ).loc main_arg7)) (i 1) := by
  have e4 : V9 m ρ c main_v4 = ordered (m ((c : Thread nD τ).loc main_arg0)) (mv m c) (m ((c : Thread nD τ).loc main_arg5)) :=
    ((W9_of m ρ c main_v4 (by decide)).trans ((W8_of m ρ c main_v4 (by decide)).trans ((W7_of m ρ c main_v4 (by decide)).trans (W6_of m ρ c main_v4 (by decide))))).trans (at_columns m ρ c)
  have e7 : V9 m ρ c main_v7 = _ := (W9_of m ρ c main_v7 (by decide)).trans (at_padded m ρ c).1
  have e8 : V9 m ρ c main_v8 = _ := (W9_of m ρ c main_v8 (by decide)).trans (at_padded m ρ c).2
  refine (hF4 m ρ c 3).symm.trans ((final4 (V9 m ρ) c).trans ?_)
  rw [e4, e7, e8]
  exact funext fun i => gates_padded _ _ _ _ _ _

/-- What the five results hold at the end, of the arguments. -/
theorem results_eq (c : Dev nD) :
    W10 m ρ c (Proc.devRef .tc main_v0) = mv m c
    ∧ W10 m ρ c (Proc.devRef .tc main_v1) = tokens (m ((c : Thread nD τ).loc main_arg0)) (m ((c : Thread nD τ).loc main_arg1)) (mv m c) (m ((c : Thread nD τ).loc main_arg5))
    ∧ W10 m ρ c (Proc.devRef .tc main_v4) = ordered (m ((c : Thread nD τ).loc main_arg0)) (mv m c) (m ((c : Thread nD τ).loc main_arg5))
    ∧ W10 m ρ c (Proc.devRef .tc main_v9) = (fun i : S16640x128.Idx =>
        gate (fun k => tokens (m ((c : Thread nD τ).loc main_arg0)) (m ((c : Thread nD τ).loc main_arg1)) (mv m c) (m ((c : Thread nD τ).loc main_arg5)) (ix2 (i 0) k))
          (m ((c : Thread nD τ).loc main_arg6)) (m ((c : Thread nD τ).loc main_arg7)) (i 1))
    ∧ W10 m ρ c (Proc.devRef .tc main_v10) = (fun i : S16384x128.Idx =>
        gate (fun k => ordered (m ((c : Thread nD τ).loc main_arg0)) (mv m c) (m ((c : Thread nD τ).loc main_arg5)) (ix2 (i 0) k))
          (m ((c : Thread nD τ).loc main_arg6)) (m ((c : Thread nD τ).loc main_arg7)) (i 1)) := by
  have late : ∀ r ∈ [main_v0, main_v1, main_v4], W10 m ρ c (Proc.devRef .tc r) = W5 m ρ c (Proc.devRef .tc r) := by
    intro r hr
    refine (W10_of m ρ c r ?_).trans ((W9_of m ρ c r ?_).trans ((W8_of m ρ c r ?_).trans ((W7_of m ρ c r ?_).trans (W6_of m ρ c r ?_)))) <;>
      (revert r; decide)
  have mid : ∀ r ∈ [main_v0, main_v1], W5 m ρ c (Proc.devRef .tc r) = W2 m ρ c (Proc.devRef .tc r) := by
    intro r hr
    refine (W5_of m ρ c r ?_).trans ((W4_of m ρ c r ?_).trans (W3_of m ρ c r ?_)) <;> (revert r; decide)
  exact ⟨((late main_v0 (by decide)).trans ((mid main_v0 (by decide)).trans (W2_of m ρ c main_v0 (by decide)))).trans (at_mod m ρ c),
    ((late main_v1 (by decide)).trans (mid main_v1 (by decide))).trans (at_tokens m ρ c),
    (late main_v4 (by decide)).trans (at_columns m ρ c),
    (W10_of m ρ c main_v9 (by decide)).trans (at_gates m ρ c),
    at_gates' m ρ c⟩

end Cert.FrontIdeal.Value

end
-- ==== Proof.FrontReference.lean ====
module

public import proofs.«01_k».proof.Proof.FrontSpec
public import proofs.«01_k».proof.Proof.Gen.FrontReferenceIdeal.Run

/-!
  The reference's five results, step by step.
-/

@[expose] public section

set_option maxRecDepth 16384

noncomputable section

open Idealize.ShloMosaic Idealize.ShloMosaic.TcCoe Idealize.SL.Sem
open Cert.FrontIdeal.Value (silu modv rms modulated tokens ordered gate word_zero)

namespace Cert.FrontReferenceIdeal.Value

open Cert.FrontReferenceIdeal Cert.FrontReferenceIdeal.Gen

/-- The reference's modulation vectors. -/
def refMod (a2 : FVec Ideal S8x4096 .f32) (a3 : FVec Ideal S4096x24576 .f32) (a4 : FVec Ideal S1x24576 .f32) : FVec Ideal S8x24576 .f32 :=
  addf (Host.dotGeneral dot_S8x4096_S4096x24576_S8x24576_1_0_0_1_n_n none (mulf a2 (Host.divf (broadcastInDim S8x4096 ![] bcast_S_S8x4096 (constant S_ .f32 0x3F800000#32)) (addf (broadcastInDim S8x4096 ![] bcast_S_S8x4096 (constant S_ .f32 0x3F800000#32)) (Host.exp (Host.negf a2))))) a3) (broadcastInDim S8x24576 ![0, 1] bcast_S1x24576_S8x24576_0_1 a4)

/-- The reference's modulated image tokens. -/
def refLat (a0 : FVec Ideal S16384x4096 .f32) (md : FVec Ideal S8x24576 .f32) (a5 : FVec Ideal S1x4096 .f32) : FVec Ideal S16384x4096 .f32 :=
  addf (mulf (mulf (mulf a0 (broadcastInDim S16384x4096 ![0, 1] bcast_S16384x1_S16384x4096_0_1 (Host.rsqrt (addf (Host.divf (broadcastInDim S16384x1 ![0] bcast_S16384_S16384x1_0 (Host.reduceAdd (mulf a0 a0) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 a5)) (broadcastInDim S16384x4096 ![0, 1] bcast_S1x4096_S16384x4096_0_1 (addf (broadcastInDim S1x4096 ![] bcast_S_S1x4096 (constant S_ .f32 0x3F800000#32)) (extractStridedSlice S1x4096 ![0, 4096] md slices_S8x24576_S1x4096_0_4096)))) (broadcastInDim S16384x4096 ![0, 1] bcast_S1x4096_S16384x4096_0_1 (extractStridedSlice S1x4096 ![0, 0] md slices_S8x24576_S1x4096_0_0))

/-- The reference's modulated context tokens. -/
def refCon (a1 : FVec Ideal S256x4096 .f32) (md : FVec Ideal S8x24576 .f32) (a5 : FVec Ideal S1x4096 .f32) : FVec Ideal S256x4096 .f32 :=
  addf (mulf (mulf (mulf a1 (broadcastInDim S256x4096 ![0, 1] bcast_S256x1_S256x4096_0_1 (Host.rsqrt (addf (Host.divf (broadcastInDim S256x1 ![0] bcast_S256_S256x1_0 (Host.reduceAdd (mulf a1 a1) (constant S_ .f32 0x00000000#32) reducesTo_S256x4096_S256_d1 h_S_)) (broadcastInDim S256x1 ![] bcast_S_S256x1 (constant S_ .f32 0x45800000#32))) (broadcastInDim S256x1 ![] bcast_S_S256x1 (constant S_ .f32 0x358637BD#32)))))) (broadcastInDim S256x4096 ![0, 1] bcast_S1x4096_S256x4096_0_1 a5)) (broadcastInDim S256x4096 ![0, 1] bcast_S1x4096_S256x4096_0_1 (addf (broadcastInDim S1x4096 ![] bcast_S_S1x4096 (constant S_ .f32 0x3F800000#32)) (extractStridedSlice S1x4096 ![1, 4096] md slices_S8x24576_S1x4096_1_4096)))) (broadcastInDim S256x4096 ![0, 1] bcast_S1x4096_S256x4096_0_1 (extractStridedSlice S1x4096 ![1, 0] md slices_S8x24576_S1x4096_1_0))

theorem refMod_eq (a2 : FVec Ideal S8x4096 .f32) (a3 : FVec Ideal S4096x24576 .f32) (a4 : FVec Ideal S1x24576 .f32) :
    refMod a2 a3 a4 = modv a2 a3 a4 := by
  funext i
  pointwise [refMod, modv, silu]

theorem refLat_eq (a0 : FVec Ideal S16384x4096 .f32) (md : FVec Ideal S8x24576 .f32) (a5 : FVec Ideal S1x4096 .f32) :
    refLat a0 md a5 = fun i => modulated (fun k => a0 (ix2 (i 0) k)) md a5 0 (i 1) := by
  funext i
  idx_vars i
  pointwise [refLat, modulated, rms]

theorem refCon_eq (a1 : FVec Ideal S256x4096 .f32) (md : FVec Ideal S8x24576 .f32) (a5 : FVec Ideal S1x4096 .f32) :
    refCon a1 md a5 = fun i => modulated (fun k => a1 (ix2 (i 0) k)) md a5 1 (i 1) := by
  funext i
  idx_vars i
  pointwise [refCon, modulated, rms]

/-- Image tokens, then context tokens. -/
theorem join_eq (a0 : FVec Ideal S16384x4096 .f32) (a1 : FVec Ideal S256x4096 .f32) (md : FVec Ideal S8x24576 .f32) (a5 : FVec Ideal S1x4096 .f32) :
    concatenate S16640x4096 0 [⟨S16384x4096, (refLat a0 md a5)⟩, ⟨S256x4096, (refCon a1 md a5)⟩] concatenates_S16384x4096_S256x4096_S16640x4096_d0
      = tokens a0 a1 md a5 := by
  rw [refLat_eq, refCon_eq]
  funext i
  idx_vars i
  unfold tokens
  pointwise

/-- Image tokens, column after column. -/
theorem order_eq (a0 : FVec Ideal S16384x4096 .f32) (md : FVec Ideal S8x24576 .f32) (a5 : FVec Ideal S1x4096 .f32) :
    shapeCast S16384x4096 (transpose S64x256x4096 [1, 0, 2] (shapeCast S256x64x4096 (refLat a0 md a5) shapeCasts_S16384x4096_S256x64x4096) transposes_S256x64x4096_S64x256x4096_1_0_2) shapeCasts_S64x256x4096_S16384x4096
      = ordered a0 md a5 := by
  rw [refLat_eq]
  funext i
  idx_vars i
  unfold ordered
  pointwise

theorem gates_rows (h : FVec Ideal S16640x4096 .f32) (a6 : FVec Ideal S4096x16480 .f32) (a7 : FVec Ideal S1x96 .f32) :
    pad S16640x128 ![0, 0] ![0, 32] ![0, 0] (addf (Host.dotGeneral dot_S16640x4096_S4096x96_S16640x96_1_0_0_1_n_n none h (extractStridedSlice S4096x96 ![0, 16384] a6 slices_S4096x16480_S4096x96_0_16384)) (broadcastInDim S16640x96 ![0, 1] bcast_S1x96_S16640x96_0_1 a7)) (sitofp .f32 (constantI S_ 32 0#32)) pads_S16640x96_S16640x128_000_0320 h_S_
      = fun i => gate (fun k => h (ix2 (i 0) k)) a6 a7 (i 1) := by
  funext i
  idx_vars i
  pointwise [gate]
  rw [word_zero]

theorem gates_columns (h : FVec Ideal S16384x4096 .f32) (a6 : FVec Ideal S4096x16480 .f32) (a7 : FVec Ideal S1x96 .f32) :
    pad S16384x128 ![0, 0] ![0, 32] ![0, 0] (addf (Host.dotGeneral dot_S16384x4096_S4096x96_S16384x96_1_0_0_1_n_n none h (extractStridedSlice S4096x96 ![0, 16384] a6 slices_S4096x16480_S4096x96_0_16384)) (broadcastInDim S16384x96 ![0, 1] bcast_S1x96_S16384x96_0_1 a7)) (sitofp .f32 (constantI S_ 32 0#32)) pads_S16384x96_S16384x128_000_0320 h_S_
      = fun i => gate (fun k => h (ix2 (i 0) k)) a6 a7 (i 1) := by
  funext i
  idx_vars i
  pointwise [gate]
  rw [word_zero]

end Cert.FrontReferenceIdeal.Value

end
-- ==== Proof.Back.lean ====
module

public import proofs.«01_k».proof.Proof.Gen.BackIdeal.Frame
public import Idealize.ShloMosaic.Lib.Pipeline.ValueKit

/-!
  The calls after the mixers: the first mixer's head norms and output gate, the projection of both mixers' outputs with the
  residual, the normalised input of the experts and its query projection, each at any contents of the arrays it reads.
-/

@[expose] public section

set_option maxRecDepth 16384

noncomputable section

open Idealize.ShloMosaic Idealize.ShloMosaic.TcCoe Idealize.SL.Sem
open Idealize.ShloMosaic.Pipeline (Dat)

namespace Cert.BackIdeal.Value

open Cert.BackIdeal Cert.BackIdeal.Gen

/-- An output gate times a head's entry, normalised over the head's 256 entries `s` and times the gain. -/
def gated (o : EReal) (s : Fin 256 → EReal) (v g : EReal) : EReal :=
  Ideal.div 1 (1 + Ideal.exp (-o))
    * (v * Ideal.rsqrt (Ideal.div (∑ k : Fin 256, s k * s k) (Ideal.ofBits .f32 0x43800000#32) + Ideal.ofBits .f32 0x358637BD#32) * g)

/-- The first mixer's outputs: both directions summed, normalised head by head, gated. -/
def mixMl (hf hb : FVec Ideal S16640x2048 .f32) (pm : FVec Ideal S16640x8192 .f32) (g : FVec Ideal S1x2048 .f32) : FVec Ideal S16384x2048 .bf16 := fun i =>
  have h0 : (i 0).val < 16384 := (i 0).isLt
  have h1 : (i 1).val < 2048 := (i 1).isLt
  gated (pm (ix2 ⟨(i 0).val, by omega⟩ ⟨6144 + (i 1).val, by omega⟩))
    (fun k => hf (ix2 ⟨(i 0).val, by omega⟩ ⟨(i 1).val / 256 * 256 + k.val, by omega⟩) + hb (ix2 ⟨(i 0).val, by omega⟩ ⟨(i 1).val / 256 * 256 + k.val, by omega⟩))
    (hf (ix2 ⟨(i 0).val, by omega⟩ (i 1)) + hb (ix2 ⟨(i 0).val, by omega⟩ (i 1))) (g (ix2 0 (i 1)))

/-- The tokens plus the gated projection of both mixers' outputs. -/
def outp (a1 a2 : FVec Ideal S16384x2048 .bf16) (w1 w2 : FVec Ideal S2048x4096 .bf16) (x : FVec Ideal S16384x4096 .f32) (md : FVec Ideal S8x24576 .f32) :
    FVec Ideal S16384x4096 .f32 := fun i =>
  x i + md (ix2 0 ⟨8192 + (i 1).val, by have : (i 1).val < 4096 := (i 1).isLt; omega⟩)
    * ((∑ k : Fin 2048, a1 (ix2 (i 0) k) * w1 (ix2 k (i 1))) + ∑ k : Fin 2048, a2 (ix2 (i 0) k) * w2 (ix2 k (i 1)))

/-- One over the root mean square of row `t` of `x`. -/
def rms (x : FVec Ideal S16384x4096 .f32) (t : Fin 16384) : EReal :=
  Ideal.rsqrt (Ideal.div (∑ k : Fin 4096, x (ix2 t k) * x (ix2 t k)) (Ideal.ofBits .f32 0x45800000#32) + Ideal.ofBits .f32 0x358637BD#32)

/-- The normalised input of the experts. -/
def hidden (x : FVec Ideal S16384x4096 .f32) (md : FVec Ideal S8x24576 .f32) (g : FVec Ideal S1x4096 .f32) :
    FVec Ideal S16384x4096 .bf16 := fun i =>
  x i * rms x (i 0) * g (ix2 0 (i 1)) * (1 + md (ix2 0 ⟨16384 + (i 1).val, by have : (i 1).val < 4096 := (i 1).isLt; omega⟩))
    + md (ix2 0 ⟨12288 + (i 1).val, by have : (i 1).val < 4096 := (i 1).isLt; omega⟩)

/-- The experts' queries. -/
def query (f : FVec Ideal S16384x4096 .bf16) (w : FVec Ideal S4096x2048 .bf16) : FVec Ideal S16384x2048 .f32 := fun i =>
  ∑ k : Fin 4096, f (ix2 (i 0) k) * w (ix2 k (i 1))

variable (V : (c : Dev nD) → (b : Ref sig .tc) → Buf (Elt Ideal) ((c : Thread nD τ).loc b))

theorem idx0 : ∀ t : Fin cfg0.N, win0_0.index t = ![t.val, 0] ∧ win0_1.index t = ![t.val, 0] ∧ win0_2.index t = ![t.val, 3]
    ∧ win0_3.index t = ![0, 0] ∧ win0_4.index t = ![t.val, 0] :=
  (by decide +kernel : ∀ t : Fin grid0.N, _)

/-- The gated entry of a block of rows. -/
def blockMix (hf hb o : FVec Ideal S256x2048 .f32) (g : FVec Ideal S1x2048 .f32) (y : S256x2048.Idx) : EReal :=
  have h1 : (y 1).val < 2048 := (y 1).isLt
  gated (o y) (fun k => hf (ix2 (y 0) ⟨(y 1).val / 256 * 256 + k.val, by omega⟩) + hb (ix2 (y 0) ⟨(y 1).val / 256 * 256 + k.val, by omega⟩))
    (hf y + hb y) (g (ix2 0 (y 1)))

theorem element0 (c : Dev nD) (t : Fin cfg0.N) (y : S256x2048.Idx) (i : S16384x2048.Idx)
    (hi0 : (i 0 : ℕ) = t.val * 256 + y 0) (hi1 : (i 1 : ℕ) = y 1) :
    blockMix (iblk0 V c 0 t) (iblk0 V c 1 t) (iblk0 V c 2 t) (iblk0 V c 3 t) y
      = mixMl (V c main_arg0) (V c main_arg1) (V c main_arg2) (V c main_v0) i := by
  pointwise [blockMix, mixMl, gated]
  blk_point [iblk0, idx0 t]

theorem final0 (c : Dev nD) : (dat0 V c).arrAt 4 cfg0.N = mixMl (V c main_arg0) (V c main_arg1) (V c main_arg2) (V c main_v0) := by
  refine (dat0 V c).arrAt_eq_of_covers 4 _ (by decide +kernel) fun t _ y => ?_
  blk_simp
  rw [after0_4]; frame_out
  refine Eq.trans ?_ (element0 V c t y _ (by blk_simp [idx0 t]) (by blk_simp [idx0 t]))
  generalize iblk0 V c 0 t = b0
  generalize iblk0 V c 1 t = b1
  generalize iblk0 V c 2 t = b2
  generalize iblk0 V c 3 t = b3
  canon_tiles x h
  all_goals
    open_payloads
    pointwise [blockMix, gated]
    simp only [zero_sub]
    blk_point []

theorem idx1 : ∀ t : Fin cfg1.N, win1_0.index t = ![t.val / 8, 0] ∧ win1_1.index t = ![t.val / 8, 0] ∧ win1_2.index t = ![0, t.val % 8]
    ∧ win1_3.index t = ![0, t.val % 8] ∧ win1_4.index t = ![t.val / 8, t.val % 8] ∧ win1_5.index t = ![0, t.val % 8 + 16]
    ∧ win1_6.index t = ![t.val / 8, t.val % 8] :=
  (by decide +kernel : ∀ t : Fin grid1.N, _)

theorem final1 (c : Dev nD) : (dat1 V c).arrAt 6 cfg1.N
    = outp (V c main_v1) (V c main_v3) (V c main_v4) (V c main_v5) (V c main_arg6) (V c main_arg7) := by
  refine (dat1 V c).arrAt_eq_of_covers 6 _ (by decide +kernel) fun t _ y => ?_
  blk_simp
  rw [after1_6]; frame_out
  pointwise [k1_pay1, outp]
  blk_point [iblk1, idx1 t]

theorem idx2 : ∀ t : Fin cfg2.N, win2_0.index t = ![t.val, 0] ∧ win2_1.index t = ![0, 0] ∧ win2_2.index t = ![0, 0]
    ∧ win2_3.index t = ![0, 3] ∧ win2_4.index t = ![0, 4] ∧ win2_5.index t = ![t.val, 0] :=
  (by decide +kernel : ∀ t : Fin grid2.N, _)

/-- No point of the grid lies in the context rows. -/
theorem tokens_only : ∀ t : Fin cfg2.N, Scalar.cmpi CmpIPredicate.sge (BitVec.ofNat 32 (grid2.coords t 0).val) 64#32 = 0#1 :=
  (by decide +kernel : ∀ t : Fin grid2.N, _)

theorem select_second {α : Type} (a b : α) : Scalar.select 0#1 a b = b := rfl

theorem final2 (c : Dev nD) : (dat2 V c).arrAt 5 cfg2.N = hidden (V c main_v6) (V c main_arg7) (V c main_arg8) := by
  refine (dat2 V c).arrAt_eq_of_covers 5 _ (by decide +kernel) fun t _ y => ?_
  blk_simp
  rw [after2_5]; frame_out
  pointwise [k2_pay1, hidden, rms]
  simp only [tokens_only, select_second]
  blk_point [iblk2, idx2 t]

theorem idx3 : ∀ t : Fin cfg3.N, win3_0.index t = ![t.val / 4, 0] ∧ win3_1.index t = ![0, t.val % 4] ∧ win3_2.index t = ![t.val / 4, t.val % 4] :=
  (by decide +kernel : ∀ t : Fin grid3.N, _)

theorem final3 (c : Dev nD) : (dat3 V c).arrAt 2 cfg3.N = query (V c main_v7) (V c main_v8) := by
  refine (dat3 V c).arrAt_eq_of_covers 2 _ (by decide +kernel) fun t _ y => ?_
  blk_simp
  rw [after3_2]; frame_out
  pointwise [k3_pay1, query]
  blk_point [iblk3, idx3 t]

end Cert.BackIdeal.Value

end
-- ==== Proof.BackResult.lean ====
module

public import proofs.«01_k».proof.Proof.Back

/-!
  The run of the calls after the mixers with its two results named, each read back to the arguments.
-/

@[expose] public section

set_option maxRecDepth 16384

noncomputable section

namespace Cert.BackIdeal.Value

open Cert.BackIdeal Cert.BackIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

section Launch

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The frame's run, keeping the results: they hold what the calls leave, the arguments are as launched, every counter is zero. -/
theorem run_result : θ_run defs (onTc (τ := τ) (main (F := F))) ⟨m, fun _ => 0, ρ⟩ (fun r => (∀ c : Dev nD,
      r.2.mem ((c.tc : Thread nD τ).loc main_v6) = W7 m ρ c (Proc.devRef .tc main_v6)
      ∧ r.2.mem ((c.tc : Thread nD τ).loc main_v9) = W7 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨(h c _ (mem_uc main_v6 (by decide))),
       (h c _ (mem_uc main_v9 (by decide))),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩), funext fun g => hz g (.inr (no_unscoped g.2))⟩)

end Launch

variable (m : (ℓ : Loc nD τ sig) → Buf (Elt Ideal) ℓ) (ρ : Dev nD → PrngReg)

section HostOps

variable (σ : Valuation τ sig (Elt Ideal))

theorem gain_row : StableHlo.after hostOps0 σ (Proc.devRef .tc main_v0) = shapeCast S1x2048 (σ (Proc.devRef .tc main_arg3)) shapeCasts_S8x256_S1x2048 := by
  after_results_simp
  rfl

theorem second_mixer : StableHlo.after hostOps1 σ (Proc.devRef .tc main_v3)
    = shapeCast S16384x2048 (σ (Proc.devRef .tc main_arg4)) shapeCasts_S256x64x2048_S16384x2048 := by
  after_results_simp
  rfl

theorem upper_rows : (show FVec Ideal S2048x4096 .bf16 from StableHlo.after hostOps1 σ (Proc.devRef .tc main_v4))
    = extractStridedSlice S2048x4096 ![0, 0] (truncf (F := Ideal) .bf16 (show FVec Ideal S4096x4096 .f32 from σ (Proc.devRef .tc main_arg5)) bitsLt_bf16_f32) slices_S4096x4096_S2048x4096_0_0 := by
  after_results_simp

theorem lower_rows : (show FVec Ideal S2048x4096 .bf16 from StableHlo.after hostOps1 σ (Proc.devRef .tc main_v5))
    = extractStridedSlice S2048x4096 ![2048, 0] (truncf (F := Ideal) .bf16 (show FVec Ideal S4096x4096 .f32 from σ (Proc.devRef .tc main_arg5)) bitsLt_bf16_f32) slices_S4096x4096_S2048x4096_2048_0 := by
  after_results_simp

theorem query_weight : (show FVec Ideal S4096x2048 .bf16 from StableHlo.after hostOps3 σ (Proc.devRef .tc main_v8)) = σ (Proc.devRef .tc main_arg9) := by
  after_results_simp
  rfl

end HostOps

/-- The tokens after the mixers, of the arguments. -/
abbrev x1 (c : Dev nD) : FVec Ideal S16384x4096 .f32 :=
  outp (mixMl (m ((c : Thread nD τ).loc main_arg0)) (m ((c : Thread nD τ).loc main_arg1)) (m ((c : Thread nD τ).loc main_arg2))
      (shapeCast S1x2048 (m ((c : Thread nD τ).loc main_arg3)) shapeCasts_S8x256_S1x2048))
    (shapeCast S16384x2048 (m ((c : Thread nD τ).loc main_arg4)) shapeCasts_S256x64x2048_S16384x2048)
    (extractStridedSlice S2048x4096 ![0, 0] (show FVec Ideal S4096x4096 .f32 from m ((c : Thread nD τ).loc main_arg5)) slices_S4096x4096_S2048x4096_0_0)
    (extractStridedSlice S2048x4096 ![2048, 0] (show FVec Ideal S4096x4096 .f32 from m ((c : Thread nD τ).loc main_arg5)) slices_S4096x4096_S2048x4096_2048_0)
    (m ((c : Thread nD τ).loc main_arg6)) (m ((c : Thread nD τ).loc main_arg7))

theorem at_mix (c : Dev nD) : V2 m ρ c main_v1 = mixMl (m ((c : Thread nD τ).loc main_arg0)) (m ((c : Thread nD τ).loc main_arg1)) (m ((c : Thread nD τ).loc main_arg2))
    (shapeCast S1x2048 (m ((c : Thread nD τ).loc main_arg3)) shapeCasts_S8x256_S1x2048) := by
  have e0 : V1 m ρ c main_arg0 = m ((c : Thread nD τ).loc main_arg0) := W1_args m ρ c main_arg0 (by decide)
  have e1 : V1 m ρ c main_arg1 = m ((c : Thread nD τ).loc main_arg1) := W1_args m ρ c main_arg1 (by decide)
  have e2 : V1 m ρ c main_arg2 = m ((c : Thread nD τ).loc main_arg2) := W1_args m ρ c main_arg2 (by decide)
  have e3 : V1 m ρ c main_v0 = shapeCast S1x2048 (m ((c : Thread nD τ).loc main_arg3)) shapeCasts_S8x256_S1x2048 := gain_row _
  refine (hF0 m ρ c 4).symm.trans ((final0 (V1 m ρ) c).trans ?_)
  rw [e0, e1, e2, e3]

theorem at_x1 (c : Dev nD) : V4 m ρ c main_v6 = x1 m c := by
  have e1 : V3 m ρ c main_v1 = _ := (W3_of m ρ c main_v1 (by decide)).trans (at_mix m ρ c)
  have a4 : W2 m ρ c (Proc.devRef .tc main_arg4) = m ((c : Thread nD τ).loc main_arg4) := W2_args m ρ c main_arg4 (by decide)
  have a5 : W2 m ρ c (Proc.devRef .tc main_arg5) = m ((c : Thread nD τ).loc main_arg5) := W2_args m ρ c main_arg5 (by decide)
  have e3 : V3 m ρ c main_v3 = shapeCast S16384x2048 (m ((c : Thread nD τ).loc main_arg4)) shapeCasts_S256x64x2048_S16384x2048 :=
    (second_mixer _).trans (by rw [a4])
  have e4 : V3 m ρ c main_v4 = extractStridedSlice S2048x4096 ![0, 0] (show FVec Ideal S4096x4096 .f32 from m ((c : Thread nD τ).loc main_arg5)) slices_S4096x4096_S2048x4096_0_0 :=
    (upper_rows _).trans (by rw [a5]; rfl)
  have e5 : V3 m ρ c main_v5 = extractStridedSlice S2048x4096 ![2048, 0] (show FVec Ideal S4096x4096 .f32 from m ((c : Thread nD τ).loc main_arg5)) slices_S4096x4096_S2048x4096_2048_0 :=
    (lower_rows _).trans (by rw [a5]; rfl)
  have e6 : V3 m ρ c main_arg6 = m ((c : Thread nD τ).loc main_arg6) := W3_args m ρ c main_arg6 (by decide)
  have e7 : V3 m ρ c main_arg7 = m ((c : Thread nD τ).loc main_arg7) := W3_args m ρ c main_arg7 (by decide)
  refine (hF1 m ρ c 6).symm.trans ((final1 (V3 m ρ) c).trans ?_)
  rw [e1, e3, e4, e5, e6, e7]

theorem at_hidden (c : Dev nD) : V5 m ρ c main_v7 = hidden (x1 m c) (m ((c : Thread nD τ).loc main_arg7)) (m ((c : Thread nD τ).loc main_arg8)) := by
  have e7 : V4 m ρ c main_arg7 = m ((c : Thread nD τ).loc main_arg7) := W4_args m ρ c main_arg7 (by decide)
  have e8 : V4 m ρ c main_arg8 = m ((c : Thread nD τ).loc main_arg8) := W4_args m ρ c main_arg8 (by decide)
  refine (hF2 m ρ c 5).symm.trans ((final2 (V4 m ρ) c).trans ?_)
  rw [at_x1 m ρ c, e7, e8]

/-- What the two results hold at the end, of the arguments. -/
theorem results_eq (c : Dev nD) : W7 m ρ c (Proc.devRef .tc main_v6) = x1 m c
    ∧ W7 m ρ c (Proc.devRef .tc main_v9)
      = query (hidden (x1 m c) (m ((c : Thread nD τ).loc main_arg7)) (m ((c : Thread nD τ).loc main_arg8))) (m ((c : Thread nD τ).loc main_arg9)) := by
  refine ⟨((W7_of m ρ c main_v6 (by decide)).trans ((W6_of m ρ c main_v6 (by decide)).trans (W5_of m ρ c main_v6 (by decide)))).trans (at_x1 m ρ c), ?_⟩
  have e7 : V6 m ρ c main_v7 = _ := (W6_of m ρ c main_v7 (by decide)).trans (at_hidden m ρ c)
  have e8 : V6 m ρ c main_v8 = m ((c : Thread nD τ).loc main_arg9) := (query_weight _).trans (W5_args m ρ c main_arg9 (by decide))
  refine (hF3 m ρ c 2).symm.trans ((final3 (V6 m ρ) c).trans ?_)
  rw [e7, e8]

end Cert.BackIdeal.Value

end
-- ==== Proof.BackReference.lean ====
module

public import proofs.«01_k».proof.Proof.Back
public import proofs.«01_k».proof.Proof.Gen.BackReferenceIdeal.Run

/-!
  The reference's two results after the mixers, step by step.
-/

@[expose] public section

set_option maxRecDepth 16384

noncomputable section

open Idealize.ShloMosaic Idealize.ShloMosaic.TcCoe Idealize.SL.Sem
open Cert.BackIdeal.Value (gated mixMl outp rms hidden query)

namespace Cert.BackReferenceIdeal.Value

open Cert.BackReferenceIdeal Cert.BackReferenceIdeal.Gen

/-- The reference's first mixer's outputs. -/
def refMix (hf hb : FVec Ideal S16640x2048 .f32) (pm : FVec Ideal S16640x8192 .f32) (g : FVec Ideal S8x256 .f32) : FVec Ideal S16384x2048 .f32 :=
  mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extractStridedSlice S16384x2048 ![0, 6144] pm slices_S16640x8192_S16384x2048_0_6144))))) (shapeCast S16384x2048 (mulf (mulf (shapeCast S16384x8x256 (addf (extractStridedSlice S16384x2048 ![0, 0] hf slices_S16640x2048_S16384x2048_0_0) (extractStridedSlice S16384x2048 ![0, 0] hb slices_S16640x2048_S16384x2048_0_0)) shapeCasts_S16384x2048_S16384x8x256) (broadcastInDim S16384x8x256 ![0, 1, 2] bcast_S16384x8x1_S16384x8x256_0_1_2 (Host.rsqrt (addf (Host.divf (broadcastInDim S16384x8x1 ![0, 1] bcast_S16384x8_S16384x8x1_0_1 (Host.reduceAdd (mulf (shapeCast S16384x8x256 (addf (extractStridedSlice S16384x2048 ![0, 0] hf slices_S16640x2048_S16384x2048_0_0) (extractStridedSlice S16384x2048 ![0, 0] hb slices_S16640x2048_S16384x2048_0_0)) shapeCasts_S16384x2048_S16384x8x256) (shapeCast S16384x8x256 (addf (extractStridedSlice S16384x2048 ![0, 0] hf slices_S16640x2048_S16384x2048_0_0) (extractStridedSlice S16384x2048 ![0, 0] hb slices_S16640x2048_S16384x2048_0_0)) shapeCasts_S16384x2048_S16384x8x256)) (constant S_ .f32 0x00000000#32) reducesTo_S16384x8x256_S16384x8_d2 h_S_)) (broadcastInDim S16384x8x1 ![] bcast_S_S16384x8x1 (constant S_ .f32 0x43800000#32))) (broadcastInDim S16384x8x1 ![] bcast_S_S16384x8x1 (constant S_ .f32 0x358637BD#32)))))) (broadcastInDim S16384x8x256 ![0, 1, 2] bcast_S1x8x256_S16384x8x256_0_1_2 (broadcastInDim S1x8x256 ![1, 2] bcast_S8x256_S1x8x256_1_2 g))) shapeCasts_S16384x8x256_S16384x2048)

/-- The reference's projection of both mixers' outputs, joined, with the residual. -/
def refOut (mix : FVec Ideal S16384x2048 .f32) (gd : FVec Ideal S16384x2048 .bf16) (w : FVec Ideal S4096x4096 .f32) (x : FVec Ideal S16384x4096 .f32)
    (md : FVec Ideal S8x24576 .f32) : FVec Ideal S16384x4096 .f32 :=
  addf x (mulf (broadcastInDim S16384x4096 ![0, 1] bcast_S1x4096_S16384x4096_0_1 (extractStridedSlice S1x4096 ![0, 8192] md slices_S8x24576_S1x4096_0_8192)) (Host.dotGeneral dot_S16384x4096_S4096x4096_S16384x4096_1_0_0_1_n_n none (concatenate S16384x4096 1 [⟨S16384x2048, mix⟩, ⟨S16384x2048, (extf .f32 gd bitsLt_bf16_f32)⟩] concatenates_S16384x2048_S16384x2048_S16384x4096_d1) w))

/-- The reference's queries of the normalised input. -/
def refQuery (x1 : FVec Ideal S16384x4096 .f32) (md : FVec Ideal S8x24576 .f32) (g : FVec Ideal S1x4096 .f32) (w : FVec Ideal S4096x2048 .f32) : FVec Ideal S16384x2048 .f32 :=
  Host.dotGeneral dot_S16384x4096_S4096x2048_S16384x2048_1_0_0_1_n_n none (addf (mulf (mulf (mulf x1 (broadcastInDim S16384x4096 ![0, 1] bcast_S16384x1_S16384x4096_0_1 (Host.rsqrt (addf (Host.divf (broadcastInDim S16384x1 ![0] bcast_S16384_S16384x1_0 (Host.reduceAdd (mulf x1 x1) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 g)) (broadcastInDim S16384x4096 ![0, 1] bcast_S1x4096_S16384x4096_0_1 (addf (broadcastInDim S1x4096 ![] bcast_S_S1x4096 (constant S_ .f32 0x3F800000#32)) (extractStridedSlice S1x4096 ![0, 16384] md slices_S8x24576_S1x4096_0_16384)))) (broadcastInDim S16384x4096 ![0, 1] bcast_S1x4096_S16384x4096_0_1 (extractStridedSlice S1x4096 ![0, 12288] md slices_S8x24576_S1x4096_0_12288))) w

theorem refMix_eq (hf hb : FVec Ideal S16640x2048 .f32) (pm : FVec Ideal S16640x8192 .f32) (g : FVec Ideal S8x256 .f32) :
    refMix hf hb pm g = mixMl hf hb pm (shapeCast Cert.BackIdeal.S1x2048 g Cert.BackIdeal.Facts₀.shapeCasts_S8x256_S1x2048) := by
  funext i
  idx_vars i
  pointwise [refMix, mixMl, gated]

theorem refOut_eq (mix : FVec Ideal S16384x2048 .f32) (gd : FVec Ideal S16384x2048 .bf16) (w : FVec Ideal S4096x4096 .f32) (x : FVec Ideal S16384x4096 .f32)
    (md : FVec Ideal S8x24576 .f32) :
    refOut mix gd w x md = outp mix gd (extractStridedSlice Cert.BackIdeal.S2048x4096 ![0, 0] w Cert.BackIdeal.Facts₀.slices_S4096x4096_S2048x4096_0_0)
      (extractStridedSlice Cert.BackIdeal.S2048x4096 ![2048, 0] w Cert.BackIdeal.Facts₀.slices_S4096x4096_S2048x4096_2048_0) x md := by
  funext i
  idx_vars i
  pointwise [refOut, outp]

theorem refQuery_eq (x1 : FVec Ideal S16384x4096 .f32) (md : FVec Ideal S8x24576 .f32) (g : FVec Ideal S1x4096 .f32) (w : FVec Ideal S4096x2048 .f32) :
    refQuery x1 md g w = query (hidden x1 md g) w := by
  funext i
  idx_vars i
  pointwise [refQuery, query, Cert.BackIdeal.Value.hidden, rms]

end Cert.BackReferenceIdeal.Value

end
-- ==== Proof.Conv.lean ====
module

public import proofs.«01_k».proof.Proof.Gen.ConvIdeal.Value
public import Idealize.ShloMosaic.Lib.Pipeline.ValueKit
public import Idealize.ShloMosaic.Lib.Pipeline.ReadBack

/-!
  The second mixer's short convolution: five neighbouring rows of a segment weighed and added, gated by its own
  sigmoid, and the query and key parts divided by the length of each head.
-/

@[expose] public section

set_option maxRecDepth 16384

noncomputable section

open Idealize.ShloMosaic Idealize.ShloMosaic.TcCoe Idealize.SL.Sem
open Idealize.ShloMosaic.Pipeline (Dat)

namespace Cert.ConvIdeal.Value

open Cert.ConvIdeal Cert.ConvIdeal.Gen

/-- The gated sum of five weighed entries. -/
def gate5 (b : EReal) (x w : Fin 5 → EReal) : EReal :=
  (b + x 0 * w 0 + x 1 * w 1 + x 2 * w 2 + x 3 * w 3 + x 4 * w 4)
    * Ideal.div 1 (1 + Ideal.exp (-(b + x 0 * w 0 + x 1 * w 1 + x 2 * w 2 + x 3 * w 3 + x 4 * w 4)))

/-- An entry of part `p` (query, key, value): a value as it is, a key over its head's length, a query also scaled. -/
def unitOf (p : ℕ) (v : EReal) (s : Fin 128 → EReal) : EReal :=
  if p = 2 then v else v * Ideal.rsqrt ((∑ k : Fin 128, s k * s k) + Ideal.ofBits .f32 0x358637BD#32) * (if p = 0 then Ideal.ofBits .f32 0x3DB504F3#32 else 1)

/-- The entry `j - 2` rows from row `r`, zero outside of the row's segment: image rows first, context rows after them. -/
def near (lat : FVec Ideal S16384x8192 .f32) (ctx : FVec Ideal S256x8192 .f32) (r : Fin 16640) (l : Fin 6144) (j : Fin 5) : EReal :=
  if r.val < 16384 then
    if h : 2 ≤ r.val + j.val ∧ r.val + j.val < 16386 then
      lat (ix2 ⟨r.val + j.val - 2, by omega⟩ ⟨l.val, by have := l.isLt; omega⟩) else 0
  else
    if h : 16386 ≤ r.val + j.val ∧ r.val + j.val < 16642 then
      ctx (ix2 ⟨r.val + j.val - 16386, by omega⟩ ⟨l.val, by have := l.isLt; omega⟩) else 0

/-- The convolution's entry, gated. -/
def act (lat : FVec Ideal S16384x8192 .f32) (ctx : FVec Ideal S256x8192 .f32) (w : FVec Ideal S5x6144 .f32) (b : FVec Ideal S1x6144 .f32)
    (r : Fin 16640) (l : Fin 6144) : EReal :=
  gate5 (b (ix2 0 l)) (near lat ctx r l) (fun j => w (ix2 j l))

/-- The convolution's result. -/
def convOf (lat : FVec Ideal S16384x8192 .f32) (ctx : FVec Ideal S256x8192 .f32) (w : FVec Ideal S5x6144 .f32) (b : FVec Ideal S1x6144 .f32) :
    FVec Ideal S16640x6144 .f32 := fun i =>
  have h1 : (i 1).val < 6144 := (i 1).isLt
  unitOf ((i 1).val / 2048) (act lat ctx w b (i 0) (i 1)) (fun k => act lat ctx w b (i 0) ⟨(i 1).val / 128 * 128 + k.val, by omega⟩)

variable (m : (ℓ : Loc nD τ sig) → Buf (Elt Ideal) ℓ) (ρ : Dev nD → PrngReg)

theorem idx0 : ∀ t : Fin cfg0.N, win0_0.index t = ![min (t.val / 3) 63, t.val % 3] ∧ win0_1.index t = ![0, t.val % 3]
    ∧ win0_2.index t = ![min 2047 (t.val / 3 * 32 - 1), t.val % 3] ∧ win0_3.index t = ![min ((t.val / 3 + 1) * 32) 2047, t.val % 3]
    ∧ win0_4.index t = ![0, t.val % 3] ∧ win0_5.index t = ![0, t.val % 3] ∧ win0_6.index t = ![t.val / 3, t.val % 3] :=
  (by decide +kernel : ∀ t : Fin grid0.N, _)

theorem coords0 : ∀ t : Fin cfg0.N, (grid0.coords t 0).val = t.val / 3 ∧ (grid0.coords t 1).val = t.val % 3 :=
  (by decide +kernel : ∀ t : Fin grid0.N, _)

/-- The row blocks side by side: eight rows before, the point's rows, eight rows after. -/
def rowsOf (i : grid0.Coords) (b0 b1 : FVec Ideal S256x2048 .f32) (b2 b3 : FVec Ideal S8x2048 .f32) : FVec Ideal S272x2048 .f32 :=
  View.canon (Val := Elt Ideal) (s := S272x2048) (e := .f32) [⟨Rect.unit ![264, 0] ![8, 2048] inb_S272x2048_S8x2048_264_0, k0_pay5 (F := Ideal) i b3⟩,
            ⟨Rect.unit ![8, 0] ![256, 2048] inb_S272x2048_S256x2048_8_0, k0_pay4 (F := Ideal) i b1 b0⟩,
            ⟨Rect.unit ![0, 0] ![8, 2048] inb_S272x2048_S8x2048_0_0, k0_pay3 (F := Ideal) i b2⟩]

theorem rowsOf_read (i : grid0.Coords) (b0 b1 : FVec Ideal S256x2048 .f32) (b2 b3 : FVec Ideal S8x2048 .f32) :
    View.readCov (Val := Elt Ideal) (View.whole cc0_scratch0) [⟨Rect.unit ![264, 0] ![8, 2048] inb_S272x2048_S8x2048_264_0, k0_pay5 (F := Ideal) i b3⟩,
            ⟨Rect.unit ![8, 0] ![256, 2048] inb_S272x2048_S256x2048_8_0, k0_pay4 (F := Ideal) i b1 b0⟩,
            ⟨Rect.unit ![0, 0] ![8, 2048] inb_S272x2048_S8x2048_0_0, k0_pay3 (F := Ideal) i b2⟩]
          (Rect.unit (s := S272x2048) ![0, 0] ![272, 2048] inb_S272x2048_S272x2048_0_0).toLoadRect = rowsOf i b0 b1 b2 b3 := by
  rw [View.readCov_eq_canon']
  funext y
  unfold rowsOf
  congr 1
  funext a
  fin_cases a <;> exact Fin.ext (by show 0 + 1 * _ = _; omega)

theorem words0 : ∀ k : Fin 65, Scalar.cmpi .sge (BitVec.ofNat 32 k.val) 64#32 = (if 64 ≤ k.val then 1#1 else 0#1)
    ∧ Scalar.cmpi .sge (BitVec.ofNat 32 k.val) 63#32 = (if 63 ≤ k.val then 1#1 else 0#1)
    ∧ Scalar.ori (Scalar.cmpi .eq (BitVec.ofNat 32 k.val) 0#32) (Scalar.cmpi .sge (BitVec.ofNat 32 k.val) 64#32)
      = (if k.val = 0 ∨ 64 ≤ k.val then 1#1 else 0#1) := by decide +kernel

theorem select_if {α : Type} (P : Prop) [Decidable P] (a b : α) : Scalar.select (if P then 1#1 else 0#1) a b = if P then a else b := by
  split <;> rfl

theorem rowsOf_apply (i : grid0.Coords) (b0 b1 : FVec Ideal S256x2048 .f32) (b2 b3 : FVec Ideal S8x2048 .f32) (y : S272x2048.Idx) :
    rowsOf i b0 b1 b2 b3 y =
      if h : (y 0).val < 8 then (if (i 0).val = 0 ∨ 64 ≤ (i 0).val then 0 else b2 (ix2 ⟨(y 0).val, h⟩ (y 1)))
      else if h' : (y 0).val < 264 then (if 64 ≤ (i 0).val then b1 (ix2 ⟨(y 0).val - 8, by omega⟩ (y 1)) else b0 (ix2 ⟨(y 0).val - 8, by omega⟩ (y 1)))
      else (if 63 ≤ (i 0).val then 0 else b3 (ix2 ⟨(y 0).val - 264, by have : (y 0).val < 272 := (y 0).isLt; omega⟩ (y 1))) := by
  have hi : (i 0).val < 65 := (i 0).isLt
  have hy : (y 0).val < 272 := (y 0).isLt
  have hy1 : (y 1).val < 2048 := (y 1).isLt
  unfold rowsOf
  have hcover : ∃ p ∈ [(⟨Rect.unit ![264, 0] ![8, 2048] inb_S272x2048_S8x2048_264_0, k0_pay5 (F := Ideal) i b3⟩ : View.Piece (Elt Ideal) S272x2048 .f32),
            ⟨Rect.unit ![8, 0] ![256, 2048] inb_S272x2048_S256x2048_8_0, k0_pay4 (F := Ideal) i b1 b0⟩,
            ⟨Rect.unit ![0, 0] ![8, 2048] inb_S272x2048_S8x2048_0_0, k0_pay3 (F := Ideal) i b2⟩], y ∈ p.1.set := by
    rcases Nat.lt_or_ge (y 0).val 8 with h | h
    · refine ⟨⟨Rect.unit ![0, 0] ![8, 2048] inb_S272x2048_S8x2048_0_0, k0_pay3 (F := Ideal) i b2⟩,
        .tail _ (.tail _ (.head _)), (Rect.mem_set_unit (inb := inb_S272x2048_S8x2048_0_0)).mpr fun a => ?_⟩
      fin_cases a
      · exact ⟨Nat.zero_le _, h⟩
      · exact ⟨Nat.zero_le _, hy1⟩
    · rcases Nat.lt_or_ge (y 0).val 264 with h' | h'
      · refine ⟨_, .tail _ (.head _), (Rect.mem_set_unit (inb := inb_S272x2048_S256x2048_8_0)).mpr fun a => ?_⟩
        fin_cases a
        · exact ⟨h, h'⟩
        · exact ⟨Nat.zero_le _, hy1⟩
      · refine ⟨_, .head _, (Rect.mem_set_unit (inb := inb_S272x2048_S8x2048_264_0)).mpr fun a => ?_⟩
        fin_cases a
        · exact ⟨h', hy⟩
        · exact ⟨Nat.zero_le _, hy1⟩
  canon_tiles x h using hcover
  all_goals
    clear hcover hy
    have hc := words0 (i 0)
    open_payloads
    pointwise []
    first | rw [hc.2.2, select_if] | rw [hc.2.1, select_if] | rw [hc.1, select_if]
  · rw [dif_neg (by omega), dif_neg (by omega)]
    refine congrArg (fun a => ite _ _ a) (congrArg b3 ?_)
    funext a
    fin_cases a
    · exact Fin.ext (by show (x 0).val = (y 0).val - 264; omega)
    · exact Fin.ext h1.symm
  · rw [dif_neg (by omega), dif_pos (by omega)]
    have e : x = ix2 (⟨(y 0).val - 8, by omega⟩ : Fin 256) (y 1) := by
      funext a
      fin_cases a
      · exact Fin.ext (by show (x 0).val = (y 0).val - 8; omega)
      · exact Fin.ext h1.symm
    exact congrArg (fun a => ite _ (b1 a) (b0 a)) e
  · rw [dif_pos (by omega)]
    refine congrArg (fun a => ite _ _ a) (congrArg b2 ?_)
    funext a
    fin_cases a
    · exact Fin.ext h0.symm
    · exact Fin.ext h1.symm

theorem rowsOf_ix (i : grid0.Coords) (b0 b1 : FVec Ideal S256x2048 .f32) (b2 b3 : FVec Ideal S8x2048 .f32) (n : ℕ) (hn : n < 272) (b : Fin 2048) :
    rowsOf i b0 b1 b2 b3 (ix2 ⟨n, hn⟩ b) =
      if h : n < 8 then (if (i 0).val = 0 ∨ 64 ≤ (i 0).val then 0 else b2 (ix2 ⟨n, h⟩ b))
      else if h' : n < 264 then (if 64 ≤ (i 0).val then b1 (ix2 ⟨n - 8, by omega⟩ b) else b0 (ix2 ⟨n - 8, by omega⟩ b))
      else (if 63 ≤ (i 0).val then 0 else b3 (ix2 ⟨n - 264, by omega⟩ b)) := rowsOf_apply i b0 b1 b2 b3 (ix2 ⟨n, hn⟩ b)

/-- The convolved rows of a point. -/
def actOf (e : FVec Ideal S272x2048 .f32) (b4 : FVec Ideal S5x2048 .f32) (b5 : FVec Ideal S1x2048 .f32) : FVec Ideal S256x2048 .f32 :=
  k0_pay8 (k0_pay6 b5) e (k0_pay7 e)
        (View.ld (Val := Elt Ideal) (e' := .f32) b4 (Rect.unit (s := S5x2048) ![0, 0] ![1, 2048] inb_S5x2048_S1x2048_0_0))
        (View.ld (Val := Elt Ideal) (e' := .f32) b4 (Rect.unit (s := S5x2048) ![1, 0] ![1, 2048] inb_S5x2048_S1x2048_1_0))
        (View.ld (Val := Elt Ideal) (e' := .f32) b4 (Rect.unit (s := S5x2048) ![2, 0] ![1, 2048] inb_S5x2048_S1x2048_2_0))
        (View.ld (Val := Elt Ideal) (e' := .f32) b4 (Rect.unit (s := S5x2048) ![3, 0] ![1, 2048] inb_S5x2048_S1x2048_3_0))
        (View.ld (Val := Elt Ideal) (e' := .f32) b4 (Rect.unit (s := S5x2048) ![4, 0] ![1, 2048] inb_S5x2048_S1x2048_4_0))

theorem actOf_apply (e : FVec Ideal S272x2048 .f32) (b4 : FVec Ideal S5x2048 .f32) (b5 : FVec Ideal S1x2048 .f32) (y : S256x2048.Idx) :
    actOf e b4 b5 y = gate5 (b5 (ix2 0 (y 1)))
      (fun j => e (ix2 ⟨6 + (y 0).val + j.val, by have : (y 0).val < 256 := (y 0).isLt; omega⟩ (y 1))) (fun j => b4 (ix2 j (y 1))) := by
  unfold actOf
  open_payloads
  pointwise [gate5]
  simp only [zero_sub]
  blk_point []

/-- A point's entry of its convolved rows. -/
def tileOf (p : ℕ) (v : FVec Ideal S256x2048 .f32) (y : S256x2048.Idx) : EReal :=
  have h1 : (y 1).val < 2048 := (y 1).isLt
  unitOf p (v y) (fun k => v (ix2 (y 0) ⟨(y 1).val / 128 * 128 + k.val, by omega⟩))

/-- A head's columns of a point: the head over its length and scaled, or as it is. -/
def headT (o : ℕ) (hs : S256x2048.Slices ![0, o] S256x128) (v : FVec Ideal S256x2048 .f32) (w : BitVec 32) (f : Ideal .f32) : FVec Ideal S256x128 .f32 :=
  let u : FVec Ideal S256x128 .f32 := extractStridedSlice S256x128 ![0, o] v hs
  Scalar.select (Scalar.cmpi .eq w 2#32) u
    (mulf (mulf u (broadcastTo S256x128 (rsqrt (addf (shapeCast S256x1
        (multiReduction .add [1] S256 (mulf u u) 0x00000000#32 reduces_S256x128_S256 (.inl rfl) rfl) shapeCasts_S256_S256x1)
        (broadcast S256x1 (Scalar.ofBits .f32 0x358637BD#32)))) broadcasts_S256x1_S256x128)) (broadcast S256x128 f))

theorem headT_apply (o : ℕ) (hs : S256x2048.Slices ![0, o] S256x128) (v : FVec Ideal S256x2048 .f32) (w : BitVec 32) (f : Ideal .f32)
    (p : Fin 3) (x : S256x128.Idx) (y : S256x2048.Idx) (hw : w = BitVec.ofNat 32 p.val)
    (hf : f = if p.val = 0 then Ideal.ofBits .f32 0x3DB504F3#32 else Ideal.ofBits .f32 0x3F800000#32) (ho : o % 128 = 0) (ho' : o + 128 ≤ 2048)
    (h0 : (y 0).val = (x 0).val) (h1 : (y 1).val = o + (x 1).val) : headT o hs v w f x = tileOf p.val v y := by
  have hx : (x 1).val < 128 := (x 1).isLt
  subst hw hf
  have hy0 : y 0 = x 0 := Fin.ext h0
  have hd : (y 1).val / 128 * 128 = o := by omega
  have hy : ix2 (x 0) (⟨o + (x 1).val, by omega⟩ : Fin 2048) = y := by
    funext a
    fin_cases a
    · exact hy0.symm
    · exact Fin.ext h1.symm
  unfold headT
  fin_cases p
  · pointwise [tileOf, unitOf]
    simp only [hd, hy0]
    change (_ * _ * _ : EReal) = _
    exact congrArg₂ (· * ·) (congrArg₂ (· * ·) (congrArg v hy) rfl) rfl
  · pointwise [tileOf, unitOf]
    simp only [hd, hy0]
    change (_ * _ : EReal) = _
    exact congrArg₂ (· * ·) (congrArg v hy) rfl
  · pointwise [tileOf, unitOf]
    exact congrArg v hy

theorem blk0_0 (c : Dev nD) (t : Fin cfg0.N) (a : Fin 256) (b : Fin 2048) (a' : Fin 16384) (b' : Fin 8192) (h0 : a'.val = min (t.val / 3) 63 * 256 + a.val)
    (h1 : b'.val = t.val % 3 * 2048 + b.val) : (iblk m c 0 t : FVec Ideal S256x2048 .f32) (ix2 a b) = (V m c main_arg0 : FVec Ideal S16384x8192 .f32) (ix2 a' b') := by
  blk_point [iblk, idx0 t]

theorem blk0_1 (c : Dev nD) (t : Fin cfg0.N) (a : Fin 256) (b : Fin 2048) (a' : Fin 256) (b' : Fin 8192) (h0 : a'.val = a.val)
    (h1 : b'.val = t.val % 3 * 2048 + b.val) : (iblk m c 1 t : FVec Ideal S256x2048 .f32) (ix2 a b) = (V m c main_arg1 : FVec Ideal S256x8192 .f32) (ix2 a' b') := by
  blk_point [iblk, idx0 t]

theorem blk0_2 (c : Dev nD) (t : Fin cfg0.N) (a : Fin 8) (b : Fin 2048) (a' : Fin 16384) (b' : Fin 8192) (h0 : a'.val = min 2047 (t.val / 3 * 32 - 1) * 8 + a.val)
    (h1 : b'.val = t.val % 3 * 2048 + b.val) : (iblk m c 2 t : FVec Ideal S8x2048 .f32) (ix2 a b) = (V m c main_arg0 : FVec Ideal S16384x8192 .f32) (ix2 a' b') := by
  blk_point [iblk, idx0 t]

theorem blk0_3 (c : Dev nD) (t : Fin cfg0.N) (a : Fin 8) (b : Fin 2048) (a' : Fin 16384) (b' : Fin 8192) (h0 : a'.val = min ((t.val / 3 + 1) * 32) 2047 * 8 + a.val)
    (h1 : b'.val = t.val % 3 * 2048 + b.val) : (iblk m c 3 t : FVec Ideal S8x2048 .f32) (ix2 a b) = (V m c main_arg0 : FVec Ideal S16384x8192 .f32) (ix2 a' b') := by
  blk_point [iblk, idx0 t]

theorem blk0_4 (c : Dev nD) (t : Fin cfg0.N) (a : Fin 5) (b : Fin 2048) (a' : Fin 5) (b' : Fin 6144) (h0 : a'.val = a.val)
    (h1 : b'.val = t.val % 3 * 2048 + b.val) : (iblk m c 4 t : FVec Ideal S5x2048 .f32) (ix2 a b) = (V m c main_arg2 : FVec Ideal S5x6144 .f32) (ix2 a' b') := by
  blk_point [iblk, idx0 t]

theorem blk0_5 (c : Dev nD) (t : Fin cfg0.N) (a : Fin 1) (b : Fin 2048) (a' : Fin 1) (b' : Fin 6144) (h0 : a'.val = a.val)
    (h1 : b'.val = t.val % 3 * 2048 + b.val) : (iblk m c 5 t : FVec Ideal S1x2048 .f32) (ix2 a b) = (V m c main_arg3 : FVec Ideal S1x6144 .f32) (ix2 a' b') := by
  blk_point [iblk, idx0 t]

theorem rows_near (c : Dev nD) (t : Fin cfg0.N) (n : ℕ) (hn : n < 272) (z : Fin 2048) (r : Fin 16640) (l : Fin 6144) (j : Fin 5)
    (y0 : ℕ) (hy : y0 < 256) (e : n = 6 + y0 + j.val) (hr : r.val = t.val / 3 * 256 + y0) (hl : l.val = t.val % 3 * 2048 + z.val) :
    rowsOf (grid0.coords t) (iblk m c 0 t) (iblk m c 1 t) (iblk m c 2 t) (iblk m c 3 t) (ix2 ⟨n, hn⟩ z)
      = near (V m c main_arg0) (V m c main_arg1) r l j := by
  have ht : t.val < 195 := t.isLt
  have hj := j.isLt
  have hr' := r.isLt
  refine (rowsOf_ix _ _ _ _ _ n hn z).trans ?_
  rw [(coords0 t).1]
  unfold near
  rcases Nat.lt_or_ge (t.val / 3) 64 with hq | hq
  · rw [if_pos (show r.val < 16384 by omega)]
    rcases Nat.lt_or_ge n 8 with h | h
    · rw [dif_pos h]
      rcases Nat.eq_zero_or_pos (t.val / 3) with h0 | h0
      · rw [if_pos (Or.inl h0), dif_neg (by omega)]
      · rw [if_neg (by omega), dif_pos (by omega)]
        exact blk0_2 m c t _ _ _ _ (by dsimp only; omega) hl
    · rw [dif_neg (by omega)]
      rcases Nat.lt_or_ge n 264 with h' | h'
      · rw [dif_pos h', if_neg (by omega), dif_pos (by omega)]
        exact blk0_0 m c t _ _ _ _ (by dsimp only; omega) hl
      · rw [dif_neg (by omega)]
        rcases Nat.lt_or_ge (t.val / 3) 63 with h0 | h0
        · rw [if_neg (by omega), dif_pos (by omega)]
          exact blk0_3 m c t _ _ _ _ (by dsimp only; omega) hl
        · rw [if_pos h0, dif_neg (by omega)]
  · rw [if_neg (show ¬ r.val < 16384 by omega)]
    rcases Nat.lt_or_ge n 8 with h | h
    · rw [dif_pos h, if_pos (Or.inr hq), dif_neg (by omega)]
    · rw [dif_neg (by omega)]
      rcases Nat.lt_or_ge n 264 with h' | h'
      · rw [dif_pos h', if_pos hq, dif_pos (by omega)]
        exact blk0_1 m c t _ _ _ _ (by dsimp only; omega) hl
      · rw [dif_neg (by omega), if_pos (by omega), dif_neg (by omega)]

theorem element0 (c : Dev nD) (t : Fin cfg0.N) (y : S256x2048.Idx) (i : S16640x6144.Idx)
    (hi0 : (i 0 : ℕ) = t.val / 3 * 256 + y 0) (hi1 : (i 1 : ℕ) = t.val % 3 * 2048 + y 1) :
    tileOf (t.val % 3) (actOf (rowsOf (grid0.coords t) (iblk m c 0 t) (iblk m c 1 t) (iblk m c 2 t) (iblk m c 3 t)) (iblk m c 4 t) (iblk m c 5 t)) y
      = convOf (V m c main_arg0) (V m c main_arg1) (V m c main_arg2) (V m c main_arg3) i := by
  have ht : t.val < 195 := t.isLt
  have hy0 : (y 0).val < 256 := (y 0).isLt
  have hy1 : (y 1).val < 2048 := (y 1).isLt
  have hb : ∀ (l : Fin 6144) (z : Fin 2048), l.val = t.val % 3 * 2048 + z.val →
      actOf (rowsOf (grid0.coords t) (iblk m c 0 t) (iblk m c 1 t) (iblk m c 2 t) (iblk m c 3 t)) (iblk m c 4 t) (iblk m c 5 t) (ix2 (y 0) z)
        = act (V m c main_arg0) (V m c main_arg1) (V m c main_arg2) (V m c main_arg3) (i 0) l := by
    intro l z hl
    rw [actOf_apply]
    refine congr (congr (congrArg gate5 ?_) (funext fun j => ?_)) (funext fun j => ?_)
    · exact blk0_5 m c t _ _ _ _ rfl hl
    · exact rows_near m c t _ _ z (i 0) l j (y 0).val hy0 rfl hi0 hl
    · exact blk0_4 m c t _ _ _ _ rfl hl
  have hd : (i 1).val / 2048 = t.val % 3 := by omega
  have hf : (i 1).val / 128 * 128 = t.val % 3 * 2048 + (y 1).val / 128 * 128 := by omega
  unfold tileOf convOf
  refine (congr (congrArg (unitOf (t.val % 3)) ?_) (funext fun k => ?_)).trans (congrArg (fun p => unitOf p _ _) hd.symm)
  · refine Eq.trans (congrArg _ ?_) (hb (i 1) (y 1) hi1)
    exact eq_ix2 y
  · refine hb _ _ ?_
    dsimp only
    omega

theorem kernel_eq (c : Dev nD) : (dats m 0 c).arrAt 6 cfg0.N
    = convOf (V m c main_arg0) (V m c main_arg1) (V m c main_arg2) (V m c main_arg3) := by
  refine (dats m 0 c).arrAt_eq_of_covers 6 _ (by decide +kernel) fun t hf y => ?_
  blk_simp
  rw [after0_6]; unfold outsAt0; frame_out
  refine Eq.trans ?_ (element0 m c t y _ (by blk_simp [idx0 t]) (by blk_simp [idx0 t]))
  generalize iblk m c 0 t = b0
  generalize iblk m c 1 t = b1
  generalize iblk m c 2 t = b2
  generalize iblk m c 3 t = b3
  generalize iblk m c 4 t = b4
  generalize iblk m c 5 t = b5
  rw [← (coords0 t).2]
  generalize grid0.coords t 1 = p
  change Fin 3 at p
  canon_tiles x h
  all_goals
    rw [rowsOf_read]
    generalize rowsOf (grid0.coords t) b0 b1 b2 b3 = e
    refine headT_apply _ (by decide) (actOf e b4 b5) _ _ p x y ?_ ?_ ?_ ?_ ?_ ?_
    · fin_cases p <;> rfl
    · fin_cases p <;> rfl
    · decide
    · decide
    · exact h0
    · omega

end Cert.ConvIdeal.Value

end
-- ==== Proof.ConvReference.lean ====
module

public import proofs.«01_k».proof.Proof.Conv
public import proofs.«01_k».proof.Proof.Gen.ConvReferenceIdeal.Run

/-!
  The second mixer's short convolution in the reference: zero rows laid around a segment, five shifted copies weighed
  and added, gated, and the query and key heads divided by their lengths.
-/

@[expose] public section

set_option maxRecDepth 16384

noncomputable section

open Idealize.ShloMosaic Idealize.ShloMosaic.TcCoe Idealize.SL.Sem Idealize.ShloMosaic.StableHlo

namespace Cert.ConvReferenceIdeal.Value

open Cert.ConvReferenceIdeal Cert.ConvReferenceIdeal.Gen
open Cert.ConvIdeal.Value (gate5 unitOf near act convOf)

variable (V0 : Valuation τ sig (Elt Ideal))

theorem unitOf_zero (v : EReal) (s : Fin 128 → EReal) : unitOf 0 v s
    = v * Ideal.rsqrt ((∑ k : Fin 128, s k * s k) + Ideal.ofBits .f32 0x358637BD#32) * Ideal.ofBits .f32 0x3DB504F3#32 := by
  simp [unitOf]

theorem unitOf_one (v : EReal) (s : Fin 128 → EReal) : unitOf 1 v s
    = v * Ideal.rsqrt ((∑ k : Fin 128, s k * s k) + Ideal.ofBits .f32 0x358637BD#32) := by
  simp [unitOf]

theorem unitOf_two (v : EReal) (s : Fin 128 → EReal) : unitOf 2 v s = v := by
  simp [unitOf]

/-- The image's projection. -/
abbrev lat : FVec Ideal S16384x8192 .f32 := V0 (Proc.devRef .tc main_arg0)

/-- The context's projection. -/
abbrev ctx : FVec Ideal S256x8192 .f32 := V0 (Proc.devRef .tc main_arg1)

/-- The five weights of each column. -/
abbrev wts : FVec Ideal S5x6144 .f32 := V0 (Proc.devRef .tc main_arg2)

/-- The bias of each column. -/
abbrev bias : FVec Ideal S1x6144 .f32 := V0 (Proc.devRef .tc main_arg3)

/-- The image with two zero rows before and after. -/
abbrev latE : FVec Ideal S16388x6144 .f32 := res_main_v2 (F := Ideal) V0

/-- The image's weighed sums. -/
abbrev latR : FVec Ideal S16384x6144 .f32 := res_main_v42 (F := Ideal) V0

/-- The image's gated sums. -/
abbrev latA : FVec Ideal S16384x6144 .f32 := res_main_v49 (F := Ideal) V0

theorem lat_ext (r : Fin 16388) (l : Fin 6144) : latE V0 (ix2 r l)
    = if h : 2 ≤ r.val ∧ r.val < 16386 then lat V0 (ix2 ⟨r.val - 2, by omega⟩ ⟨l.val, by have := l.isLt; omega⟩) else 0 := by
  pointwise [latE, res_main_v2, res_main_v0]
  by_cases h : 2 ≤ r.val ∧ r.val < 16386
  · rw [dif_pos h, dif_neg (by omega), dif_pos (by omega)]
  · rw [dif_neg h]
    by_cases h' : r.val < 2
    · rw [dif_pos h']
    · rw [dif_neg h', dif_neg (by omega)]

theorem lat_near (r : Fin 16384) (l : Fin 6144) (j : Fin 5) (k : ℕ) (hk : k < 16388) (e : k = j.val + r.val) :
    latE V0 (ix2 ⟨k, hk⟩ l) = near (lat V0) (ctx V0) ⟨r.val + 0, by omega⟩ l j := by
  have hj := j.isLt
  subst e
  rw [lat_ext]
  unfold near
  rw [if_pos (by dsimp only; omega)]
  by_cases h : 2 ≤ j.val + r.val ∧ j.val + r.val < 16386
  · rw [dif_pos h, dif_pos (by dsimp only; omega)]
    refine congrArg (fun a => lat V0 (ix2 a _)) (Fin.ext ?_)
    dsimp only
    omega
  · rw [dif_neg h, dif_neg (by dsimp only; omega)]

theorem lat_raw (r : Fin 16384) (l : Fin 6144) : latR V0 (ix2 r l)
    = bias V0 (ix2 0 l) + latE V0 (ix2 ⟨r.val, by omega⟩ l) * wts V0 (ix2 0 l)
      + latE V0 (ix2 ⟨1 + r.val, by omega⟩ l) * wts V0 (ix2 1 l)
      + latE V0 (ix2 ⟨2 + r.val, by omega⟩ l) * wts V0 (ix2 2 l)
      + latE V0 (ix2 ⟨3 + r.val, by omega⟩ l) * wts V0 (ix2 3 l)
      + latE V0 (ix2 ⟨4 + r.val, by omega⟩ l) * wts V0 (ix2 4 l) := by
  unfold latR latE res_main_v42
  generalize (res_main_v2 (F := Ideal) V0 : FVec Ideal S16388x6144 .f32) = e
  pointwise []
  simp only [zero_add, add_assoc]

theorem lat_act (r : Fin 16384) (l : Fin 6144) : latA V0 (ix2 r l)
    = act (lat V0) (ctx V0) (wts V0) (bias V0) ⟨r.val + 0, by omega⟩ l := by
  have h := lat_raw V0 r l
  unfold latA res_main_v49
  unfold latR at h
  generalize (res_main_v42 (F := Ideal) V0 : FVec Ideal S16384x6144 .f32) = a at *
  pointwise [act, gate5]
  rw [h, lat_near V0 r l 0 _ _ (by simp), lat_near V0 r l 1 _ _ (by simp), lat_near V0 r l 2 _ _ (by simp), lat_near V0 r l 3 _ _ (by simp), lat_near V0 r l 4 _ _ (by simp)]
  rfl

/-- The heads from column 0, each over its length. -/
def latQ (a : FVec Ideal S16384x6144 .f32) : FVec Ideal S16384x2048 .f32 :=
  shapeCast S16384x2048 (mulf (shapeCast S16384x16x128 (extractStridedSlice S16384x2048 ![0, 0] a slices_S16384x6144_S16384x2048_0_0) shapeCasts_S16384x2048_S16384x16x128) (broadcastInDim S16384x16x128 ![0, 1, 2] bcast_S16384x16x1_S16384x16x128_0_1_2 (Host.rsqrt (addf (broadcastInDim S16384x16x1 ![0, 1] bcast_S16384x16_S16384x16x1_0_1 (Host.reduceAdd (mulf (shapeCast S16384x16x128 (extractStridedSlice S16384x2048 ![0, 0] a slices_S16384x6144_S16384x2048_0_0) shapeCasts_S16384x2048_S16384x16x128) (shapeCast S16384x16x128 (extractStridedSlice S16384x2048 ![0, 0] a slices_S16384x6144_S16384x2048_0_0) shapeCasts_S16384x2048_S16384x16x128)) (constant (F := Ideal) S_ .f32 0x00000000#32) reducesTo_S16384x16x128_S16384x16_d2 h_S_)) (broadcastInDim S16384x16x1 ![] bcast_S_S16384x16x1 (constant (F := Ideal) S_ .f32 0x358637BD#32)))))) shapeCasts_S16384x16x128_S16384x2048

theorem latQ_apply (a : FVec Ideal S16384x6144 .f32) (r : Fin 16384) (l : Fin 2048) : latQ a (ix2 r l)
    = a (ix2 r ⟨l.val, by omega⟩) * Ideal.rsqrt ((∑ k : Fin 128, a (ix2 r ⟨(l.val / 128 * 128 + k.val), by omega⟩) * a (ix2 r ⟨(l.val / 128 * 128 + k.val), by omega⟩))
      + Ideal.ofBits .f32 0x358637BD#32) := by
  pointwise [latQ]

/-- The heads from column 2048, each over its length. -/
def latK (a : FVec Ideal S16384x6144 .f32) : FVec Ideal S16384x2048 .f32 :=
  shapeCast S16384x2048 (mulf (shapeCast S16384x16x128 (extractStridedSlice S16384x2048 ![0, 2048] a slices_S16384x6144_S16384x2048_0_2048) shapeCasts_S16384x2048_S16384x16x128) (broadcastInDim S16384x16x128 ![0, 1, 2] bcast_S16384x16x1_S16384x16x128_0_1_2 (Host.rsqrt (addf (broadcastInDim S16384x16x1 ![0, 1] bcast_S16384x16_S16384x16x1_0_1 (Host.reduceAdd (mulf (shapeCast S16384x16x128 (extractStridedSlice S16384x2048 ![0, 2048] a slices_S16384x6144_S16384x2048_0_2048) shapeCasts_S16384x2048_S16384x16x128) (shapeCast S16384x16x128 (extractStridedSlice S16384x2048 ![0, 2048] a slices_S16384x6144_S16384x2048_0_2048) shapeCasts_S16384x2048_S16384x16x128)) (constant (F := Ideal) S_ .f32 0x00000000#32) reducesTo_S16384x16x128_S16384x16_d2 h_S_)) (broadcastInDim S16384x16x1 ![] bcast_S_S16384x16x1 (constant (F := Ideal) S_ .f32 0x358637BD#32)))))) shapeCasts_S16384x16x128_S16384x2048

theorem latK_apply (a : FVec Ideal S16384x6144 .f32) (r : Fin 16384) (l : Fin 2048) : latK a (ix2 r l)
    = a (ix2 r ⟨2048 + l.val, by omega⟩) * Ideal.rsqrt ((∑ k : Fin 128, a (ix2 r ⟨2048 + (l.val / 128 * 128 + k.val), by omega⟩) * a (ix2 r ⟨2048 + (l.val / 128 * 128 + k.val), by omega⟩))
      + Ideal.ofBits .f32 0x358637BD#32) := by
  pointwise [latK]

/-- A segment's three parts side by side. -/
def latRow (a : FVec Ideal S16384x6144 .f32) : FVec Ideal S16384x6144 .f32 :=
  concatenate S16384x6144 1 [⟨S16384x2048, mulf (latQ a) (broadcastInDim S16384x2048 ![] bcast_S_S16384x2048 (constant (F := Ideal) S_ .f32 0x3DB504F3#32))⟩,
      ⟨S16384x2048, latK a⟩, ⟨S16384x2048, extractStridedSlice S16384x2048 ![0, 4096] a slices_S16384x6144_S16384x2048_0_4096⟩] concatenates_S16384x2048_S16384x2048_S16384x2048_S16384x6144_d1

theorem latRow_apply (a : FVec Ideal S16384x6144 .f32) (r : Fin 16384) (l : Fin 6144) : latRow a (ix2 r l)
    = unitOf (l.val / 2048) (a (ix2 r l)) (fun k => a (ix2 r ⟨l.val / 128 * 128 + k.val, by omega⟩)) := by
  unfold latRow
  generalize e1 : latQ a = q
  generalize e2 : latK a = k
  pointwise []
  subst e1 e2
  rcases Nat.lt_or_ge l.val 2048 with h | h
  · rw [dif_pos h, latQ_apply, show l.val / 2048 = 0 by omega, unitOf_zero]
  · rw [dif_neg (by omega)]
    rcases Nat.lt_or_ge l.val 4096 with h' | h'
    · rw [dif_pos (by omega), latK_apply, show l.val / 2048 = 1 by omega, unitOf_one]
      have e : ∀ (x y : ℕ) (hx : x < 6144) (hy : y < 6144), x = y → a (ix2 r ⟨x, hx⟩) = a (ix2 r ⟨y, hy⟩) := by
        intro x y hx hy e
        subst e
        rfl
      refine congrArg₂ (· * ·) (e _ l.val _ l.isLt (by dsimp only; omega)) (congrArg Ideal.rsqrt (congrArg (· + _) (Finset.sum_congr rfl fun k _ => ?_)))
      exact congrArg₂ (· * ·) (e _ _ _ _ (by dsimp only; omega)) (e _ _ _ _ (by dsimp only; omega))
    · rw [dif_neg (by omega), show l.val / 2048 = 2 by omega, unitOf_two]
      exact congrArg (fun x => a (ix2 r x)) (Fin.ext (by dsimp only; omega))

/-- The context with two zero rows before and after. -/
abbrev ctxE : FVec Ideal S260x6144 .f32 := res_main_v78 (F := Ideal) V0

/-- The context's weighed sums. -/
abbrev ctxR : FVec Ideal S256x6144 .f32 := res_main_v118 (F := Ideal) V0

/-- The context's gated sums. -/
abbrev ctxA : FVec Ideal S256x6144 .f32 := res_main_v125 (F := Ideal) V0

theorem ctx_ext (r : Fin 260) (l : Fin 6144) : ctxE V0 (ix2 r l)
    = if h : 2 ≤ r.val ∧ r.val < 258 then ctx V0 (ix2 ⟨r.val - 2, by omega⟩ ⟨l.val, by have := l.isLt; omega⟩) else 0 := by
  pointwise [ctxE, res_main_v78, res_main_v76]
  by_cases h : 2 ≤ r.val ∧ r.val < 258
  · rw [dif_pos h, dif_neg (by omega), dif_pos (by omega)]
  · rw [dif_neg h]
    by_cases h' : r.val < 2
    · rw [dif_pos h']
    · rw [dif_neg h', dif_neg (by omega)]

theorem ctx_near (r : Fin 256) (l : Fin 6144) (j : Fin 5) (k : ℕ) (hk : k < 260) (e : k = j.val + r.val) :
    ctxE V0 (ix2 ⟨k, hk⟩ l) = near (lat V0) (ctx V0) ⟨r.val + 16384, by omega⟩ l j := by
  have hj := j.isLt
  subst e
  rw [ctx_ext]
  unfold near
  rw [if_neg (by dsimp only; omega)]
  by_cases h : 2 ≤ j.val + r.val ∧ j.val + r.val < 258
  · rw [dif_pos h, dif_pos (by dsimp only; omega)]
    refine congrArg (fun a => ctx V0 (ix2 a _)) (Fin.ext ?_)
    dsimp only
    omega
  · rw [dif_neg h, dif_neg (by dsimp only; omega)]

theorem ctx_raw (r : Fin 256) (l : Fin 6144) : ctxR V0 (ix2 r l)
    = bias V0 (ix2 0 l) + ctxE V0 (ix2 ⟨r.val, by omega⟩ l) * wts V0 (ix2 0 l)
      + ctxE V0 (ix2 ⟨1 + r.val, by omega⟩ l) * wts V0 (ix2 1 l)
      + ctxE V0 (ix2 ⟨2 + r.val, by omega⟩ l) * wts V0 (ix2 2 l)
      + ctxE V0 (ix2 ⟨3 + r.val, by omega⟩ l) * wts V0 (ix2 3 l)
      + ctxE V0 (ix2 ⟨4 + r.val, by omega⟩ l) * wts V0 (ix2 4 l) := by
  unfold ctxR ctxE res_main_v118
  generalize (res_main_v78 (F := Ideal) V0 : FVec Ideal S260x6144 .f32) = e
  pointwise []
  simp only [zero_add, add_assoc]

theorem ctx_act (r : Fin 256) (l : Fin 6144) : ctxA V0 (ix2 r l)
    = act (lat V0) (ctx V0) (wts V0) (bias V0) ⟨r.val + 16384, by omega⟩ l := by
  have h := ctx_raw V0 r l
  unfold ctxA res_main_v125
  unfold ctxR at h
  generalize (res_main_v118 (F := Ideal) V0 : FVec Ideal S256x6144 .f32) = a at *
  pointwise [act, gate5]
  rw [h, ctx_near V0 r l 0 _ _ (by simp), ctx_near V0 r l 1 _ _ (by simp), ctx_near V0 r l 2 _ _ (by simp), ctx_near V0 r l 3 _ _ (by simp), ctx_near V0 r l 4 _ _ (by simp)]

/-- The heads from column 0, each over its length. -/
def ctxQ (a : FVec Ideal S256x6144 .f32) : FVec Ideal S256x2048 .f32 :=
  shapeCast S256x2048 (mulf (shapeCast S256x16x128 (extractStridedSlice S256x2048 ![0, 0] a slices_S256x6144_S256x2048_0_0) shapeCasts_S256x2048_S256x16x128) (broadcastInDim S256x16x128 ![0, 1, 2] bcast_S256x16x1_S256x16x128_0_1_2 (Host.rsqrt (addf (broadcastInDim S256x16x1 ![0, 1] bcast_S256x16_S256x16x1_0_1 (Host.reduceAdd (mulf (shapeCast S256x16x128 (extractStridedSlice S256x2048 ![0, 0] a slices_S256x6144_S256x2048_0_0) shapeCasts_S256x2048_S256x16x128) (shapeCast S256x16x128 (extractStridedSlice S256x2048 ![0, 0] a slices_S256x6144_S256x2048_0_0) shapeCasts_S256x2048_S256x16x128)) (constant (F := Ideal) S_ .f32 0x00000000#32) reducesTo_S256x16x128_S256x16_d2 h_S_)) (broadcastInDim S256x16x1 ![] bcast_S_S256x16x1 (constant (F := Ideal) S_ .f32 0x358637BD#32)))))) shapeCasts_S256x16x128_S256x2048

theorem ctxQ_apply (a : FVec Ideal S256x6144 .f32) (r : Fin 256) (l : Fin 2048) : ctxQ a (ix2 r l)
    = a (ix2 r ⟨l.val, by omega⟩) * Ideal.rsqrt ((∑ k : Fin 128, a (ix2 r ⟨(l.val / 128 * 128 + k.val), by omega⟩) * a (ix2 r ⟨(l.val / 128 * 128 + k.val), by omega⟩))
      + Ideal.ofBits .f32 0x358637BD#32) := by
  pointwise [ctxQ]

/-- The heads from column 2048, each over its length. -/
def ctxK (a : FVec Ideal S256x6144 .f32) : FVec Ideal S256x2048 .f32 :=
  shapeCast S256x2048 (mulf (shapeCast S256x16x128 (extractStridedSlice S256x2048 ![0, 2048] a slices_S256x6144_S256x2048_0_2048) shapeCasts_S256x2048_S256x16x128) (broadcastInDim S256x16x128 ![0, 1, 2] bcast_S256x16x1_S256x16x128_0_1_2 (Host.rsqrt (addf (broadcastInDim S256x16x1 ![0, 1] bcast_S256x16_S256x16x1_0_1 (Host.reduceAdd (mulf (shapeCast S256x16x128 (extractStridedSlice S256x2048 ![0, 2048] a slices_S256x6144_S256x2048_0_2048) shapeCasts_S256x2048_S256x16x128) (shapeCast S256x16x128 (extractStridedSlice S256x2048 ![0, 2048] a slices_S256x6144_S256x2048_0_2048) shapeCasts_S256x2048_S256x16x128)) (constant (F := Ideal) S_ .f32 0x00000000#32) reducesTo_S256x16x128_S256x16_d2 h_S_)) (broadcastInDim S256x16x1 ![] bcast_S_S256x16x1 (constant (F := Ideal) S_ .f32 0x358637BD#32)))))) shapeCasts_S256x16x128_S256x2048

theorem ctxK_apply (a : FVec Ideal S256x6144 .f32) (r : Fin 256) (l : Fin 2048) : ctxK a (ix2 r l)
    = a (ix2 r ⟨2048 + l.val, by omega⟩) * Ideal.rsqrt ((∑ k : Fin 128, a (ix2 r ⟨2048 + (l.val / 128 * 128 + k.val), by omega⟩) * a (ix2 r ⟨2048 + (l.val / 128 * 128 + k.val), by omega⟩))
      + Ideal.ofBits .f32 0x358637BD#32) := by
  pointwise [ctxK]

/-- A segment's three parts side by side. -/
def ctxRow (a : FVec Ideal S256x6144 .f32) : FVec Ideal S256x6144 .f32 :=
  concatenate S256x6144 1 [⟨S256x2048, mulf (ctxQ a) (broadcastInDim S256x2048 ![] bcast_S_S256x2048 (constant (F := Ideal) S_ .f32 0x3DB504F3#32))⟩,
      ⟨S256x2048, ctxK a⟩, ⟨S256x2048, extractStridedSlice S256x2048 ![0, 4096] a slices_S256x6144_S256x2048_0_4096⟩] concatenates_S256x2048_S256x2048_S256x2048_S256x6144_d1

theorem ctxRow_apply (a : FVec Ideal S256x6144 .f32) (r : Fin 256) (l : Fin 6144) : ctxRow a (ix2 r l)
    = unitOf (l.val / 2048) (a (ix2 r l)) (fun k => a (ix2 r ⟨l.val / 128 * 128 + k.val, by omega⟩)) := by
  unfold ctxRow
  generalize e1 : ctxQ a = q
  generalize e2 : ctxK a = k
  pointwise []
  subst e1 e2
  rcases Nat.lt_or_ge l.val 2048 with h | h
  · rw [dif_pos h, ctxQ_apply, show l.val / 2048 = 0 by omega, unitOf_zero]
  · rw [dif_neg (by omega)]
    rcases Nat.lt_or_ge l.val 4096 with h' | h'
    · rw [dif_pos (by omega), ctxK_apply, show l.val / 2048 = 1 by omega, unitOf_one]
      have e : ∀ (x y : ℕ) (hx : x < 6144) (hy : y < 6144), x = y → a (ix2 r ⟨x, hx⟩) = a (ix2 r ⟨y, hy⟩) := by
        intro x y hx hy e
        subst e
        rfl
      refine congrArg₂ (· * ·) (e _ l.val _ l.isLt (by dsimp only; omega)) (congrArg Ideal.rsqrt (congrArg (· + _) (Finset.sum_congr rfl fun k _ => ?_)))
      exact congrArg₂ (· * ·) (e _ _ _ _ (by dsimp only; omega)) (e _ _ _ _ (by dsimp only; omega))
    · rw [dif_neg (by omega), show l.val / 2048 = 2 by omega, unitOf_two]
      exact congrArg (fun x => a (ix2 r x)) (Fin.ext (by dsimp only; omega))

theorem result_eq : (concatenate S16640x6144 0 [⟨S16384x6144, ((concatenate S16384x6144 1 [⟨S16384x2048, ((mulf (shapeCast _ (mulf (res_main_v51 (F := Ideal) V0) (broadcastInDim S16384x16x128 ![0, 1, 2] bcast_S16384x16x1_S16384x16x128_0_1_2 (Host.rsqrt (addf (broadcastInDim S16384x16x1 ![0, 1] bcast_S16384x16_S16384x16x1_0_1 (Host.reduceAdd (mulf (res_main_v51 (F := Ideal) V0) (res_main_v51 (F := Ideal) V0)) (constant (F := Ideal) S_ .f32 0x00000000#32) reducesTo_S16384x16x128_S16384x16_d2 h_S_)) (broadcastInDim S16384x16x1 ![] bcast_S_S16384x16x1 (constant (F := Ideal) S_ .f32 0x358637BD#32)))))) shapeCasts_S16384x16x128_S16384x2048) (broadcastInDim S16384x2048 ![] bcast_S_S16384x2048 (constant (F := Ideal) S_ .f32 0x3DB504F3#32))) : (⟨S16384x2048, .f32⟩ : BufTy).Contents (Elt Ideal))⟩, ⟨S16384x2048, ((shapeCast _ (mulf (res_main_v64 (F := Ideal) V0) (broadcastInDim S16384x16x128 ![0, 1, 2] bcast_S16384x16x1_S16384x16x128_0_1_2 (Host.rsqrt (addf (broadcastInDim S16384x16x1 ![0, 1] bcast_S16384x16_S16384x16x1_0_1 (Host.reduceAdd (mulf (res_main_v64 (F := Ideal) V0) (res_main_v64 (F := Ideal) V0)) (constant (F := Ideal) S_ .f32 0x00000000#32) reducesTo_S16384x16x128_S16384x16_d2 h_S_)) (broadcastInDim S16384x16x1 ![] bcast_S_S16384x16x1 (constant (F := Ideal) S_ .f32 0x358637BD#32)))))) shapeCasts_S16384x16x128_S16384x2048) : (⟨S16384x2048, .f32⟩ : BufTy).Contents (Elt Ideal))⟩, ⟨S16384x2048, ((extractStridedSlice S16384x2048 ![0, 4096] (res_main_v49 (F := Ideal) V0) slices_S16384x6144_S16384x2048_0_4096) : (⟨S16384x2048, .f32⟩ : BufTy).Contents (Elt Ideal))⟩] concatenates_S16384x2048_S16384x2048_S16384x2048_S16384x6144_d1 : (⟨S16384x6144, .f32⟩ : BufTy).Contents (Elt Ideal)))⟩, ⟨S256x6144, ((concatenate S256x6144 1 [⟨S256x2048, ((mulf (shapeCast _ (mulf (res_main_v127 (F := Ideal) V0) (broadcastInDim S256x16x128 ![0, 1, 2] bcast_S256x16x1_S256x16x128_0_1_2 (Host.rsqrt (addf (broadcastInDim S256x16x1 ![0, 1] bcast_S256x16_S256x16x1_0_1 (Host.reduceAdd (mulf (res_main_v127 (F := Ideal) V0) (res_main_v127 (F := Ideal) V0)) (constant (F := Ideal) S_ .f32 0x00000000#32) reducesTo_S256x16x128_S256x16_d2 h_S_)) (broadcastInDim S256x16x1 ![] bcast_S_S256x16x1 (constant (F := Ideal) S_ .f32 0x358637BD#32)))))) shapeCasts_S256x16x128_S256x2048) (broadcastInDim S256x2048 ![] bcast_S_S256x2048 (constant (F := Ideal) S_ .f32 0x3DB504F3#32))) : (⟨S256x2048, .f32⟩ : BufTy).Contents (Elt Ideal))⟩, ⟨S256x2048, ((shapeCast _ (mulf (res_main_v140 (F := Ideal) V0) (broadcastInDim S256x16x128 ![0, 1, 2] bcast_S256x16x1_S256x16x128_0_1_2 (Host.rsqrt (addf (broadcastInDim S256x16x1 ![0, 1] bcast_S256x16_S256x16x1_0_1 (Host.reduceAdd (mulf (res_main_v140 (F := Ideal) V0) (res_main_v140 (F := Ideal) V0)) (constant (F := Ideal) S_ .f32 0x00000000#32) reducesTo_S256x16x128_S256x16_d2 h_S_)) (broadcastInDim S256x16x1 ![] bcast_S_S256x16x1 (constant (F := Ideal) S_ .f32 0x358637BD#32)))))) shapeCasts_S256x16x128_S256x2048) : (⟨S256x2048, .f32⟩ : BufTy).Contents (Elt Ideal))⟩, ⟨S256x2048, ((extractStridedSlice S256x2048 ![0, 4096] (res_main_v125 (F := Ideal) V0) slices_S256x6144_S256x2048_0_4096) : (⟨S256x2048, .f32⟩ : BufTy).Contents (Elt Ideal))⟩] concatenates_S256x2048_S256x2048_S256x2048_S256x6144_d1 : (⟨S256x6144, .f32⟩ : BufTy).Contents (Elt Ideal)))⟩] concatenates_S16384x6144_S256x6144_S16640x6144_d0 : FVec Ideal S16640x6144 .f32)
    = convOf (lat V0) (ctx V0) (wts V0) (bias V0) := by
  funext i
  have hl := lat_act V0
  have hc := ctx_act V0
  unfold latA at hl
  unfold ctxA at hc
  unfold res_main_v51 res_main_v64 res_main_v127 res_main_v140
  generalize (res_main_v49 (F := Ideal) V0 : FVec Ideal S16384x6144 .f32) = a at *
  generalize (res_main_v125 (F := Ideal) V0 : FVec Ideal S256x6144 .f32) = b at *
  change concatenate S16640x6144 0 [⟨S16384x6144, latRow a⟩, ⟨S256x6144, ctxRow b⟩] concatenates_S16384x6144_S256x6144_S16640x6144_d0 i = _
  have hL := latRow_apply a
  have hC := ctxRow_apply b
  unfold convOf
  idx_vars i
  pointwise []
  rcases Nat.lt_or_ge i0.val 16384 with h | h
  · rw [dif_pos h, hL]
    simp only [hl]
    rfl
  · rw [dif_neg (by omega), hC]
    simp only [hc]
    have e : (⟨i0.val - 16384 + 16384, by omega⟩ : Fin 16640) = i0 := Fin.ext (by dsimp only; omega)
    rw [e]

end Cert.ConvReferenceIdeal.Value

end
-- ==== Proof.Parts.lean ====
module

public import proofs.«01_k».proof.Defs
public import proofs.«01_k».proof.Proof.ProjMl
public import proofs.«01_k».proof.Proof.ProjGdLat
public import proofs.«01_k».proof.Proof.ProjGdCtx
public import proofs.«01_k».proof.Proof.MixGd
public import proofs.«01_k».proof.Proof.FrontResult
public import proofs.«01_k».proof.Proof.FrontReference
public import proofs.«01_k».proof.Proof.BackResult
public import proofs.«01_k».proof.Proof.BackReference
public import proofs.«01_k».proof.Proof.ConvReference
public import proofs.«01_k».proof.Proof.Gen.FrontReferenceIdeal.Run
public import proofs.«01_k».proof.Proof.Gen.BackReferenceIdeal.Run
public import Idealize.ShloMosaic.Adequacy
public import Idealize.ShloMosaic.Init

/-!
  For each of the further programs: its reference runs and keeps its arguments, and its results and the reference's are
  the same numbers.
-/

@[expose] public section

set_option maxRecDepth 16384

noncomputable section

open Idealize.ShloMosaic Idealize.SL.Sem

namespace Cert.FrontReferenceIdeal.Value

open Cert.FrontReferenceIdeal Cert.FrontReferenceIdeal.Gen
open Cert.FrontIdeal.Value (modv tokens ordered gate)

variable (m : (ℓ : Loc nD τ sig) → Buf (Elt Ideal) ℓ) (c : Dev nD)

/-- The modulation vectors of the reference's arguments. -/
abbrev mv : FVec Ideal S8x24576 .f32 :=
  modv (m ((c.tc : Thread nD τ).loc main_arg2)) (m ((c.tc : Thread nD τ).loc main_arg3)) (m ((c.tc : Thread nD τ).loc main_arg4))

theorem tokens_result : res_main_v54 (F := Ideal) m c = tokens (m ((c.tc : Thread nD τ).loc main_arg0)) (m ((c.tc : Thread nD τ).loc main_arg1)) (mv m c) (m ((c.tc : Thread nD τ).loc main_arg5)) := by
  unfold mv
  rw [← refMod_eq]
  exact join_eq _ _ _ _

theorem gates_result : res_main_v60 (F := Ideal) m c = fun i : S16640x128.Idx =>
    gate (fun k => tokens (m ((c.tc : Thread nD τ).loc main_arg0)) (m ((c.tc : Thread nD τ).loc main_arg1)) (mv m c) (m ((c.tc : Thread nD τ).loc main_arg5)) (ix2 (i 0) k))
      (m ((c.tc : Thread nD τ).loc main_arg6)) (m ((c.tc : Thread nD τ).loc main_arg7)) (i 1) := by
  unfold mv
  rw [← refMod_eq]
  refine (gates_rows _ _ _).trans (funext fun i => ?_)
  exact congrArg (fun h : Fin 4096 → EReal => gate h _ _ _) (funext fun k => congrFun (join_eq _ _ _ _) (ix2 (i 0) k))

end Cert.FrontReferenceIdeal.Value

namespace Cert.BackReferenceIdeal.Value

open Cert.BackReferenceIdeal Cert.BackReferenceIdeal.Gen
open Cert.BackIdeal.Value (mixMl outp query)

variable (m : (ℓ : Loc nD τ sig) → Buf (Elt Ideal) ℓ) (c : Dev nD)

/-- The tokens after the mixers, of the reference's arguments. -/
abbrev x1 : FVec Ideal S16384x4096 .f32 :=
  refOut (refMix (m ((c.tc : Thread nD τ).loc main_arg0)) (m ((c.tc : Thread nD τ).loc main_arg1)) (m ((c.tc : Thread nD τ).loc main_arg2)) (m ((c.tc : Thread nD τ).loc main_arg3)))
    (shapeCast S16384x2048 (m ((c.tc : Thread nD τ).loc main_arg4)) shapeCasts_S256x64x2048_S16384x2048) (m ((c.tc : Thread nD τ).loc main_arg5))
    (m ((c.tc : Thread nD τ).loc main_arg6)) (m ((c.tc : Thread nD τ).loc main_arg7))

theorem query_result : res_main_v54 (F := Ideal) m c = query (Cert.BackIdeal.Value.hidden (x1 m c) (m ((c.tc : Thread nD τ).loc main_arg7)) (m ((c.tc : Thread nD τ).loc main_arg8))) (m ((c.tc : Thread nD τ).loc main_arg9)) :=
  refQuery_eq _ _ _ _

end Cert.BackReferenceIdeal.Value

namespace Cert.Proof

theorem frame_FrontReference : Cert.quiescent_FrontReferenceIdeal (hFrontReferenceIdeal := Cert.FrontReferenceIdeal.Gen.facts) := fun m g _ =>
  (θ_run Cert.FrontReferenceIdeal.defs _ _).mono (fun r h => ⟨fun c => (h c).2.2.2.2.2, Idealize.ShloMosaic.sem_eq_zero_of_no_sems (by decide) r.2⟩)
    (Cert.FrontReferenceIdeal.Value.run (F := Ideal) m g)

theorem frame_ProjMlReference : Cert.quiescent_ProjMlReferenceIdeal (hProjMlReferenceIdeal := Cert.ProjMlReferenceIdeal.Gen.facts) := fun m g _ =>
  (θ_run Cert.ProjMlReferenceIdeal.defs _ _).mono (fun r h => ⟨fun c => (h c).2, Idealize.ShloMosaic.sem_eq_zero_of_no_sems (by decide) r.2⟩)
    (Cert.ProjMlReferenceIdeal.Value.run (F := Ideal) m g)

theorem frame_ProjGdLatReference : Cert.quiescent_ProjGdLatReferenceIdeal (hProjGdLatReferenceIdeal := Cert.ProjGdLatReferenceIdeal.Gen.facts) := fun m g _ =>
  (θ_run Cert.ProjGdLatReferenceIdeal.defs _ _).mono (fun r h => ⟨fun c => (h c).2, Idealize.ShloMosaic.sem_eq_zero_of_no_sems (by decide) r.2⟩)
    (Cert.ProjGdLatReferenceIdeal.Value.run (F := Ideal) m g)

theorem frame_ProjGdCtxReference : Cert.quiescent_ProjGdCtxReferenceIdeal (hProjGdCtxReferenceIdeal := Cert.ProjGdCtxReferenceIdeal.Gen.facts) := fun m g _ =>
  (θ_run Cert.ProjGdCtxReferenceIdeal.defs _ _).mono (fun r h => ⟨fun c => (h c).2, Idealize.ShloMosaic.sem_eq_zero_of_no_sems (by decide) r.2⟩)
    (Cert.ProjGdCtxReferenceIdeal.Value.run (F := Ideal) m g)

theorem frame_MixGdReference : Cert.quiescent_MixGdReferenceIdeal (hMixGdReferenceIdeal := Cert.MixGdReferenceIdeal.Gen.facts) := fun m g _ =>
  (θ_run Cert.MixGdReferenceIdeal.defs _ _).mono (fun r h => ⟨fun c => (h c).2, Idealize.ShloMosaic.sem_eq_zero_of_no_sems (by decide) r.2⟩)
    (Cert.MixGdReferenceIdeal.Value.run (F := Ideal) m g)

theorem frame_ConvReference : Cert.quiescent_ConvReferenceIdeal (hConvReferenceIdeal := Cert.ConvReferenceIdeal.Gen.facts) := fun m g _ =>
  (θ_run Cert.ConvReferenceIdeal.defs _ _).mono (fun r h => ⟨fun c => (h c).2, Idealize.ShloMosaic.sem_eq_zero_of_no_sems (by decide) r.2⟩)
    (Cert.ConvReferenceIdeal.Value.run (F := Ideal) m g)

theorem frame_BackReference : Cert.quiescent_BackReferenceIdeal (hBackReferenceIdeal := Cert.BackReferenceIdeal.Gen.facts) := fun m g _ =>
  (θ_run Cert.BackReferenceIdeal.defs _ _).mono (fun r h => ⟨fun c => (h c).2.2, Idealize.ShloMosaic.sem_eq_zero_of_no_sems (by decide) r.2⟩)
    (Cert.BackReferenceIdeal.Value.run (F := Ideal) m g)

theorem algebraic_ProjMl : Cert.algebraic_ProjMlIdeal_ProjMlReferenceIdeal (hProjMlIdeal := Cert.ProjMlIdeal.Gen.facts) (hProjMlReferenceIdeal := Cert.ProjMlReferenceIdeal.Gen.facts) := by
  intro m g m' g' hp ha
  refine ⟨fun c => (Cert.ProjMlIdeal.Gen.dats m 0 c).arrAt 2 Cert.ProjMlIdeal.cfg0.N, Cert.ProjMlIdeal.Value.run_blocks (F := Ideal) m g,
    (θ_run Cert.ProjMlReferenceIdeal.defs _ _).mono (fun r h c => ⟨(h c).1.trans ?_, (h c).2⟩) (Cert.ProjMlReferenceIdeal.Value.run (F := Ideal) m' g')⟩
  obtain ⟨a0, a1⟩ := ha c
  refine (Cert.ProjMlReferenceIdeal.Value.reference_eq _ _).trans ?_
  rw [a0, a1]
  exact (Cert.ProjMlIdeal.Value.kernel_eq m c).symm

theorem algebraic_ProjGdLat : Cert.algebraic_ProjGdLatIdeal_ProjGdLatReferenceIdeal (hProjGdLatIdeal := Cert.ProjGdLatIdeal.Gen.facts) (hProjGdLatReferenceIdeal := Cert.ProjGdLatReferenceIdeal.Gen.facts) := by
  intro m g m' g' hp ha
  refine ⟨fun c => (Cert.ProjGdLatIdeal.Gen.dats m 0 c).arrAt 2 Cert.ProjGdLatIdeal.cfg0.N, Cert.ProjGdLatIdeal.Value.run_blocks (F := Ideal) m g,
    (θ_run Cert.ProjGdLatReferenceIdeal.defs _ _).mono (fun r h c => ⟨(h c).1.trans ?_, (h c).2⟩) (Cert.ProjGdLatReferenceIdeal.Value.run (F := Ideal) m' g')⟩
  obtain ⟨a0, a1⟩ := ha c
  refine (Cert.ProjGdLatReferenceIdeal.Value.reference_eq _ _).trans ?_
  rw [a0, a1]
  exact (Cert.ProjGdLatIdeal.Value.kernel_eq m c).symm

theorem algebraic_ProjGdCtx : Cert.algebraic_ProjGdCtxIdeal_ProjGdCtxReferenceIdeal (hProjGdCtxIdeal := Cert.ProjGdCtxIdeal.Gen.facts) (hProjGdCtxReferenceIdeal := Cert.ProjGdCtxReferenceIdeal.Gen.facts) := by
  intro m g m' g' hp ha
  refine ⟨fun c => (Cert.ProjGdCtxIdeal.Gen.dats m 0 c).arrAt 2 Cert.ProjGdCtxIdeal.cfg0.N, Cert.ProjGdCtxIdeal.Value.run_blocks (F := Ideal) m g,
    (θ_run Cert.ProjGdCtxReferenceIdeal.defs _ _).mono (fun r h c => ⟨(h c).1.trans ?_, (h c).2⟩) (Cert.ProjGdCtxReferenceIdeal.Value.run (F := Ideal) m' g')⟩
  obtain ⟨a0, a1⟩ := ha c
  refine (Cert.ProjGdCtxReferenceIdeal.Value.reference_eq _ _).trans ?_
  rw [a0, a1]
  exact (Cert.ProjGdCtxIdeal.Value.kernel_eq m c).symm

theorem algebraic_MixGd : Cert.algebraic_MixGdIdeal_MixGdReferenceIdeal (hMixGdIdeal := Cert.MixGdIdeal.Gen.facts) (hMixGdReferenceIdeal := Cert.MixGdReferenceIdeal.Gen.facts) := by
  intro m g m' g' hp ha
  refine ⟨fun c => (Cert.MixGdIdeal.Gen.dats m 0 c).arrAt 4 Cert.MixGdIdeal.cfg0.N, Cert.MixGdIdeal.Value.run_blocks (F := Ideal) m g,
    (θ_run Cert.MixGdReferenceIdeal.defs _ _).mono (fun r h c => ⟨(h c).1.trans ?_, (h c).2⟩) (Cert.MixGdReferenceIdeal.Value.run (F := Ideal) m' g')⟩
  obtain ⟨a0, a1, a2, a3⟩ := ha c
  refine (Cert.MixGdReferenceIdeal.Value.reference_eq _ _ _ _).trans ?_
  rw [a0, a1, a2, a3]
  exact (Cert.MixGdIdeal.Value.kernel_result m c).symm

theorem algebraic_Front : Cert.algebraic_FrontIdeal_FrontReferenceIdeal (hFrontIdeal := Cert.FrontIdeal.Gen.facts) (hFrontReferenceIdeal := Cert.FrontReferenceIdeal.Gen.facts) := by
  intro m g m' g' hp ha
  refine ⟨fun c => Cert.FrontIdeal.Gen.W10 m g c (Proc.devRef .tc Cert.FrontIdeal.main_v0),
    fun c => Cert.FrontIdeal.Gen.W10 m g c (Proc.devRef .tc Cert.FrontIdeal.main_v1),
    fun c => Cert.FrontIdeal.Gen.W10 m g c (Proc.devRef .tc Cert.FrontIdeal.main_v4),
    fun c => Cert.FrontIdeal.Gen.W10 m g c (Proc.devRef .tc Cert.FrontIdeal.main_v9),
    fun c => Cert.FrontIdeal.Gen.W10 m g c (Proc.devRef .tc Cert.FrontIdeal.main_v10),
    (θ_run Cert.FrontIdeal.defs _ _).mono (fun _ h => h.1) (Cert.FrontIdeal.Value.run_result (F := Ideal) m g),
    (θ_run Cert.FrontReferenceIdeal.defs _ _).mono (fun r h c => ⟨(h c).1.trans ?_, (h c).2.1.trans ?_, (h c).2.2.1.trans ?_, (h c).2.2.2.1.trans ?_,
      (h c).2.2.2.2.1.trans ?_, (h c).2.2.2.2.2⟩) (Cert.FrontReferenceIdeal.Value.run (F := Ideal) m' g')⟩
  all_goals
    obtain ⟨a0, a1, a2, a3, a4, a5, a6, a7⟩ := ha c
    obtain ⟨r0, r1, r2, r3, r4⟩ := Cert.FrontIdeal.Value.results_eq m g c
    have em : Cert.FrontReferenceIdeal.Value.mv m' c = Cert.FrontIdeal.Value.mv m c := by
      unfold Cert.FrontReferenceIdeal.Value.mv Cert.FrontIdeal.Value.mv
      rw [a2, a3, a4]
  · refine (Cert.FrontReferenceIdeal.Value.refMod_eq _ _ _).trans (Eq.trans ?_ r0.symm)
    exact em
  · refine (Cert.FrontReferenceIdeal.Value.tokens_result m' c).trans (Eq.trans ?_ r1.symm)
    rw [a0, a1, a5, em]
  · refine (Cert.FrontReferenceIdeal.Value.order_eq _ (Cert.FrontReferenceIdeal.Value.refMod _ _ _) _).trans (Eq.trans ?_ r2.symm)
    rw [Cert.FrontReferenceIdeal.Value.refMod_eq, a0, a2, a3, a4, a5]
  · refine (Cert.FrontReferenceIdeal.Value.gates_result m' c).trans (Eq.trans ?_ r3.symm)
    rw [a0, a1, a5, a6, a7, em]
  · refine (Cert.FrontReferenceIdeal.Value.gates_columns _ _ _).trans (Eq.trans (funext fun i => ?_) r4.symm)
    refine (congrArg (fun h : Fin 4096 → EReal => Cert.FrontIdeal.Value.gate h _ _ _) (funext fun k =>
      congrFun (Cert.FrontReferenceIdeal.Value.order_eq _ (Cert.FrontReferenceIdeal.Value.refMod _ _ _) _) (ix2 (i 0) k))).trans ?_
    rw [Cert.FrontReferenceIdeal.Value.refMod_eq, a0, a2, a3, a4, a5, a6, a7]

theorem algebraic_Back : Cert.algebraic_BackIdeal_BackReferenceIdeal (hBackIdeal := Cert.BackIdeal.Gen.facts) (hBackReferenceIdeal := Cert.BackReferenceIdeal.Gen.facts) := by
  intro m g m' g' hp ha
  refine ⟨fun c => Cert.BackIdeal.Gen.W7 m g c (Proc.devRef .tc Cert.BackIdeal.main_v6),
    fun c => Cert.BackIdeal.Gen.W7 m g c (Proc.devRef .tc Cert.BackIdeal.main_v9),
    (θ_run Cert.BackIdeal.defs _ _).mono (fun _ h => h.1) (Cert.BackIdeal.Value.run_result (F := Ideal) m g),
    (θ_run Cert.BackReferenceIdeal.defs _ _).mono (fun r h c => ⟨(h c).1.trans ?_, (h c).2.1.trans ?_, (h c).2.2⟩) (Cert.BackReferenceIdeal.Value.run (F := Ideal) m' g')⟩
  all_goals
    obtain ⟨a0, a1, a2, a3, a4, a5, a6, a7, a8, a9⟩ := ha c
    obtain ⟨r0, r1⟩ := Cert.BackIdeal.Value.results_eq m g c
    have ex : Cert.BackReferenceIdeal.Value.x1 m' c = Cert.BackIdeal.Value.x1 m c := by
      unfold Cert.BackReferenceIdeal.Value.x1
      rw [Cert.BackReferenceIdeal.Value.refMix_eq, a0, a1, a2, a3, a4, a5, a6, a7]
      exact Cert.BackReferenceIdeal.Value.refOut_eq _ _ _ _ _
  · exact Eq.trans (show _ = Cert.BackReferenceIdeal.Value.x1 m' c from rfl) (ex.trans r0.symm)
  · refine (Cert.BackReferenceIdeal.Value.query_result m' c).trans (Eq.trans ?_ r1.symm)
    rw [ex, a7, a8, a9]

theorem algebraic_Conv : Cert.algebraic_ConvIdeal_ConvReferenceIdeal (hConvIdeal := Cert.ConvIdeal.Gen.facts) (hConvReferenceIdeal := Cert.ConvReferenceIdeal.Gen.facts) := by
  intro m g m' g' hp ha
  refine ⟨fun c => (Cert.ConvIdeal.Gen.dats m 0 c).arrAt 6 Cert.ConvIdeal.cfg0.N, Cert.ConvIdeal.Value.run_blocks (F := Ideal) m g,
    (θ_run Cert.ConvReferenceIdeal.defs _ _).mono (fun r h c => ⟨(h c).1.trans ?_, (h c).2⟩) (Cert.ConvReferenceIdeal.Value.run (F := Ideal) m' g')⟩
  obtain ⟨a0, a1, a2, a3⟩ := ha c
  refine (Cert.ConvReferenceIdeal.Value.result_eq _).trans (Eq.trans ?_ (Cert.ConvIdeal.Value.kernel_eq m c).symm)
  show Cert.ConvIdeal.Value.convOf (m' ((c.tc : Thread Cert.ConvReferenceIdeal.nD Cert.ConvReferenceIdeal.τ).loc Cert.ConvReferenceIdeal.main_arg0))
    (m' ((c.tc : Thread Cert.ConvReferenceIdeal.nD Cert.ConvReferenceIdeal.τ).loc Cert.ConvReferenceIdeal.main_arg1))
    (m' ((c.tc : Thread Cert.ConvReferenceIdeal.nD Cert.ConvReferenceIdeal.τ).loc Cert.ConvReferenceIdeal.main_arg2))
    (m' ((c.tc : Thread Cert.ConvReferenceIdeal.nD Cert.ConvReferenceIdeal.τ).loc Cert.ConvReferenceIdeal.main_arg3)) = _
  rw [a0, a1, a2, a3]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Front
public import proofs.«01_k».proof.Proof.Gen.Front.Skeleton
public import proofs.«01_k».proof.Proof.Gen.Front.Launch
public import proofs.«01_k».proof.Proof.Gen.Front.Points
public import proofs.«01_k».proof.Proof.Gen.Front.Frame
public import proofs.«01_k».proof.Proof.Gen.FrontIdeal
public import proofs.«01_k».proof.Proof.Gen.FrontIdeal.Skeleton
public import proofs.«01_k».proof.Proof.Gen.FrontIdeal.Launch
public import proofs.«01_k».proof.Proof.Gen.FrontIdeal.Points
public import proofs.«01_k».proof.Proof.Gen.FrontIdeal.Frame
public import proofs.«01_k».proof.Proof.Gen.FrontReferenceIdeal
public import proofs.«01_k».proof.Proof.Gen.FrontReferenceIdeal.Run
public import proofs.«01_k».proof.Proof.Gen.ProjMl
public import proofs.«01_k».proof.Proof.Gen.ProjMl.Skeleton
public import proofs.«01_k».proof.Proof.Gen.ProjMl.Launch
public import proofs.«01_k».proof.Proof.Gen.ProjMl.Points
public import proofs.«01_k».proof.Proof.Gen.ProjMl.Frame
public import proofs.«01_k».proof.Proof.Gen.ProjMlIdeal
public import proofs.«01_k».proof.Proof.Gen.ProjMlIdeal.Skeleton
public import proofs.«01_k».proof.Proof.Gen.ProjMlIdeal.Launch
public import proofs.«01_k».proof.Proof.Gen.ProjMlIdeal.Points
public import proofs.«01_k».proof.Proof.Gen.ProjMlIdeal.Frame
public import proofs.«01_k».proof.Proof.Gen.ProjMlIdeal.Value
public import proofs.«01_k».proof.Proof.Gen.ProjMlReferenceIdeal
public import proofs.«01_k».proof.Proof.Gen.ProjMlReferenceIdeal.Run
public import proofs.«01_k».proof.Proof.Gen.ProjGdLat
public import proofs.«01_k».proof.Proof.Gen.ProjGdLat.Skeleton
public import proofs.«01_k».proof.Proof.Gen.ProjGdLat.Launch
public import proofs.«01_k».proof.Proof.Gen.ProjGdLat.Points
public import proofs.«01_k».proof.Proof.Gen.ProjGdLat.Frame
public import proofs.«01_k».proof.Proof.Gen.ProjGdLatIdeal
public import proofs.«01_k».proof.Proof.Gen.ProjGdLatIdeal.Skeleton
public import proofs.«01_k».proof.Proof.Gen.ProjGdLatIdeal.Launch
public import proofs.«01_k».proof.Proof.Gen.ProjGdLatIdeal.Points
public import proofs.«01_k».proof.Proof.Gen.ProjGdLatIdeal.Frame
public import proofs.«01_k».proof.Proof.Gen.ProjGdLatIdeal.Value
public import proofs.«01_k».proof.Proof.Gen.ProjGdLatReferenceIdeal
public import proofs.«01_k».proof.Proof.Gen.ProjGdLatReferenceIdeal.Run
public import proofs.«01_k».proof.Proof.Gen.ProjGdCtx
public import proofs.«01_k».proof.Proof.Gen.ProjGdCtx.Skeleton
public import proofs.«01_k».proof.Proof.Gen.ProjGdCtx.Launch
public import proofs.«01_k».proof.Proof.Gen.ProjGdCtx.Points
public import proofs.«01_k».proof.Proof.Gen.ProjGdCtx.Frame
public import proofs.«01_k».proof.Proof.Gen.ProjGdCtxIdeal
public import proofs.«01_k».proof.Proof.Gen.ProjGdCtxIdeal.Skeleton
public import proofs.«01_k».proof.Proof.Gen.ProjGdCtxIdeal.Launch
public import proofs.«01_k».proof.Proof.Gen.ProjGdCtxIdeal.Points
public import proofs.«01_k».proof.Proof.Gen.ProjGdCtxIdeal.Frame
public import proofs.«01_k».proof.Proof.Gen.ProjGdCtxIdeal.Value
public import proofs.«01_k».proof.Proof.Gen.ProjGdCtxReferenceIdeal
public import proofs.«01_k».proof.Proof.Gen.ProjGdCtxReferenceIdeal.Run
public import proofs.«01_k».proof.Proof.Gen.MixGd
public import proofs.«01_k».proof.Proof.Gen.MixGd.Skeleton
public import proofs.«01_k».proof.Proof.Gen.MixGd.Launch
public import proofs.«01_k».proof.Proof.Gen.MixGd.Points
public import proofs.«01_k».proof.Proof.Gen.MixGd.Frame
public import proofs.«01_k».proof.Proof.Gen.MixGdIdeal
public import proofs.«01_k».proof.Proof.Gen.MixGdIdeal.Skeleton
public import proofs.«01_k».proof.Proof.Gen.MixGdIdeal.Launch
public import proofs.«01_k».proof.Proof.Gen.MixGdIdeal.Points
public import proofs.«01_k».proof.Proof.Gen.MixGdIdeal.Frame
public import proofs.«01_k».proof.Proof.Gen.MixGdIdeal.Value
public import proofs.«01_k».proof.Proof.Gen.MixGdReferenceIdeal
public import proofs.«01_k».proof.Proof.Gen.MixGdReferenceIdeal.Run
public import proofs.«01_k».proof.Proof.Gen.Back
public import proofs.«01_k».proof.Proof.Gen.Back.Skeleton
public import proofs.«01_k».proof.Proof.Gen.Back.Launch
public import proofs.«01_k».proof.Proof.Gen.Back.Points
public import proofs.«01_k».proof.Proof.Gen.Back.Frame
public import proofs.«01_k».proof.Proof.Gen.BackIdeal
public import proofs.«01_k».proof.Proof.Gen.BackIdeal.Skeleton
public import proofs.«01_k».proof.Proof.Gen.BackIdeal.Launch
public import proofs.«01_k».proof.Proof.Gen.BackIdeal.Points
public import proofs.«01_k».proof.Proof.Gen.BackIdeal.Frame
public import proofs.«01_k».proof.Proof.Gen.BackReferenceIdeal
public import proofs.«01_k».proof.Proof.Gen.BackReferenceIdeal.Run
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvReferenceIdeal
public import proofs.«01_k».proof.Proof.Gen.ConvReferenceIdeal.Run
public import proofs.«01_k».proof.Proof.Result
public import proofs.«01_k».proof.Proof.Reference
public import proofs.«01_k».proof.Proof.Routed
public import proofs.«01_k».proof.Proof.Parts
public import Idealize.ShloMosaic.Adequacy
public import Idealize.ShloMosaic.Init

@[expose] public section

noncomputable section

namespace Cert.Proof

open Idealize.ShloMosaic Idealize.SL.Sem Cert.Kernel

/-- The reference runs, keeps its arguments, and declares no semaphore. -/
theorem reference_frame : Cert.quiescent_ReferenceIdeal (hReferenceIdeal := Cert.ReferenceIdeal.Gen.facts) := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The kernel's result and the reference's are the same numbers when the routing is one. -/
theorem algebraic : Cert.algebraic_KernelIdeal_ReferenceIdeal_pre_routed (hKernelIdeal := Cert.KernelIdeal.Gen.facts)
    (hReferenceIdeal := Cert.ReferenceIdeal.Gen.facts) (hPre_routed := Cert.Peer.routed_facts) := by
  intro m g m' g' hp ha
  letI := Cert.Peer.routed_facts
  have hr := fun c => Cert.Peer.routed_says _ _ _ _ _ _ _ _ (hp c)
  refine ⟨fun c => Cert.KernelIdeal.Gen.W8 m g c (Proc.devRef .tc Cert.KernelIdeal.main_v7),
    (θ_run Cert.KernelIdeal.defs _ _).mono (fun _ h => h.1) (Cert.KernelIdeal.Value.run_result (F := Ideal) m g),
    (θ_run Cert.ReferenceIdeal.defs _ _).mono (fun r h c => ⟨(h c).1.trans ?_, (h c).2⟩) (Cert.ReferenceIdeal.Value.run (F := Ideal) m' g')⟩
  obtain ⟨a0, a1, a2, a3, a4, a5, a6, a7⟩ := ha c
  obtain ⟨he, hg⟩ := hr c
  refine (Cert.ReferenceIdeal.Value.result_eq m' c (by rw [a3]; exact he) (by rw [a4]; exact fun i => (hg i).1)).trans ?_
  rw [a0, a1, a2, a3, a4, a5, a6, a7]
  exact (Cert.KernelIdeal.Value.result_eq m g c (fun k => Cert.Peer.sub_self_of_finite (hg k).1 (hg k).2)).symm

theorem claim : Cert.Claim := ⟨Cert.Kernel.Gen.facts, Cert.KernelIdeal.Gen.facts, Cert.ReferenceIdeal.Gen.facts,
  Cert.Front.Gen.facts, Cert.FrontIdeal.Gen.facts, Cert.FrontReferenceIdeal.Gen.facts,
  Cert.ProjMl.Gen.facts, Cert.ProjMlIdeal.Gen.facts, Cert.ProjMlReferenceIdeal.Gen.facts,
  Cert.ProjGdLat.Gen.facts, Cert.ProjGdLatIdeal.Gen.facts, Cert.ProjGdLatReferenceIdeal.Gen.facts,
  Cert.ProjGdCtx.Gen.facts, Cert.ProjGdCtxIdeal.Gen.facts, Cert.ProjGdCtxReferenceIdeal.Gen.facts,
  Cert.MixGd.Gen.facts, Cert.MixGdIdeal.Gen.facts, Cert.MixGdReferenceIdeal.Gen.facts,
  Cert.Back.Gen.facts, Cert.BackIdeal.Gen.facts, Cert.BackReferenceIdeal.Gen.facts,
  Cert.Conv.Gen.facts, Cert.ConvIdeal.Gen.facts, Cert.ConvReferenceIdeal.Gen.facts,
  Cert.Peer.routed_facts,
  fun m g _ => Cert.Kernel.Gen.frame m g, fun m g _ => Cert.KernelIdeal.Gen.frame m g, fun m g _ => Cert.KernelIdeal.Gen.frame m g,
  reference_frame, fun m g _ => reference_frame m g True.intro,
  fun m g _ => Cert.Front.Gen.frame m g, fun m g _ => Cert.FrontIdeal.Gen.frame m g, frame_FrontReference,
  fun m g _ => Cert.ProjMl.Gen.frame m g, fun m g _ => Cert.ProjMlIdeal.Gen.frame m g, frame_ProjMlReference,
  fun m g _ => Cert.ProjGdLat.Gen.frame m g, fun m g _ => Cert.ProjGdLatIdeal.Gen.frame m g, frame_ProjGdLatReference,
  fun m g _ => Cert.ProjGdCtx.Gen.frame m g, fun m g _ => Cert.ProjGdCtxIdeal.Gen.frame m g, frame_ProjGdCtxReference,
  fun m g _ => Cert.MixGd.Gen.frame m g, fun m g _ => Cert.MixGdIdeal.Gen.frame m g, frame_MixGdReference,
  fun m g _ => Cert.Back.Gen.frame m g, fun m g _ => Cert.BackIdeal.Gen.frame m g, frame_BackReference,
  fun m g _ => Cert.Conv.Gen.frame m g, fun m g _ => Cert.ConvIdeal.Gen.frame m g, frame_ConvReference,
  trivial, algebraic,
  trivial, algebraic_Front,
  trivial, algebraic_ProjMl,
  trivial, algebraic_ProjGdLat,
  trivial, algebraic_ProjGdCtx,
  trivial, algebraic_MixGd,
  trivial, algebraic_Back,
  trivial, algebraic_Conv⟩

end Cert.Proof

end
